-- ==== Defs.lean ====
def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Gather [hPre_rows : Cert.Pre_rows.Facts] (m : (ℓ : Loc Cert.Gather.nD Cert.Gather.τ Cert.Gather.sig) → Buf (Elt Bits) ℓ) : Prop :=
  ∀ c : Dev Cert.Gather.nD,
    (Cert.Pre_rows.fn (F := Bits) (m ((c.tc : Thread Cert.Gather.nD Cert.Gather.τ).loc Cert.Gather.main_arg0)) (m ((c.tc : Thread Cert.Gather.nD Cert.Gather.τ).loc Cert.Gather.main_arg1))) = (fun _ => 1#1)

def Pre_GatherIdeal [hPre_rows : Cert.Pre_rows.Facts] (m : (ℓ : Loc Cert.GatherIdeal.nD Cert.GatherIdeal.τ Cert.GatherIdeal.sig) → Buf (Elt Ideal) ℓ) : Prop :=
  ∀ c : Dev Cert.GatherIdeal.nD,
    (Cert.Pre_rows.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1))) = (fun _ => 1#1)

def Pre_GatherReference [hPre_rows : Cert.Pre_rows.Facts] (m : (ℓ : Loc Cert.GatherReference.nD Cert.GatherReference.τ Cert.GatherReference.sig) → Buf (Elt Bits) ℓ) : Prop :=
  ∀ c : Dev Cert.GatherReference.nD,
    (Cert.Pre_rows.fn (F := Bits) (m ((c.tc : Thread Cert.GatherReference.nD Cert.GatherReference.τ).loc Cert.GatherReference.main_arg0)) (m ((c.tc : Thread Cert.GatherReference.nD Cert.GatherReference.τ).loc Cert.GatherReference.main_arg1))) = (fun _ => 1#1)

def Pre_Nearest (m : (ℓ : Loc Cert.Nearest.nD Cert.Nearest.τ Cert.Nearest.sig) → Buf (Elt Bits) ℓ) : Prop :=
  True

def Pre_NearestIdeal (m : (ℓ : Loc Cert.NearestIdeal.nD Cert.NearestIdeal.τ Cert.NearestIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Gather [hGather : Cert.Gather.Facts] [hPre_rows : Cert.Pre_rows.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_GatherIdeal [hGatherIdeal : Cert.GatherIdeal.Facts] [hPre_rows : Cert.Pre_rows.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (Cert.GatherIdeal.threads (F := Ideal)) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ r.2.sem = fun _ => 0)

def quiescent_GatherReference [hGatherReference : Cert.GatherReference.Facts] [hPre_rows : Cert.Pre_rows.Facts] : Prop :=
  ∀ (m : (ℓ : Loc Cert.GatherReference.nD Cert.GatherReference.τ Cert.GatherReference.sig) → Buf (Elt Bits) ℓ) (g : Dev Cert.GatherReference.nD → PrngReg), Pre_GatherReference m →
    θ_run (Cert.GatherReference.defs (F := Bits)) (onTc (τ := Cert.GatherReference.τ) (Cert.GatherReference.main (F := Bits))) ⟨m, fun _ => 0, g⟩ (fun r => (∀ c : Dev Cert.GatherReference.nD,
      r.2.mem ((c.tc : Thread Cert.GatherReference.nD Cert.GatherReference.τ).loc Cert.GatherReference.main_arg0) = m ((c.tc : Thread Cert.GatherReference.nD Cert.GatherReference.τ).loc Cert.GatherReference.main_arg0)
      ∧ r.2.mem ((c.tc : Thread Cert.GatherReference.nD Cert.GatherReference.τ).loc Cert.GatherReference.main_arg1) = m ((c.tc : Thread Cert.GatherReference.nD Cert.GatherReference.τ).loc Cert.GatherReference.main_arg1))
      ∧ r.2.sem = fun _ => 0)

def quiescent_Nearest [hNearest : Cert.Nearest.Facts] : Prop :=
  ∀ (m : (ℓ : Loc Cert.Nearest.nD Cert.Nearest.τ Cert.Nearest.sig) → Buf (Elt Bits) ℓ) (g : Dev Cert.Nearest.nD → PrngReg), Pre_Nearest m →
    θ_run (Cert.Nearest.defs (F := Bits)) (onTc (τ := Cert.Nearest.τ) (Cert.Nearest.main (F := Bits))) ⟨m, fun _ => 0, g⟩ (fun r => (∀ c : Dev Cert.Nearest.nD,
      r.2.mem ((c.tc : Thread Cert.Nearest.nD Cert.Nearest.τ).loc Cert.Nearest.main_arg0) = m ((c.tc : Thread Cert.Nearest.nD Cert.Nearest.τ).loc Cert.Nearest.main_arg0)
      ∧ r.2.mem ((c.tc : Thread Cert.Nearest.nD Cert.Nearest.τ).loc Cert.Nearest.main_arg1) = m ((c.tc : Thread Cert.Nearest.nD Cert.Nearest.τ).loc Cert.Nearest.main_arg1))
      ∧ r.2.sem = fun _ => 0)

def quiescent_NearestIdeal [hNearestIdeal : Cert.NearestIdeal.Facts] : Prop :=
  ∀ (m : (ℓ : Loc Cert.NearestIdeal.nD Cert.NearestIdeal.τ Cert.NearestIdeal.sig) → Buf (Elt Ideal) ℓ) (g : Dev Cert.NearestIdeal.nD → PrngReg), Pre_NearestIdeal m →
    θ_run (Cert.NearestIdeal.defs (F := Ideal)) (onTc (τ := Cert.NearestIdeal.τ) (Cert.NearestIdeal.main (F := Ideal))) ⟨m, fun _ => 0, g⟩ (fun r => (∀ c : Dev Cert.NearestIdeal.nD,
      r.2.mem ((c.tc : Thread Cert.NearestIdeal.nD Cert.NearestIdeal.τ).loc Cert.NearestIdeal.main_arg0) = m ((c.tc : Thread Cert.NearestIdeal.nD Cert.NearestIdeal.τ).loc Cert.NearestIdeal.main_arg0)
      ∧ r.2.mem ((c.tc : Thread Cert.NearestIdeal.nD Cert.NearestIdeal.τ).loc Cert.NearestIdeal.main_arg1) = m ((c.tc : Thread Cert.NearestIdeal.nD Cert.NearestIdeal.τ).loc Cert.NearestIdeal.main_arg1))
      ∧ r.2.sem = fun _ => 0)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v16)) (v2 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Gather_GatherIdeal : Prop :=
  True

def bitexact_Gather_GatherReference [hGather : Cert.Gather.Facts] [hGatherReference : Cert.GatherReference.Facts] [hPre_rows : Cert.Pre_rows.Facts] : Prop :=
  ∀ (m : (ℓ : Loc Cert.Gather.nD Cert.Gather.τ Cert.Gather.sig) → Buf (Elt Bits) ℓ) (g : Dev Cert.Gather.nD → PrngReg)
    (m' : (ℓ : Loc Cert.GatherReference.nD Cert.GatherReference.τ Cert.GatherReference.sig) → Buf (Elt Bits) ℓ) (g' : Dev Cert.GatherReference.nD → PrngReg), Pre_Gather m →
    (∀ c : Dev Cert.Gather.nD,
      m' ((c.tc : Thread Cert.GatherReference.nD Cert.GatherReference.τ).loc Cert.GatherReference.main_arg0) = m ((c.tc : Thread Cert.Gather.nD Cert.Gather.τ).loc Cert.Gather.main_arg0)
      ∧ m' ((c.tc : Thread Cert.GatherReference.nD Cert.GatherReference.τ).loc Cert.GatherReference.main_arg1) = m ((c.tc : Thread Cert.Gather.nD Cert.Gather.τ).loc Cert.Gather.main_arg1)) →
    ∃ (v0 : (c : Dev Cert.Gather.nD) → Buf (Elt Bits) ((c.tc : Thread Cert.Gather.nD Cert.Gather.τ).loc Cert.Gather.main_v4)),
      θ_run (Cert.Gather.defs (F := Bits)) (Cert.Gather.threads (F := Bits)) ⟨m, fun _ => 0, g⟩ (fun r => ∀ c : Dev Cert.Gather.nD,
          r.2.mem ((c.tc : Thread Cert.Gather.nD Cert.Gather.τ).loc Cert.Gather.main_v4) = v0 c
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1))
      ∧ θ_run (Cert.GatherReference.defs (F := Bits)) (onTc (τ := Cert.GatherReference.τ) (Cert.GatherReference.main (F := Bits))) ⟨m', fun _ => 0, g'⟩ (fun r => ∀ c : Dev Cert.GatherReference.nD,
          r.2.mem ((c.tc : Thread Cert.GatherReference.nD Cert.GatherReference.τ).loc Cert.GatherReference.main_v2) = v0 c
          ∧ r.2.mem ((c.tc : Thread Cert.GatherReference.nD Cert.GatherReference.τ).loc Cert.GatherReference.main_arg0) = m' ((c.tc : Thread Cert.GatherReference.nD Cert.GatherReference.τ).loc Cert.GatherReference.main_arg0)
          ∧ r.2.mem ((c.tc : Thread Cert.GatherReference.nD Cert.GatherReference.τ).loc Cert.GatherReference.main_arg1) = m' ((c.tc : Thread Cert.GatherReference.nD Cert.GatherReference.τ).loc Cert.GatherReference.main_arg1))

def preserves_Nearest_NearestIdeal : Prop :=
  True

def Claim : Prop :=
  ∃ (hKernelIdeal : Cert.KernelIdeal.Facts) (hReferenceIdeal : Cert.ReferenceIdeal.Facts) (hGather : Cert.Gather.Facts) (hGatherIdeal : Cert.GatherIdeal.Facts) (hGatherReference : Cert.GatherReference.Facts) (hNearest : Cert.Nearest.Facts) (hNearestIdeal : Cert.NearestIdeal.Facts) (hPre_finite : Cert.Pre_finite.Facts) (hPre_rows : Cert.Pre_rows.Facts),
    quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Gather (hGather := hGather) (hPre_rows := hPre_rows)
    ∧ quiescent_GatherIdeal (hGatherIdeal := hGatherIdeal) (hPre_rows := hPre_rows)
    ∧ quiescent_GatherReference (hGatherReference := hGatherReference) (hPre_rows := hPre_rows)
    ∧ quiescent_Nearest (hNearest := hNearest)
    ∧ quiescent_NearestIdeal (hNearestIdeal := hNearestIdeal)
    ∧ algebraic_KernelIdeal_ReferenceIdeal_pre_finite (hKernelIdeal := hKernelIdeal) (hReferenceIdeal := hReferenceIdeal) (hPre_finite := hPre_finite)
    ∧ preserves_Gather_GatherIdeal
    ∧ bitexact_Gather_GatherReference (hGather := hGather) (hGatherReference := hGatherReference) (hPre_rows := hPre_rows)
    ∧ preserves_Nearest_NearestIdeal
-- ==== Pre_finite.lean ====
abbrev S16x1024x64 : Shape := ⟨3, ![16, 1024, 64]⟩
abbrev S1024x64 : Shape := ⟨2, ![1024, 64]⟩
abbrev S_ : Shape := ⟨0, ![]⟩

class Facts : Prop where
  bcast_S_S16x1024x64 : S_.BroadcastsInDim S16x1024x64 (![] : Fin 0 → Fin S16x1024x64.rank)
  reducesTo_S16x1024x64_S_d0_1_2 : S16x1024x64.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn {F : FTy → Type} [FloatOps F] (main_arg0 : FVec F S16x1024x64 .f32) (main_arg1 : FVec F S1024x64 .f32) : IVec S_ 1 × IVec S_ 1 :=
  let main_v0 : FVec F S16x1024x64 .f32 := Host.absf main_arg0
  let main_cst : FVec F S_ .f32 := constant S_ .f32 0x7F800000#32
  let main_v1 : FVec F S16x1024x64 .f32 := broadcastInDim S16x1024x64 ![] bcast_S_S16x1024x64 main_cst
  let main_v2 : IVec S16x1024x64 1 := cmpf .olt main_v0 main_v1
  let main_c : IVec S_ 1 := constantI S_ 1 1#1
  let main_v3 : IVec S_ 1 := (fun x v => Host.reduce IntOp.andi x v reducesTo_S16x1024x64_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  (main_v3, main_v7)
-- ==== Pre_rows.lean ====
abbrev S1024x64 : Shape := ⟨2, ![1024, 64]⟩
abbrev S16x1x1024 : Shape := ⟨3, ![16, 1, 1024]⟩
abbrev S_ : Shape := ⟨0, ![]⟩

class Facts : Prop where
  bcast_S_S16x1x1024 : S_.BroadcastsInDim S16x1x1024 (![] : Fin 0 → Fin S16x1x1024.rank)
  reducesTo_S16x1x1024_S_d0_1_2 : S16x1x1024.ReducesTo [0, 1, 2] S_
  h_S_ : 0 < S_.numel

variable [Facts]

def fn {F : FTy → Type} [FloatOps F] (main_arg0 : FVec F S1024x64 .f32) (main_arg1 : IVec S16x1x1024 32) : IVec S_ 1 :=
  let main_c : IVec S_ 32 := constantI S_ 32 0#32
  let main_v0 : IVec S16x1x1024 32 := broadcastInDim S16x1x1024 ![] bcast_S_S16x1x1024 main_c
  let main_v1 : IVec S16x1x1024 1 := cmpi .sge main_arg1 main_v0
  let main_c_0 : IVec S_ 32 := constantI S_ 32 1024#32
  let main_v2 : IVec S16x1x1024 32 := broadcastInDim S16x1x1024 ![] bcast_S_S16x1x1024 main_c_0
  let main_v3 : IVec S16x1x1024 1 := cmpi .slt main_arg1 main_v2
  let main_v4 : IVec S16x1x1024 1 := andi main_v1 main_v3
  let main_c_1 : IVec S_ 1 := constantI S_ 1 1#1
  let main_v5 : IVec S_ 1 := (fun x v => Host.reduce IntOp.andi x v reducesTo_S16x1x1024_S_d0_1_2 h_S_) main_v4 main_c_1
  main_v5
-- ==== KernelIdeal.lean ====
abbrev S16x1024x64 : Shape := ⟨3, ![16, 1024, 64]⟩
abbrev S1024x64 : Shape := ⟨2, ![1024, 64]⟩
abbrev S16x64x1024 : Shape := ⟨3, ![16, 64, 1024]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S16x1x1024 : Shape := ⟨3, ![16, 1, 1024]⟩
abbrev S1024 : Shape := ⟨1, ![1024]⟩
abbrev S1024x1 : Shape := ⟨2, ![1024, 1]⟩
abbrev S1x1 : Shape := ⟨2, ![1, 1]⟩
abbrev S2x64x1024 : Shape := ⟨3, ![2, 64, 1024]⟩
abbrev S2x1x1024 : Shape := ⟨3, ![2, 1, 1024]⟩
abbrev S1x64x1024 : Shape := ⟨3, ![1, 64, 1024]⟩
abbrev S64x1024 : Shape := ⟨2, ![64, 1024]⟩
abbrev S1024x1024 : Shape := ⟨2, ![1024, 1024]⟩
abbrev S1x1x1024 : Shape := ⟨3, ![1, 1, 1024]⟩
abbrev S1x1024 : Shape := ⟨2, ![1, 1024]⟩
abbrev S1 : Shape := ⟨1, ![1]⟩
abbrev S1x1x1 : Shape := ⟨3, ![1, 1, 1]⟩
abbrev S1024x128 : Shape := ⟨2, ![1024, 128]⟩
abbrev S1x16384 : Shape := ⟨2, ![1, 16384]⟩
abbrev S16384x128 : Shape := ⟨2, ![16384, 128]⟩
abbrev S2x1x256 : Shape := ⟨3, ![2, 1, 256]⟩
abbrev S2 : Shape := ⟨1, ![2]⟩
abbrev S2x256x128 : Shape := ⟨3, ![2, 256, 128]⟩
abbrev S1x1x256 : Shape := ⟨3, ![1, 1, 256]⟩
abbrev S1x256 : Shape := ⟨2, ![1, 256]⟩
abbrev S1x256x128 : Shape := ⟨3, ![1, 256, 128]⟩
abbrev S256x128 : Shape := ⟨2, ![256, 128]⟩
abbrev S256 : Shape := ⟨1, ![256]⟩

abbrev nBuf : Table → Nat
  | .hbm => 24
  | .local .tc .vmem => 9
  | .local .scVector .vmem => 2
  | _ => 0

abbrev bufTy : (tb : Table) → Fin (nBuf tb) → BufTy
  | .hbm, ⟨0, _⟩ => ⟨S16x1024x64, .f32⟩
  | .hbm, ⟨1, _⟩ => ⟨S1024x64, .f32⟩
  | .hbm, ⟨2, _⟩ => ⟨S16x64x1024, .f32⟩
  | .hbm, ⟨3, _⟩ => ⟨S16384x64, .f32⟩
  | .hbm, ⟨4, _⟩ => ⟨S16384x64, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S16x1x1024, .f32⟩
  | .hbm, ⟨9, _⟩ => ⟨S1024x64, .f32⟩
  | .hbm, ⟨10, _⟩ => ⟨S_, .f32⟩
  | .hbm, ⟨11, _⟩ => ⟨S1024, .f32⟩
  | .hbm, ⟨12, _⟩ => ⟨S1024x1, .f32⟩
  | .hbm, ⟨13, _⟩ => ⟨S16x1x1024, .i32⟩
  | .hbm, ⟨14, _⟩ => ⟨S1x1, .f32⟩
  | .hbm, ⟨15, _⟩ => ⟨S_, .i32⟩
  | .hbm, ⟨16, _⟩ => ⟨S_, .f32⟩
  | .hbm, ⟨17, _⟩ => ⟨S1024x128, .f32⟩
  | .hbm, ⟨18, _⟩ => ⟨S1x16384, .i32⟩
  | .hbm, ⟨19, _⟩ => ⟨S16384x128, .f32⟩
  | .hbm, ⟨20, _⟩ => ⟨S16384, .i32⟩
  | .hbm, ⟨21, _⟩ => ⟨S16384x64, .f32⟩
  | .hbm, ⟨22, _⟩ => ⟨S16x1024x64, .f32⟩
  | .hbm, ⟨23, _⟩ => ⟨S_, .f32⟩
  | .local .tc .vmem, ⟨0, _⟩ => ⟨S2x64x1024, .f32⟩
  | .local .tc .vmem, ⟨1, _⟩ => ⟨S2x64x1024, .f32⟩
  | .local .tc .vmem, ⟨2, _⟩ => ⟨S1024x64, .f32⟩
  | .local .tc .vmem, ⟨3, _⟩ => ⟨S2x1x1024, .f32⟩
  | .local .tc .vmem, ⟨4, _⟩ => ⟨S2x1x1024, .f32⟩
  | .local .tc .vmem, ⟨5, _⟩ => ⟨S1024x1, .f32⟩
  | .local .tc .vmem, ⟨6, _⟩ => ⟨S2x1x1024, .i32⟩
  | .local .tc .vmem, ⟨7, _⟩ => ⟨S2x1x1024, .i32⟩
  | .local .tc .vmem, ⟨8, _⟩ => ⟨S1x1, .f32⟩
  | .local .scVector .vmem, ⟨0, _⟩ => ⟨S2x1x256, .i32⟩
  | .local .scVector .vmem, ⟨1, _⟩ => ⟨S2x256x128, .f32⟩
  | _, _ => ⟨S16x1024x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => false
  | ⟨10, _⟩ => false
  | ⟨11, _⟩ => false
  | ⟨12, _⟩ => false
  | ⟨13, _⟩ => false
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_c : Ref sig .tc := ⟨.hbm, 15, rfl⟩
abbrev main_call0_v0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v10_scv : Ref sig .scVector := ⟨.hbm, 17, rfl⟩
abbrev main_v11_scv : Ref sig .scVector := ⟨.hbm, 18, rfl⟩
abbrev main_v12_scv : Ref sig .scVector := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc1_scoped0 : Ref sig .scVector := ⟨.vmem, 0, rfl⟩
abbrev cc1_scoped2 : Ref sig .scVector := ⟨.vmem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x1x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨2, ![2, 16], ![false, false]⟩

def k1_off1 : Fin 3 → Nat :=
  let c0_i32_14_r0 : BitVec 32 := 0#32
  let c2_i32_15_r0 : BitVec 32 := 2#32
  let v21_r0 : BitVec 32 := Scalar.remui c0_i32_14_r0 c2_i32_15_r0
  let c0_i32_16_r0 : BitVec 32 := 0#32
  let c0_i32_17_r0 : BitVec 32 := 0#32
  ![v21_r0.toNat, 0, 0]
def k1_off2 (i : grid1.Coords) : Fin 2 → Nat :=
  let c0_i32_18_r0 : BitVec 32 := 0#32
  let c256_i32_r0 : BitVec 32 := 256#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v7_r0 : BitVec 32 := Scalar.addi c0_i32_1_r0 v4
  let v22_r0 : BitVec 32 := Scalar.muli c256_i32_r0 v7_r0
  ![0, v22_r0.toNat]
def k1_off3 : Fin 1 → Nat :=
  let c0_i32_14_r0 : BitVec 32 := 0#32
  let c2_i32_15_r0 : BitVec 32 := 2#32
  let v21_r0 : BitVec 32 := Scalar.remui c0_i32_14_r0 c2_i32_15_r0
  ![v21_r0.toNat]
@[reducible] def k1_t1_loop : Scf.Loop 32 :=
  let c0_i32_28_r0 : BitVec 32 := 0#32
  let c2_i32_29_r0 : BitVec 32 := 2#32
  let v32_r0 : BitVec 32 := Scalar.addi c0_i32_28_r0 c2_i32_29_r0
  let c1_i32_30_r0 : BitVec 32 := 1#32
  ⟨c0_i32_28_r0, v32_r0, c1_i32_30_r0⟩
def k1_off4 (arg6_r0 : BitVec 32) : Fin 3 → Nat :=
  let c2_i32_101_r0 : BitVec 32 := 2#32
  let v144_r0 : BitVec 32 := Scalar.remui arg6_r0 c2_i32_101_r0
  let c0_i32_103_r0 : BitVec 32 := 0#32
  let c0_i32_104_r0 : BitVec 32 := 0#32
  ![v144_r0.toNat, 0, 0]
def k1_cond1 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg10_r0 v4
  let true_63_r0 : BitVec 1 := 1#1
  let c1_i32_62_r0 : BitVec 32 := 1#32
  let v72_r0 : BitVec 32 := Scalar.addi arg10_r0 c1_i32_62_r0
  let v73_r0 : BitVec 32 := Scalar.select true_63_r0 v72_r0 arg10_r0
  let c2_i32_64_r0 : BitVec 32 := 2#32
  let v74_r0 : BitVec 1 := Scalar.cmpi .eq v73_r0 c2_i32_64_r0
  let c0_i32_65_r0 : BitVec 32 := 0#32
  let v75_r0 : BitVec 32 := Scalar.select v74_r0 c0_i32_65_r0 v73_r0
  let v76_r0 : BitVec 32 := Scalar.addi v75_r0 v4
  let v82_r0 : BitVec 1 := Scalar.cmpi .ne v66_r0 v76_r0
  let c0_i32_28_r0 : BitVec 32 := 0#32
  let c1_i32_30_r0 : BitVec 32 := 1#32
  let arg5_r0 : BitVec 32 := Scf.iv c0_i32_28_r0 c1_i32_30_r0 k1_t1
  let c1_i32_70_r0 : BitVec 32 := 1#32
  let v83_r0 : BitVec 1 := Scalar.cmpi .sge arg5_r0 c1_i32_70_r0
  let true_71_r0 : BitVec 1 := 1#1
  let v84_r0 : BitVec 1 := Scalar.xori v83_r0 true_71_r0
  let v85_r0 : BitVec 1 := Scalar.andi v82_r0 v84_r0
  let true_72_r0 : BitVec 1 := 1#1
  let v86_r0 : BitVec 1 := Scalar.andi v85_r0 true_72_r0
  let v87_r0 : BitVec 32 := Scalar.extui v86_r0
  let c0_i32_73_r0 : BitVec 32 := 0#32
  let v88_r0 : BitVec 1 := Scalar.cmpi .ne v87_r0 c0_i32_73_r0
  v88_r0

def k1_off5 (i : grid1.Coords) (arg10_r0 : BitVec 32) : Fin 2 → Nat :=
  let c0_i32_105_r0 : BitVec 32 := 0#32
  let c256_i32_102_r0 : BitVec 32 := 256#32
  let true_63_r0 : BitVec 1 := 1#1
  let c1_i32_62_r0 : BitVec 32 := 1#32
  let v72_r0 : BitVec 32 := Scalar.addi arg10_r0 c1_i32_62_r0
  let v73_r0 : BitVec 32 := Scalar.select true_63_r0 v72_r0 arg10_r0
  let c2_i32_64_r0 : BitVec 32 := 2#32
  let v74_r0 : BitVec 1 := Scalar.cmpi .eq v73_r0 c2_i32_64_r0
  let c0_i32_65_r0 : BitVec 32 := 0#32
  let v75_r0 : BitVec 32 := Scalar.select v74_r0 c0_i32_65_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v76_r0 : BitVec 32 := Scalar.addi v75_r0 v4
  let v145_r0 : BitVec 32 := Scalar.muli c256_i32_102_r0 v76_r0
  ![0, v145_r0.toNat]
def k1_off6 (arg6_r0 : BitVec 32) : Fin 1 → Nat :=
  let c2_i32_101_r0 : BitVec 32 := 2#32
  let v144_r0 : BitVec 32 := Scalar.remui arg6_r0 c2_i32_101_r0
  ![v144_r0.toNat]
def k1_off7 (arg7_r0 : BitVec 32) : Fin 3 → Nat :=
  let c2_i32_102_r0 : BitVec 32 := 2#32
  let v145_r0 : BitVec 32 := Scalar.remui arg7_r0 c2_i32_102_r0
  let c0_i32_103_r0 : BitVec 32 := 0#32
  let c0_i32_104_r0 : BitVec 32 := 0#32
  ![v145_r0.toNat, 0, 0]
def k1_cond2 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg10_r0 v4
  let true_59_r0 : BitVec 1 := 1#1
  let c1_i32_58_r0 : BitVec 32 := 1#32
  let v67_r0 : BitVec 32 := Scalar.subi arg10_r0 c1_i32_58_r0
  let v68_r0 : BitVec 32 := Scalar.select true_59_r0 v67_r0 arg10_r0
  let c_m1_i32_60_r0 : BitVec 32 := 4294967295#32
  let v69_r0 : BitVec 1 := Scalar.cmpi .eq v68_r0 c_m1_i32_60_r0
  let c1_i32_61_r0 : BitVec 32 := 1#32
  let v70_r0 : BitVec 32 := Scalar.select v69_r0 c1_i32_61_r0 v68_r0
  let v71_r0 : BitVec 32 := Scalar.addi v70_r0 v4
  let v96_r0 : BitVec 1 := Scalar.cmpi .ne v66_r0 v71_r0
  let c0_i32_28_r0 : BitVec 32 := 0#32
  let c1_i32_30_r0 : BitVec 32 := 1#32
  let arg5_r0 : BitVec 32 := Scf.iv c0_i32_28_r0 c1_i32_30_r0 k1_t1
  let c0_i32_56_r0 : BitVec 32 := 0#32
  let v64_r0 : BitVec 1 := Scalar.cmpi .eq arg5_r0 c0_i32_56_r0
  let v97_r0 : BitVec 1 := Scalar.ori v96_r0 v64_r0
  let c0_i32_78_r0 : BitVec 32 := 0#32
  let v98_r0 : BitVec 1 := Scalar.cmpi .sge arg5_r0 c0_i32_78_r0
  let v99_r0 : BitVec 1 := Scalar.andi v97_r0 v98_r0
  let v100_r0 : BitVec 32 := Scalar.extui v99_r0
  let c0_i32_79_r0 : BitVec 32 := 0#32
  let v101_r0 : BitVec 1 := Scalar.cmpi .ne v100_r0 c0_i32_79_r0
  v101_r0

def k1_off8 (i : grid1.Coords) (arg10_r0 : BitVec 32) : Fin 2 → Nat :=
  let c0_i32_105_r0 : BitVec 32 := 0#32
  let c256_i32_101_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg10_r0 v4
  let v144_r0 : BitVec 32 := Scalar.muli c256_i32_101_r0 v66_r0
  ![0, v144_r0.toNat]
def k1_off9 (arg7_r0 : BitVec 32) : Fin 1 → Nat :=
  let c2_i32_102_r0 : BitVec 32 := 2#32
  let v145_r0 : BitVec 32 := Scalar.remui arg7_r0 c2_i32_102_r0
  ![v145_r0.toNat]
def k1_off10 (arg8_r0 : BitVec 32) : Fin 3 → Nat :=
  let c2_i32_83_r0 : BitVec 32 := 2#32
  let v109_r0 : BitVec 32 := Scalar.remui arg8_r0 c2_i32_83_r0
  let c0_i32_101_r1 : BitVec 32 := 0#32
  let c0_i32_102_r1 : BitVec 32 := 0#32
  ![v109_r0.toNat, 0, 0]

def k1_chk2 (arg8_r0 : BitVec 32) : Prop :=
  (∀ a, (k1_off10 arg8_r0) a + S1x256x128.size a ≤ S2x256x128.size a)
theorem k1_off10_inb : ∀ (arg8_r0 : BitVec 32) (k1_hw2 : k1_chk2 arg8_r0), ∀ a, (k1_off10 arg8_r0) a + S1x256x128.size a ≤ S2x256x128.size a := fun arg8_r0 k1_hw2 => k1_hw2

def k1_off11 (arg7_r0 : BitVec 32) : Fin 3 → Nat :=
  let c2_i32_82_r0 : BitVec 32 := 2#32
  let v108_r0 : BitVec 32 := Scalar.remui arg7_r0 c2_i32_82_r0
  let c0_i32_103_r1 : BitVec 32 := 0#32
  let c0_i32_104_r1 : BitVec 32 := 0#32
  ![v108_r0.toNat, 0, 0]

def k1_chk3 (arg7_r0 : BitVec 32) : Prop :=
  (∀ a, (k1_off11 arg7_r0) a + S1x1x256.size a ≤ S2x1x256.size a)
theorem k1_off11_inb : ∀ (arg7_r0 : BitVec 32) (k1_hw3 : k1_chk3 arg7_r0), ∀ a, (k1_off11 arg7_r0) a + S1x1x256.size a ≤ S2x1x256.size a := fun arg7_r0 k1_hw3 => k1_hw3

def k1_off12 (arg8_r0 : BitVec 32) : Fin 3 → Nat :=
  let c2_i32_101_r0 : BitVec 32 := 2#32
  let v144_r0 : BitVec 32 := Scalar.remui arg8_r0 c2_i32_101_r0
  let c0_i32_103_r0 : BitVec 32 := 0#32
  let c0_i32_104_r0 : BitVec 32 := 0#32
  ![v144_r0.toNat, 0, 0]
def k1_cond5 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg10_r0 v4
  let true_63_r0 : BitVec 1 := 1#1
  let c1_i32_62_r0 : BitVec 32 := 1#32
  let v72_r0 : BitVec 32 := Scalar.addi arg10_r0 c1_i32_62_r0
  let v73_r0 : BitVec 32 := Scalar.select true_63_r0 v72_r0 arg10_r0
  let c2_i32_64_r0 : BitVec 32 := 2#32
  let v74_r0 : BitVec 1 := Scalar.cmpi .eq v73_r0 c2_i32_64_r0
  let c0_i32_65_r0 : BitVec 32 := 0#32
  let v75_r0 : BitVec 32 := Scalar.select v74_r0 c0_i32_65_r0 v73_r0
  let v76_r0 : BitVec 32 := Scalar.addi v75_r0 v4
  let v115_r0 : BitVec 1 := Scalar.cmpi .ne v66_r0 v76_r0
  let c0_i32_28_r0 : BitVec 32 := 0#32
  let c1_i32_30_r0 : BitVec 32 := 1#32
  let arg5_r0 : BitVec 32 := Scf.iv c0_i32_28_r0 c1_i32_30_r0 k1_t1
  let c1_i32_57_r0 : BitVec 32 := 1#32
  let v65_r0 : BitVec 1 := Scalar.cmpi .eq arg5_r0 c1_i32_57_r0
  let v116_r0 : BitVec 1 := Scalar.ori v115_r0 v65_r0
  let v117_r0 : BitVec 32 := Scalar.extui v116_r0
  let c0_i32_86_r0 : BitVec 32 := 0#32
  let v118_r0 : BitVec 1 := Scalar.cmpi .ne v117_r0 c0_i32_86_r0
  v118_r0

def k1_off13 (i : grid1.Coords) (arg10_r0 : BitVec 32) : Fin 2 → Nat :=
  let c256_i32_102_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg10_r0 v4
  let v145_r0 : BitVec 32 := Scalar.muli c256_i32_102_r0 v66_r0
  let c0_i32_105_r0 : BitVec 32 := 0#32
  ![v145_r0.toNat, 0]
def k1_off14 (arg8_r0 : BitVec 32) : Fin 1 → Nat :=
  let c2_i32_101_r0 : BitVec 32 := 2#32
  let v144_r0 : BitVec 32 := Scalar.remui arg8_r0 c2_i32_101_r0
  ![v144_r0.toNat]
def k1_off15 (arg9_r0 : BitVec 32) : Fin 3 → Nat :=
  let c2_i32_101_r0 : BitVec 32 := 2#32
  let v144_r0 : BitVec 32 := Scalar.remui arg9_r0 c2_i32_101_r0
  let c0_i32_103_r0 : BitVec 32 := 0#32
  let c0_i32_104_r0 : BitVec 32 := 0#32
  ![v144_r0.toNat, 0, 0]
def k1_cond7 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg10_r0 v4
  let true_59_r0 : BitVec 1 := 1#1
  let c1_i32_58_r0 : BitVec 32 := 1#32
  let v67_r0 : BitVec 32 := Scalar.subi arg10_r0 c1_i32_58_r0
  let v68_r0 : BitVec 32 := Scalar.select true_59_r0 v67_r0 arg10_r0
  let c_m1_i32_60_r0 : BitVec 32 := 4294967295#32
  let v69_r0 : BitVec 1 := Scalar.cmpi .eq v68_r0 c_m1_i32_60_r0
  let c1_i32_61_r0 : BitVec 32 := 1#32
  let v70_r0 : BitVec 32 := Scalar.select v69_r0 c1_i32_61_r0 v68_r0
  let v71_r0 : BitVec 32 := Scalar.addi v70_r0 v4
  let v128_r0 : BitVec 1 := Scalar.cmpi .ne v66_r0 v71_r0
  let c0_i32_28_r0 : BitVec 32 := 0#32
  let c1_i32_30_r0 : BitVec 32 := 1#32
  let arg5_r0 : BitVec 32 := Scf.iv c0_i32_28_r0 c1_i32_30_r0 k1_t1
  let c0_i32_56_r0 : BitVec 32 := 0#32
  let v64_r0 : BitVec 1 := Scalar.cmpi .eq arg5_r0 c0_i32_56_r0
  let true_92_r0 : BitVec 1 := 1#1
  let v129_r0 : BitVec 1 := Scalar.xori v64_r0 true_92_r0
  let v130_r0 : BitVec 1 := Scalar.andi v128_r0 v129_r0
  let v131_r0 : BitVec 32 := Scalar.extui v130_r0
  let c0_i32_93_r0 : BitVec 32 := 0#32
  let v132_r0 : BitVec 1 := Scalar.cmpi .ne v131_r0 c0_i32_93_r0
  v132_r0

def k1_off16 (i : grid1.Coords) (arg10_r0 : BitVec 32) : Fin 2 → Nat :=
  let c256_i32_102_r0 : BitVec 32 := 256#32
  let true_59_r0 : BitVec 1 := 1#1
  let c1_i32_58_r0 : BitVec 32 := 1#32
  let v67_r0 : BitVec 32 := Scalar.subi arg10_r0 c1_i32_58_r0
  let v68_r0 : BitVec 32 := Scalar.select true_59_r0 v67_r0 arg10_r0
  let c_m1_i32_60_r0 : BitVec 32 := 4294967295#32
  let v69_r0 : BitVec 1 := Scalar.cmpi .eq v68_r0 c_m1_i32_60_r0
  let c1_i32_61_r0 : BitVec 32 := 1#32
  let v70_r0 : BitVec 32 := Scalar.select v69_r0 c1_i32_61_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v71_r0 : BitVec 32 := Scalar.addi v70_r0 v4
  let v145_r0 : BitVec 32 := Scalar.muli c256_i32_102_r0 v71_r0
  let c0_i32_105_r0 : BitVec 32 := 0#32
  ![v145_r0.toNat, 0]
def k1_off17 (arg9_r0 : BitVec 32) : Fin 1 → Nat :=
  let c2_i32_101_r0 : BitVec 32 := 2#32
  let v144_r0 : BitVec 32 := Scalar.remui arg9_r0 c2_i32_101_r0
  ![v144_r0.toNat]

def k1_chk1 (i : grid1.Coords) (k1_t1 : Fin k1_t1_loop.trips) (arg6_r0 : BitVec 32) (arg7_r0 : BitVec 32) (arg8_r0 : BitVec 32) (arg9_r0 : BitVec 32) (arg10_r0 : BitVec 32) : Prop :=
  (∀ (k1_h1 : k1_cond1 i k1_t1 arg10_r0 = 1#1), ∀ a, (k1_off4 arg6_r0) a + S1x1x256.size a ≤ S2x1x256.size a) ∧
  (∀ (k1_h1 : k1_cond1 i k1_t1 arg10_r0 = 1#1), ∀ a, (k1_off5 i arg10_r0) a + S1x256.size a ≤ S1x16384.size a) ∧
  (∀ (k1_h1 : k1_cond1 i k1_t1 arg10_r0 = 1#1), ∀ a, (k1_off6 arg6_r0) a + S1.size a ≤ S2.size a) ∧
  (∀ (k1_h2 : k1_cond2 i k1_t1 arg10_r0 = 1#1), ∀ a, (k1_off7 arg7_r0) a + S1x1x256.size a ≤ S2x1x256.size a) ∧
  (∀ (k1_h2 : k1_cond2 i k1_t1 arg10_r0 = 1#1), ∀ a, (k1_off8 i arg10_r0) a + S1x256.size a ≤ S1x16384.size a) ∧
  (∀ (k1_h2 : k1_cond2 i k1_t1 arg10_r0 = 1#1), ∀ a, (k1_off9 arg7_r0) a + S1.size a ≤ S2.size a) ∧
  (∀ (k1_h5 : k1_cond5 i k1_t1 arg10_r0 = 1#1), ∀ a, (k1_off12 arg8_r0) a + S1x256x128.size a ≤ S2x256x128.size a) ∧
  (∀ (k1_h5 : k1_cond5 i k1_t1 arg10_r0 = 1#1), ∀ a, (k1_off13 i arg10_r0) a + S256x128.size a ≤ S16384x128.size a) ∧
  (∀ (k1_h5 : k1_cond5 i k1_t1 arg10_r0 = 1#1), ∀ a, (k1_off14 arg8_r0) a + S1.size a ≤ S2.size a) ∧
  (∀ (k1_h7 : k1_cond7 i k1_t1 arg10_r0 = 1#1), ∀ a, (k1_off15 arg9_r0) a + S1x256x128.size a ≤ S2x256x128.size a) ∧
  (∀ (k1_h7 : k1_cond7 i k1_t1 arg10_r0 = 1#1), ∀ a, (k1_off16 i arg10_r0) a + S256x128.size a ≤ S16384x128.size a) ∧
  (∀ (k1_h7 : k1_cond7 i k1_t1 arg10_r0 = 1#1), ∀ a, (k1_off17 arg9_r0) a + S1.size a ≤ S2.size a)
theorem k1_off4_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off4 arg6_r0) a + S1x1x256.size a ≤ S2x1x256.size a := fun i k1_t1 arg6_r0 arg7_r0 arg8_r0 arg9_r0 arg10_r0 k1_hw1 k1_h1 => k1_hw1.1 k1_h1
theorem k1_off5_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off5 i arg10_r0) a + S1x256.size a ≤ S1x16384.size a := fun i k1_t1 arg6_r0 arg7_r0 arg8_r0 arg9_r0 arg10_r0 k1_hw1 k1_h1 => k1_hw1.2.1 k1_h1
theorem k1_off6_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off6 arg6_r0) a + S1.size a ≤ S2.size a := fun i k1_t1 arg6_r0 arg7_r0 arg8_r0 arg9_r0 arg10_r0 k1_hw1 k1_h1 => k1_hw1.2.2.1 k1_h1
theorem k1_off7_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off7 arg7_r0) a + S1x1x256.size a ≤ S2x1x256.size a := fun i k1_t1 arg6_r0 arg7_r0 arg8_r0 arg9_r0 arg10_r0 k1_hw1 k1_h2 => k1_hw1.2.2.2.1 k1_h2
theorem k1_off8_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off8 i arg10_r0) a + S1x256.size a ≤ S1x16384.size a := fun i k1_t1 arg6_r0 arg7_r0 arg8_r0 arg9_r0 arg10_r0 k1_hw1 k1_h2 => k1_hw1.2.2.2.2.1 k1_h2
theorem k1_off9_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off9 arg7_r0) a + S1.size a ≤ S2.size a := fun i k1_t1 arg6_r0 arg7_r0 arg8_r0 arg9_r0 arg10_r0 k1_hw1 k1_h2 => k1_hw1.2.2.2.2.2.1 k1_h2
theorem k1_off12_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off12 arg8_r0) a + S1x256x128.size a ≤ S2x256x128.size a := fun i k1_t1 arg6_r0 arg7_r0 arg8_r0 arg9_r0 arg10_r0 k1_hw1 k1_h5 => k1_hw1.2.2.2.2.2.2.1 k1_h5
theorem k1_off13_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off13 i arg10_r0) a + S256x128.size a ≤ S16384x128.size a := fun i k1_t1 arg6_r0 arg7_r0 arg8_r0 arg9_r0 arg10_r0 k1_hw1 k1_h5 => k1_hw1.2.2.2.2.2.2.2.1 k1_h5
theorem k1_off14_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off14 arg8_r0) a + S1.size a ≤ S2.size a := fun i k1_t1 arg6_r0 arg7_r0 arg8_r0 arg9_r0 arg10_r0 k1_hw1 k1_h5 => k1_hw1.2.2.2.2.2.2.2.2.1 k1_h5
theorem k1_off15_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off15 arg9_r0) a + S1x256x128.size a ≤ S2x256x128.size a := fun i k1_t1 arg6_r0 arg7_r0 arg8_r0 arg9_r0 arg10_r0 k1_hw1 k1_h7 => k1_hw1.2.2.2.2.2.2.2.2.2.1 k1_h7
theorem k1_off16_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off16 i arg10_r0) a + S256x128.size a ≤ S16384x128.size a := fun i k1_t1 arg6_r0 arg7_r0 arg8_r0 arg9_r0 arg10_r0 k1_hw1 k1_h7 => k1_hw1.2.2.2.2.2.2.2.2.2.2.1 k1_h7
theorem k1_off17_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off17 arg9_r0) a + S1.size a ≤ S2.size a := fun i k1_t1 arg6_r0 arg7_r0 arg8_r0 arg9_r0 arg10_r0 k1_hw1 k1_h7 => k1_hw1.2.2.2.2.2.2.2.2.2.2.2 k1_h7

def k1_off18 (v33_3_r0 : BitVec 32) : Fin 3 → Nat :=
  let c2_i32_48_r0 : BitVec 32 := 2#32
  let v54_r0 : BitVec 32 := Scalar.remui v33_3_r0 c2_i32_48_r0
  let c0_i32_50_r0 : BitVec 32 := 0#32
  let c0_i32_51_r0 : BitVec 32 := 0#32
  ![v54_r0.toNat, 0, 0]

def k1_off19 (i : grid1.Coords) (v33_4_r0 : BitVec 32) : Fin 2 → Nat :=
  let c256_i32_49_r0 : BitVec 32 := 256#32
  let true_33_r0 : BitVec 1 := 1#1
  let c1_i32_32_r0 : BitVec 32 := 1#32
  let v34_r0 : BitVec 32 := Scalar.subi v33_4_r0 c1_i32_32_r0
  let v35_r0 : BitVec 32 := Scalar.select true_33_r0 v34_r0 v33_4_r0
  let c_m1_i32_34_r0 : BitVec 32 := 4294967295#32
  let v36_r0 : BitVec 1 := Scalar.cmpi .eq v35_r0 c_m1_i32_34_r0
  let c1_i32_35_r0 : BitVec 32 := 1#32
  let v37_r0 : BitVec 32 := Scalar.select v36_r0 c1_i32_35_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v38_r0 : BitVec 32 := Scalar.addi v37_r0 v4
  let v55_r0 : BitVec 32 := Scalar.muli c256_i32_49_r0 v38_r0
  let c0_i32_52_r0 : BitVec 32 := 0#32
  ![v55_r0.toNat, 0]

def k1_chk5 (i : grid1.Coords) (v33_4_r0 : BitVec 32) : Prop :=
  (∀ a, (k1_off19 i v33_4_r0) a + S256x128.size a ≤ S16384x128.size a)
theorem k1_off19_inb : ∀ (i : grid1.Coords) (v33_4_r0 : BitVec 32) (k1_hw5 : k1_chk5 i v33_4_r0), ∀ a, (k1_off19 i v33_4_r0) a + S256x128.size a ≤ S16384x128.size a := fun i v33_4_r0 k1_hw5 => k1_hw5

def k1_off20 (v33_3_r0 : BitVec 32) : Fin 1 → Nat :=
  let c2_i32_48_r0 : BitVec 32 := 2#32
  let v54_r0 : BitVec 32 := Scalar.remui v33_3_r0 c2_i32_48_r0
  ![v54_r0.toNat]
def k1_off21 (v33_3_r0 : BitVec 32) : Fin 3 → Nat :=
  let c2_i32_48_r0 : BitVec 32 := 2#32
  let v54_r0 : BitVec 32 := Scalar.remui v33_3_r0 c2_i32_48_r0
  let c0_i32_54_r0 : BitVec 32 := 0#32
  let c0_i32_55_r0 : BitVec 32 := 0#32
  ![v54_r0.toNat, 0, 0]

def k1_chk4 (v33_3_r0 : BitVec 32) : Prop :=
  (∀ a, (k1_off18 v33_3_r0) a + S1x256x128.size a ≤ S2x256x128.size a) ∧
  (∀ a, (k1_off20 v33_3_r0) a + S1.size a ≤ S2.size a) ∧
  (∀ a, (k1_off21 v33_3_r0) a + S1x256x128.size a ≤ S2x256x128.size a)
theorem k1_off18_inb : ∀ (v33_3_r0 : BitVec 32) (k1_hw4 : k1_chk4 v33_3_r0), ∀ a, (k1_off18 v33_3_r0) a + S1x256x128.size a ≤ S2x256x128.size a := fun v33_3_r0 k1_hw4 => k1_hw4.1
theorem k1_off20_inb : ∀ (v33_3_r0 : BitVec 32) (k1_hw4 : k1_chk4 v33_3_r0), ∀ a, (k1_off20 v33_3_r0) a + S1.size a ≤ S2.size a := fun v33_3_r0 k1_hw4 => k1_hw4.2.1
theorem k1_off21_inb : ∀ (v33_3_r0 : BitVec 32) (k1_hw4 : k1_chk4 v33_3_r0), ∀ a, (k1_off21 v33_3_r0) a + S1x256x128.size a ≤ S2x256x128.size a := fun v33_3_r0 k1_hw4 => k1_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x1024x64 : Shape := ⟨3, ![16, 1024, 64]⟩
abbrev S1024x64 : Shape := ⟨2, ![1024, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩
abbrev S16384x1024 : Shape := ⟨2, ![16384, 1024]⟩
abbrev S64x1024 : Shape := ⟨2, ![64, 1024]⟩
abbrev S1 : Shape := ⟨1, ![1]⟩
abbrev S1x1 : Shape := ⟨2, ![1, 1]⟩

abbrev nBuf : Space → Nat
  | .hbm => 71
  | .vmem => 0
  | .smem => 0
  | _ => 0

abbrev bufTy : (tb : Table) → Fin (tcTables nBuf tb) → BufTy
  | .hbm, ⟨0, _⟩ => ⟨S16x1024x64, .f32⟩
  | .hbm, ⟨1, _⟩ => ⟨S1024x64, .f32⟩
  | .hbm, ⟨2, _⟩ => ⟨S16384x64, .f32⟩
  | .hbm, ⟨3, _⟩ => ⟨S16384x64, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S1024x64, .f32⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S64x1024, .f32⟩
  | .hbm, ⟨15, _⟩ => ⟨S16384x1024, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .i32⟩
  | .hbm, ⟨26, _⟩ => ⟨S_, .f32⟩
  | .hbm, ⟨27, _⟩ => ⟨S_, .i32⟩
  | .hbm, ⟨28, _⟩ => ⟨S16384, .f32⟩
  | .hbm, ⟨29, _⟩ => ⟨S16384, .i32⟩
  | .hbm, ⟨30, _⟩ => ⟨S_, .i32⟩
  | .hbm, ⟨31, _⟩ => ⟨S16384, .i32⟩
  | .hbm, ⟨32, _⟩ => ⟨S16384, .i1⟩
  | .hbm, ⟨33, _⟩ => ⟨S_, .i32⟩
  | .hbm, ⟨34, _⟩ => ⟨S16384, .i32⟩
  | .hbm, ⟨35, _⟩ => ⟨S16384, .i32⟩
  | .hbm, ⟨36, _⟩ => ⟨S16384, .i32⟩
  | .hbm, ⟨37, _⟩ => ⟨S16384x1, .i32⟩
  | .hbm, ⟨38, _⟩ => ⟨S1, .i32⟩
  | .hbm, ⟨39, _⟩ => ⟨S_, .i32⟩
  | .hbm, ⟨40, _⟩ => ⟨S16384x1, .i32⟩
  | .hbm, ⟨41, _⟩ => ⟨S16384x1, .i1⟩
  | .hbm, ⟨42, _⟩ => ⟨S1x1, .i32⟩
  | .hbm, ⟨43, _⟩ => ⟨S16384x1, .i32⟩
  | .hbm, ⟨44, _⟩ => ⟨S16384x1, .i1⟩
  | .hbm, ⟨45, _⟩ => ⟨S16384x1, .i1⟩
  | .hbm, ⟨46, _⟩ => ⟨S_, .i1⟩
  | .hbm, ⟨47, _⟩ => ⟨S16384, .i1⟩
  | .hbm, ⟨48, _⟩ => ⟨S16384x64, .f32⟩
  | .hbm, ⟨49, _⟩ => ⟨S16384x64, .i1⟩
  | .hbm, ⟨50, _⟩ => ⟨S_, .f32⟩
  | .hbm, ⟨51, _⟩ => ⟨S16384x64, .f32⟩
  | .hbm, ⟨52, _⟩ => ⟨S16384x64, .f32⟩
  | .hbm, ⟨53, _⟩ => ⟨S16x1024x64, .f32⟩
  | .hbm, ⟨54, _⟩ => ⟨S16x1024x64, .f32⟩
  | .hbm, ⟨55, _⟩ => ⟨S16x1024x64, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S16x1024x64, .f32⟩
  | .hbm, ⟨61, _⟩ => ⟨S16x1024x64, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S16x1024x64, .f32⟩
  | .hbm, ⟨70, _⟩ => ⟨S16x1024x64, .f32⟩
  | _, _ => ⟨S16x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v15 : Ref sig .tc := ⟨.hbm, 23, rfl⟩
abbrev main_v16 : Ref sig .tc := ⟨.hbm, 24, rfl⟩
abbrev main_call1_v0 : Ref sig .tc := ⟨.hbm, 25, rfl⟩
abbrev main_call1_cst : Ref sig .tc := ⟨.hbm, 26, rfl⟩
abbrev main_call1_c : Ref sig .tc := ⟨.hbm, 27, rfl⟩
abbrev main_call1_v1_0 : Ref sig .tc := ⟨.hbm, 28, rfl⟩
abbrev main_v17 : Ref sig .tc := ⟨.hbm, 29, rfl⟩
abbrev main_call2_c : Ref sig .tc := ⟨.hbm, 30, rfl⟩
abbrev main_call2_v0 : Ref sig .tc := ⟨.hbm, 31, rfl⟩
abbrev main_call2_v1 : Ref sig .tc := ⟨.hbm, 32, rfl⟩
abbrev main_call2_c_0 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_call2_v5 : Ref sig .tc := ⟨.hbm, 37, rfl⟩
abbrev main_call2_c_1 : Ref sig .tc := ⟨.hbm, 38, rfl⟩
abbrev main_call2_c_2 : Ref sig .tc := ⟨.hbm, 39, rfl⟩
abbrev main_call2_v6 : Ref sig .tc := ⟨.hbm, 40, rfl⟩
abbrev main_call2_v7 : Ref sig .tc := ⟨.hbm, 41, rfl⟩
abbrev main_call2_v8 : Ref sig .tc := ⟨.hbm, 42, rfl⟩
abbrev main_call2_v9 : Ref sig .tc := ⟨.hbm, 43, rfl⟩
abbrev main_call2_v10 : Ref sig .tc := ⟨.hbm, 44, rfl⟩
abbrev main_call2_v11 : Ref sig .tc := ⟨.hbm, 45, rfl⟩
abbrev main_call2_c_3 : Ref sig .tc := ⟨.hbm, 46, rfl⟩
abbrev main_call2_v12 : Ref sig .tc := ⟨.hbm, 47, rfl⟩
abbrev main_call2_v13 : Ref sig .tc := ⟨.hbm, 48, rfl⟩
abbrev main_call2_v14 : Ref sig .tc := ⟨.hbm, 49, rfl⟩
abbrev main_call2_cst : Ref sig .tc := ⟨.hbm, 50, rfl⟩
abbrev main_call2_v15 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_cst_3 : Ref sig .tc := ⟨.hbm, 56, rfl⟩
abbrev main_v22 : Ref sig .tc := ⟨.hbm, 57, rfl⟩
abbrev main_cst_4 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_cst_5 : Ref sig .tc := ⟨.hbm, 62, rfl⟩
abbrev main_v26 : Ref sig .tc := ⟨.hbm, 63, rfl⟩
abbrev main_cst_6 : Ref sig .tc := ⟨.hbm, 64, rfl⟩
abbrev main_v27 : Ref sig .tc := ⟨.hbm, 65, rfl⟩
abbrev main_cst_7 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩

abbrev nD : Nat := 1
abbrev τ : Topo := Topo.v7x

variable {F : FTy → Type} [FloatOps F]
-- ==== Gather.lean ====
abbrev S1024x64 : Shape := ⟨2, ![1024, 64]⟩
abbrev S16x1x1024 : Shape := ⟨3, ![16, 1, 1024]⟩
abbrev S_ : Shape := ⟨0, ![]⟩
abbrev S1024x128 : Shape := ⟨2, ![1024, 128]⟩
abbrev S1x16384 : Shape := ⟨2, ![1, 16384]⟩
abbrev S16384x128 : Shape := ⟨2, ![16384, 128]⟩
abbrev S2x1x256 : Shape := ⟨3, ![2, 1, 256]⟩
abbrev S2 : Shape := ⟨1, ![2]⟩
abbrev S2x256x128 : Shape := ⟨3, ![2, 256, 128]⟩
abbrev S1x1x256 : Shape := ⟨3, ![1, 1, 256]⟩
abbrev S1x256 : Shape := ⟨2, ![1, 256]⟩
abbrev S1 : Shape := ⟨1, ![1]⟩
abbrev S1x256x128 : Shape := ⟨3, ![1, 256, 128]⟩
abbrev S256x128 : Shape := ⟨2, ![256, 128]⟩
abbrev S256 : Shape := ⟨1, ![256]⟩
abbrev S16384x64 : Shape := ⟨2, ![16384, 64]⟩
abbrev S16x1024x64 : Shape := ⟨3, ![16, 1024, 64]⟩

abbrev nBuf : Table → Nat
  | .hbm => 9
  | .local .scVector .vmem => 2
  | _ => 0

abbrev bufTy : (tb : Table) → Fin (nBuf tb) → BufTy
  | .hbm, ⟨0, _⟩ => ⟨S1024x64, .f32⟩
  | .hbm, ⟨1, _⟩ => ⟨S16x1x1024, .i32⟩
  | .hbm, ⟨2, _⟩ => ⟨S_, .i32⟩
  | .hbm, ⟨3, _⟩ => ⟨S_, .f32⟩
  | .hbm, ⟨4, _⟩ => ⟨S1024x128, .f32⟩
  | .hbm, ⟨5, _⟩ => ⟨S1x16384, .i32⟩
  | .hbm, ⟨6, _⟩ => ⟨S16384x128, .f32⟩
  | .hbm, ⟨7, _⟩ => ⟨S16384x64, .f32⟩
  | .hbm, ⟨8, _⟩ => ⟨S16x1024x64, .f32⟩
  | .local .scVector .vmem, ⟨0, _⟩ => ⟨S2x1x256, .i32⟩
  | .local .scVector .vmem, ⟨1, _⟩ => ⟨S2x256x128, .f32⟩
  | _, _ => ⟨S1024x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v0_scv : Ref sig .scVector := ⟨.hbm, 4, rfl⟩
abbrev main_v1_scv : Ref sig .scVector := ⟨.hbm, 5, rfl⟩
abbrev main_v2_scv : Ref sig .scVector := ⟨.hbm, 6, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_14_r0 : BitVec 32 := 0#32
  let c2_i32_15_r0 : BitVec 32 := 2#32
  let v21_r0 : BitVec 32 := Scalar.remui c0_i32_14_r0 c2_i32_15_r0
  let c0_i32_16_r0 : BitVec 32 := 0#32
  let c0_i32_17_r0 : BitVec 32 := 0#32
  ![v21_r0.toNat, 0, 0]
def k0_off2 (i : grid0.Coords) : Fin 2 → Nat :=
  let c0_i32_18_r0 : BitVec 32 := 0#32
  let c256_i32_r0 : BitVec 32 := 256#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v7_r0 : BitVec 32 := Scalar.addi c0_i32_1_r0 v4
  let v22_r0 : BitVec 32 := Scalar.muli c256_i32_r0 v7_r0
  ![0, v22_r0.toNat]
def k0_off3 : Fin 1 → Nat :=
  let c0_i32_14_r0 : BitVec 32 := 0#32
  let c2_i32_15_r0 : BitVec 32 := 2#32
  let v21_r0 : BitVec 32 := Scalar.remui c0_i32_14_r0 c2_i32_15_r0
  ![v21_r0.toNat]
@[reducible] def k0_t1_loop : Scf.Loop 32 :=
  let c0_i32_28_r0 : BitVec 32 := 0#32
  let c2_i32_29_r0 : BitVec 32 := 2#32
  let v32_r0 : BitVec 32 := Scalar.addi c0_i32_28_r0 c2_i32_29_r0
  let c1_i32_30_r0 : BitVec 32 := 1#32
  ⟨c0_i32_28_r0, v32_r0, c1_i32_30_r0⟩
def k0_off4 (arg6_r0 : BitVec 32) : Fin 3 → Nat :=
  let c2_i32_101_r0 : BitVec 32 := 2#32
  let v144_r0 : BitVec 32 := Scalar.remui arg6_r0 c2_i32_101_r0
  let c0_i32_103_r0 : BitVec 32 := 0#32
  let c0_i32_104_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg10_r0 v4
  let true_63_r0 : BitVec 1 := 1#1
  let c1_i32_62_r0 : BitVec 32 := 1#32
  let v72_r0 : BitVec 32 := Scalar.addi arg10_r0 c1_i32_62_r0
  let v73_r0 : BitVec 32 := Scalar.select true_63_r0 v72_r0 arg10_r0
  let c2_i32_64_r0 : BitVec 32 := 2#32
  let v74_r0 : BitVec 1 := Scalar.cmpi .eq v73_r0 c2_i32_64_r0
  let c0_i32_65_r0 : BitVec 32 := 0#32
  let v75_r0 : BitVec 32 := Scalar.select v74_r0 c0_i32_65_r0 v73_r0
  let v76_r0 : BitVec 32 := Scalar.addi v75_r0 v4
  let v82_r0 : BitVec 1 := Scalar.cmpi .ne v66_r0 v76_r0
  let c0_i32_28_r0 : BitVec 32 := 0#32
  let c1_i32_30_r0 : BitVec 32 := 1#32
  let arg5_r0 : BitVec 32 := Scf.iv c0_i32_28_r0 c1_i32_30_r0 k0_t1
  let c1_i32_70_r0 : BitVec 32 := 1#32
  let v83_r0 : BitVec 1 := Scalar.cmpi .sge arg5_r0 c1_i32_70_r0
  let true_71_r0 : BitVec 1 := 1#1
  let v84_r0 : BitVec 1 := Scalar.xori v83_r0 true_71_r0
  let v85_r0 : BitVec 1 := Scalar.andi v82_r0 v84_r0
  let true_72_r0 : BitVec 1 := 1#1
  let v86_r0 : BitVec 1 := Scalar.andi v85_r0 true_72_r0
  let v87_r0 : BitVec 32 := Scalar.extui v86_r0
  let c0_i32_73_r0 : BitVec 32 := 0#32
  let v88_r0 : BitVec 1 := Scalar.cmpi .ne v87_r0 c0_i32_73_r0
  v88_r0

def k0_off5 (i : grid0.Coords) (arg10_r0 : BitVec 32) : Fin 2 → Nat :=
  let c0_i32_105_r0 : BitVec 32 := 0#32
  let c256_i32_102_r0 : BitVec 32 := 256#32
  let true_63_r0 : BitVec 1 := 1#1
  let c1_i32_62_r0 : BitVec 32 := 1#32
  let v72_r0 : BitVec 32 := Scalar.addi arg10_r0 c1_i32_62_r0
  let v73_r0 : BitVec 32 := Scalar.select true_63_r0 v72_r0 arg10_r0
  let c2_i32_64_r0 : BitVec 32 := 2#32
  let v74_r0 : BitVec 1 := Scalar.cmpi .eq v73_r0 c2_i32_64_r0
  let c0_i32_65_r0 : BitVec 32 := 0#32
  let v75_r0 : BitVec 32 := Scalar.select v74_r0 c0_i32_65_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v76_r0 : BitVec 32 := Scalar.addi v75_r0 v4
  let v145_r0 : BitVec 32 := Scalar.muli c256_i32_102_r0 v76_r0
  ![0, v145_r0.toNat]
def k0_off6 (arg6_r0 : BitVec 32) : Fin 1 → Nat :=
  let c2_i32_101_r0 : BitVec 32 := 2#32
  let v144_r0 : BitVec 32 := Scalar.remui arg6_r0 c2_i32_101_r0
  ![v144_r0.toNat]
def k0_off7 (arg7_r0 : BitVec 32) : Fin 3 → Nat :=
  let c2_i32_102_r0 : BitVec 32 := 2#32
  let v145_r0 : BitVec 32 := Scalar.remui arg7_r0 c2_i32_102_r0
  let c0_i32_103_r0 : BitVec 32 := 0#32
  let c0_i32_104_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg10_r0 v4
  let true_59_r0 : BitVec 1 := 1#1
  let c1_i32_58_r0 : BitVec 32 := 1#32
  let v67_r0 : BitVec 32 := Scalar.subi arg10_r0 c1_i32_58_r0
  let v68_r0 : BitVec 32 := Scalar.select true_59_r0 v67_r0 arg10_r0
  let c_m1_i32_60_r0 : BitVec 32 := 4294967295#32
  let v69_r0 : BitVec 1 := Scalar.cmpi .eq v68_r0 c_m1_i32_60_r0
  let c1_i32_61_r0 : BitVec 32 := 1#32
  let v70_r0 : BitVec 32 := Scalar.select v69_r0 c1_i32_61_r0 v68_r0
  let v71_r0 : BitVec 32 := Scalar.addi v70_r0 v4
  let v96_r0 : BitVec 1 := Scalar.cmpi .ne v66_r0 v71_r0
  let c0_i32_28_r0 : BitVec 32 := 0#32
  let c1_i32_30_r0 : BitVec 32 := 1#32
  let arg5_r0 : BitVec 32 := Scf.iv c0_i32_28_r0 c1_i32_30_r0 k0_t1
  let c0_i32_56_r0 : BitVec 32 := 0#32
  let v64_r0 : BitVec 1 := Scalar.cmpi .eq arg5_r0 c0_i32_56_r0
  let v97_r0 : BitVec 1 := Scalar.ori v96_r0 v64_r0
  let c0_i32_78_r0 : BitVec 32 := 0#32
  let v98_r0 : BitVec 1 := Scalar.cmpi .sge arg5_r0 c0_i32_78_r0
  let v99_r0 : BitVec 1 := Scalar.andi v97_r0 v98_r0
  let v100_r0 : BitVec 32 := Scalar.extui v99_r0
  let c0_i32_79_r0 : BitVec 32 := 0#32
  let v101_r0 : BitVec 1 := Scalar.cmpi .ne v100_r0 c0_i32_79_r0
  v101_r0

def k0_off8 (i : grid0.Coords) (arg10_r0 : BitVec 32) : Fin 2 → Nat :=
  let c0_i32_105_r0 : BitVec 32 := 0#32
  let c256_i32_101_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg10_r0 v4
  let v144_r0 : BitVec 32 := Scalar.muli c256_i32_101_r0 v66_r0
  ![0, v144_r0.toNat]
def k0_off9 (arg7_r0 : BitVec 32) : Fin 1 → Nat :=
  let c2_i32_102_r0 : BitVec 32 := 2#32
  let v145_r0 : BitVec 32 := Scalar.remui arg7_r0 c2_i32_102_r0
  ![v145_r0.toNat]
def k0_off10 (arg8_r0 : BitVec 32) : Fin 3 → Nat :=
  let c2_i32_83_r0 : BitVec 32 := 2#32
  let v109_r0 : BitVec 32 := Scalar.remui arg8_r0 c2_i32_83_r0
  let c0_i32_101_r1 : BitVec 32 := 0#32
  let c0_i32_102_r1 : BitVec 32 := 0#32
  ![v109_r0.toNat, 0, 0]

def k0_chk2 (arg8_r0 : BitVec 32) : Prop :=
  (∀ a, (k0_off10 arg8_r0) a + S1x256x128.size a ≤ S2x256x128.size a)
theorem k0_off10_inb : ∀ (arg8_r0 : BitVec 32) (k0_hw2 : k0_chk2 arg8_r0), ∀ a, (k0_off10 arg8_r0) a + S1x256x128.size a ≤ S2x256x128.size a := fun arg8_r0 k0_hw2 => k0_hw2

def k0_off11 (arg7_r0 : BitVec 32) : Fin 3 → Nat :=
  let c2_i32_82_r0 : BitVec 32 := 2#32
  let v108_r0 : BitVec 32 := Scalar.remui arg7_r0 c2_i32_82_r0
  let c0_i32_103_r1 : BitVec 32 := 0#32
  let c0_i32_104_r1 : BitVec 32 := 0#32
  ![v108_r0.toNat, 0, 0]

def k0_chk3 (arg7_r0 : BitVec 32) : Prop :=
  (∀ a, (k0_off11 arg7_r0) a + S1x1x256.size a ≤ S2x1x256.size a)
theorem k0_off11_inb : ∀ (arg7_r0 : BitVec 32) (k0_hw3 : k0_chk3 arg7_r0), ∀ a, (k0_off11 arg7_r0) a + S1x1x256.size a ≤ S2x1x256.size a := fun arg7_r0 k0_hw3 => k0_hw3

def k0_off12 (arg8_r0 : BitVec 32) : Fin 3 → Nat :=
  let c2_i32_101_r0 : BitVec 32 := 2#32
  let v144_r0 : BitVec 32 := Scalar.remui arg8_r0 c2_i32_101_r0
  let c0_i32_103_r0 : BitVec 32 := 0#32
  let c0_i32_104_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg10_r0 v4
  let true_63_r0 : BitVec 1 := 1#1
  let c1_i32_62_r0 : BitVec 32 := 1#32
  let v72_r0 : BitVec 32 := Scalar.addi arg10_r0 c1_i32_62_r0
  let v73_r0 : BitVec 32 := Scalar.select true_63_r0 v72_r0 arg10_r0
  let c2_i32_64_r0 : BitVec 32 := 2#32
  let v74_r0 : BitVec 1 := Scalar.cmpi .eq v73_r0 c2_i32_64_r0
  let c0_i32_65_r0 : BitVec 32 := 0#32
  let v75_r0 : BitVec 32 := Scalar.select v74_r0 c0_i32_65_r0 v73_r0
  let v76_r0 : BitVec 32 := Scalar.addi v75_r0 v4
  let v115_r0 : BitVec 1 := Scalar.cmpi .ne v66_r0 v76_r0
  let c0_i32_28_r0 : BitVec 32 := 0#32
  let c1_i32_30_r0 : BitVec 32 := 1#32
  let arg5_r0 : BitVec 32 := Scf.iv c0_i32_28_r0 c1_i32_30_r0 k0_t1
  let c1_i32_57_r0 : BitVec 32 := 1#32
  let v65_r0 : BitVec 1 := Scalar.cmpi .eq arg5_r0 c1_i32_57_r0
  let v116_r0 : BitVec 1 := Scalar.ori v115_r0 v65_r0
  let v117_r0 : BitVec 32 := Scalar.extui v116_r0
  let c0_i32_86_r0 : BitVec 32 := 0#32
  let v118_r0 : BitVec 1 := Scalar.cmpi .ne v117_r0 c0_i32_86_r0
  v118_r0

def k0_off13 (i : grid0.Coords) (arg10_r0 : BitVec 32) : Fin 2 → Nat :=
  let c256_i32_102_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg10_r0 v4
  let v145_r0 : BitVec 32 := Scalar.muli c256_i32_102_r0 v66_r0
  let c0_i32_105_r0 : BitVec 32 := 0#32
  ![v145_r0.toNat, 0]
def k0_off14 (arg8_r0 : BitVec 32) : Fin 1 → Nat :=
  let c2_i32_101_r0 : BitVec 32 := 2#32
  let v144_r0 : BitVec 32 := Scalar.remui arg8_r0 c2_i32_101_r0
  ![v144_r0.toNat]
def k0_off15 (arg9_r0 : BitVec 32) : Fin 3 → Nat :=
  let c2_i32_101_r0 : BitVec 32 := 2#32
  let v144_r0 : BitVec 32 := Scalar.remui arg9_r0 c2_i32_101_r0
  let c0_i32_103_r0 : BitVec 32 := 0#32
  let c0_i32_104_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg10_r0 v4
  let true_59_r0 : BitVec 1 := 1#1
  let c1_i32_58_r0 : BitVec 32 := 1#32
  let v67_r0 : BitVec 32 := Scalar.subi arg10_r0 c1_i32_58_r0
  let v68_r0 : BitVec 32 := Scalar.select true_59_r0 v67_r0 arg10_r0
  let c_m1_i32_60_r0 : BitVec 32 := 4294967295#32
  let v69_r0 : BitVec 1 := Scalar.cmpi .eq v68_r0 c_m1_i32_60_r0
  let c1_i32_61_r0 : BitVec 32 := 1#32
  let v70_r0 : BitVec 32 := Scalar.select v69_r0 c1_i32_61_r0 v68_r0
  let v71_r0 : BitVec 32 := Scalar.addi v70_r0 v4
  let v128_r0 : BitVec 1 := Scalar.cmpi .ne v66_r0 v71_r0
  let c0_i32_28_r0 : BitVec 32 := 0#32
  let c1_i32_30_r0 : BitVec 32 := 1#32
  let arg5_r0 : BitVec 32 := Scf.iv c0_i32_28_r0 c1_i32_30_r0 k0_t1
  let c0_i32_56_r0 : BitVec 32 := 0#32
  let v64_r0 : BitVec 1 := Scalar.cmpi .eq arg5_r0 c0_i32_56_r0
  let true_92_r0 : BitVec 1 := 1#1
  let v129_r0 : BitVec 1 := Scalar.xori v64_r0 true_92_r0
  let v130_r0 : BitVec 1 := Scalar.andi v128_r0 v129_r0
  let v131_r0 : BitVec 32 := Scalar.extui v130_r0
  let c0_i32_93_r0 : BitVec 32 := 0#32
  let v132_r0 : BitVec 1 := Scalar.cmpi .ne v131_r0 c0_i32_93_r0
  v132_r0

def k0_off16 (i : grid0.Coords) (arg10_r0 : BitVec 32) : Fin 2 → Nat :=
  let c256_i32_102_r0 : BitVec 32 := 256#32
  let true_59_r0 : BitVec 1 := 1#1
  let c1_i32_58_r0 : BitVec 32 := 1#32
  let v67_r0 : BitVec 32 := Scalar.subi arg10_r0 c1_i32_58_r0
  let v68_r0 : BitVec 32 := Scalar.select true_59_r0 v67_r0 arg10_r0
  let c_m1_i32_60_r0 : BitVec 32 := 4294967295#32
  let v69_r0 : BitVec 1 := Scalar.cmpi .eq v68_r0 c_m1_i32_60_r0
  let c1_i32_61_r0 : BitVec 32 := 1#32
  let v70_r0 : BitVec 32 := Scalar.select v69_r0 c1_i32_61_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v71_r0 : BitVec 32 := Scalar.addi v70_r0 v4
  let v145_r0 : BitVec 32 := Scalar.muli c256_i32_102_r0 v71_r0
  let c0_i32_105_r0 : BitVec 32 := 0#32
  ![v145_r0.toNat, 0]
def k0_off17 (arg9_r0 : BitVec 32) : Fin 1 → Nat :=
  let c2_i32_101_r0 : BitVec 32 := 2#32
  let v144_r0 : BitVec 32 := Scalar.remui arg9_r0 c2_i32_101_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x256.size a ≤ S2x1x256.size a) ∧
  (∀ (k0_h1 : k0_cond1 i k0_t1 arg10_r0 = 1#1), ∀ a, (k0_off5 i arg10_r0) a + S1x256.size a ≤ S1x16384.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x256.size a ≤ S2x1x256.size a) ∧
  (∀ (k0_h2 : k0_cond2 i k0_t1 arg10_r0 = 1#1), ∀ a, (k0_off8 i arg10_r0) a + S1x256.size a ≤ S1x16384.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x256x128.size a ≤ S2x256x128.size a) ∧
  (∀ (k0_h5 : k0_cond5 i k0_t1 arg10_r0 = 1#1), ∀ a, (k0_off13 i arg10_r0) a + S256x128.size a ≤ S16384x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x256x128.size a ≤ S2x256x128.size a) ∧
  (∀ (k0_h7 : k0_cond7 i k0_t1 arg10_r0 = 1#1), ∀ a, (k0_off16 i arg10_r0) a + S256x128.size a ≤ S16384x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x256.size a ≤ S2x1x256.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x256.size a ≤ S1x16384.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x256.size a ≤ S2x1x256.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x256.size a ≤ S1x16384.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x256x128.size a ≤ S2x256x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S256x128.size a ≤ S16384x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x256x128.size a ≤ S2x256x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S256x128.size a ≤ S16384x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_48_r0 : BitVec 32 := 2#32
  let v54_r0 : BitVec 32 := Scalar.remui v33_3_r0 c2_i32_48_r0
  let c0_i32_50_r0 : BitVec 32 := 0#32
  let c0_i32_51_r0 : BitVec 32 := 0#32
  ![v54_r0.toNat, 0, 0]

def k0_off19 (i : grid0.Coords) (v33_4_r0 : BitVec 32) : Fin 2 → Nat :=
  let c256_i32_49_r0 : BitVec 32 := 256#32
  let true_33_r0 : BitVec 1 := 1#1
  let c1_i32_32_r0 : BitVec 32 := 1#32
  let v34_r0 : BitVec 32 := Scalar.subi v33_4_r0 c1_i32_32_r0
  let v35_r0 : BitVec 32 := Scalar.select true_33_r0 v34_r0 v33_4_r0
  let c_m1_i32_34_r0 : BitVec 32 := 4294967295#32
  let v36_r0 : BitVec 1 := Scalar.cmpi .eq v35_r0 c_m1_i32_34_r0
  let c1_i32_35_r0 : BitVec 32 := 1#32
  let v37_r0 : BitVec 32 := Scalar.select v36_r0 c1_i32_35_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v38_r0 : BitVec 32 := Scalar.addi v37_r0 v4
  let v55_r0 : BitVec 32 := Scalar.muli c256_i32_49_r0 v38_r0
  let c0_i32_52_r0 : BitVec 32 := 0#32
  ![v55_r0.toNat, 0]

def k0_chk5 (i : grid0.Coords) (v33_4_r0 : BitVec 32) : Prop :=
  (∀ a, (k0_off19 i v33_4_r0) a + S256x128.size a ≤ S16384x128.size a)
theorem k0_off19_inb : ∀ (i : grid0.Coords) (v33_4_r0 : BitVec 32) (k0_hw5 : k0_chk5 i v33_4_r0), ∀ a, (k0_off19 i v33_4_r0) a + S256x128.size a ≤ S16384x128.size a := fun i v33_4_r0 k0_hw5 => k0_hw5

def k0_off20 (v33_3_r0 : BitVec 32) : Fin 1 → Nat :=
  let c2_i32_48_r0 : BitVec 32 := 2#32
  let v54_r0 : BitVec 32 := Scalar.remui v33_3_r0 c2_i32_48_r0
  ![v54_r0.toNat]
def k0_off21 (v33_3_r0 : BitVec 32) : Fin 3 → Nat :=
  let c2_i32_48_r0 : BitVec 32 := 2#32
  let v54_r0 : BitVec 32 := Scalar.remui v33_3_r0 c2_i32_48_r0
  let c0_i32_54_r0 : BitVec 32 := 0#32
  let c0_i32_55_r0 : BitVec 32 := 0#32
  ![v54_r0.toNat, 0, 0]

def k0_chk4 (v33_3_r0 : BitVec 32) : Prop :=
  (∀ a, (k0_off18 v33_3_r0) a + S1x256x128.size a ≤ S2x256x128.size a) ∧
  (∀ a, (k0_off20 v33_3_r0) a + S1.size a ≤ S2.size a) ∧
  (∀ a, (k0_off21 v33_3_r0) a + S1x256x128.size a ≤ S2x256x128.size a)
theorem k0_off18_inb : ∀ (v33_3_r0 : BitVec 32) (k0_hw4 : k0_chk4 v33_3_r0), ∀ a, (k0_off18 v33_3_r0) a + S1x256x128.size a ≤ S2x256x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x256x128.size a ≤ S2x256x128.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== GatherReference.lean ====
abbrev S1024x64 : Shape := ⟨2, ![1024, 64]⟩
abbrev S16x1x1024 : Shape := ⟨3, ![16, 1, 1024]⟩
abbrev S16384 : Shape := ⟨1, ![16384]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x64 : Shape := ⟨2, ![16384, 64]⟩
abbrev S16x1024x64 : Shape := ⟨3, ![16, 1024, 64]⟩

abbrev nBuf : Space → Nat
  | .hbm => 27
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S16x1x1024, .i32⟩
  | .hbm, ⟨2, _⟩ => ⟨S16384, .i32⟩
  | .hbm, ⟨3, _⟩ => ⟨S_, .i32⟩
  | .hbm, ⟨4, _⟩ => ⟨S16384, .i32⟩
  | .hbm, ⟨5, _⟩ => ⟨S16384, .i1⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S16384, .i32⟩
  | .hbm, ⟨10, _⟩ => ⟨S16384x1, .i32⟩
  | .hbm, ⟨11, _⟩ => ⟨S1, .i32⟩
  | .hbm, ⟨12, _⟩ => ⟨S_, .i32⟩
  | .hbm, ⟨13, _⟩ => ⟨S16384x1, .i32⟩
  | .hbm, ⟨14, _⟩ => ⟨S16384x1, .i1⟩
  | .hbm, ⟨15, _⟩ => ⟨S1x1, .i32⟩
  | .hbm, ⟨16, _⟩ => ⟨S16384x1, .i32⟩
  | .hbm, ⟨17, _⟩ => ⟨S16384x1, .i1⟩
  | .hbm, ⟨18, _⟩ => ⟨S16384x1, .i1⟩
  | .hbm, ⟨19, _⟩ => ⟨S_, .i1⟩
  | .hbm, ⟨20, _⟩ => ⟨S16384, .i1⟩
  | .hbm, ⟨21, _⟩ => ⟨S16384x64, .f32⟩
  | .hbm, ⟨22, _⟩ => ⟨S16384x64, .i1⟩
  | .hbm, ⟨23, _⟩ => ⟨S_, .f32⟩
  | .hbm, ⟨24, _⟩ => ⟨S16384x64, .f32⟩
  | .hbm, ⟨25, _⟩ => ⟨S16384x64, .f32⟩
  | .hbm, ⟨26, _⟩ => ⟨S16x1024x64, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩

abbrev nD : Nat := 1
abbrev τ : Topo := Topo.v7x

variable {F : FTy → Type} [FloatOps F]
-- ==== Nearest.lean ====
abbrev S16x1024x64 : Shape := ⟨3, ![16, 1024, 64]⟩
abbrev S1024x64 : Shape := ⟨2, ![1024, 64]⟩
abbrev S16x64x1024 : Shape := ⟨3, ![16, 64, 1024]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S16x1x1024 : Shape := ⟨3, ![16, 1, 1024]⟩
abbrev S1024 : Shape := ⟨1, ![1024]⟩
abbrev S1024x1 : Shape := ⟨2, ![1024, 1]⟩
abbrev S1x1 : Shape := ⟨2, ![1, 1]⟩
abbrev S2x64x1024 : Shape := ⟨3, ![2, 64, 1024]⟩
abbrev S2x1x1024 : Shape := ⟨3, ![2, 1, 1024]⟩
abbrev S1x64x1024 : Shape := ⟨3, ![1, 64, 1024]⟩
abbrev S64x1024 : Shape := ⟨2, ![64, 1024]⟩
abbrev S1024x1024 : Shape := ⟨2, ![1024, 1024]⟩
abbrev S1x1x1024 : Shape := ⟨3, ![1, 1, 1024]⟩
abbrev S1x1024 : Shape := ⟨2, ![1, 1024]⟩
abbrev S1 : Shape := ⟨1, ![1]⟩
abbrev S1x1x1 : Shape := ⟨3, ![1, 1, 1]⟩

abbrev nBuf : Space → Nat
  | .hbm => 15
  | .vmem => 9
  | .smem => 0
  | _ => 0

abbrev bufTy : (tb : Table) → Fin (tcTables nBuf tb) → BufTy
  | .hbm, ⟨0, _⟩ => ⟨S16x1024x64, .f32⟩
  | .hbm, ⟨1, _⟩ => ⟨S1024x64, .f32⟩
  | .hbm, ⟨2, _⟩ => ⟨S16x64x1024, .f32⟩
  | .hbm, ⟨3, _⟩ => ⟨S16384x64, .f32⟩
  | .hbm, ⟨4, _⟩ => ⟨S16384x64, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S16x1x1024, .f32⟩
  | .hbm, ⟨9, _⟩ => ⟨S1024x64, .f32⟩
  | .hbm, ⟨10, _⟩ => ⟨S_, .f32⟩
  | .hbm, ⟨11, _⟩ => ⟨S1024, .f32⟩
  | .hbm, ⟨12, _⟩ => ⟨S1024x1, .f32⟩
  | .hbm, ⟨13, _⟩ => ⟨S16x1x1024, .i32⟩
  | .hbm, ⟨14, _⟩ => ⟨S1x1, .f32⟩
  | .local _ .vmem, ⟨0, _⟩ => ⟨S2x64x1024, .f32⟩
  | .local _ .vmem, ⟨1, _⟩ => ⟨S2x64x1024, .f32⟩
  | .local _ .vmem, ⟨2, _⟩ => ⟨S1024x64, .f32⟩
  | .local _ .vmem, ⟨3, _⟩ => ⟨S2x1x1024, .f32⟩
  | .local _ .vmem, ⟨4, _⟩ => ⟨S2x1x1024, .f32⟩
  | .local _ .vmem, ⟨5, _⟩ => ⟨S1024x1, .f32⟩
  | .local _ .vmem, ⟨6, _⟩ => ⟨S2x1x1024, .i32⟩
  | .local _ .vmem, ⟨7, _⟩ => ⟨S2x1x1024, .i32⟩
  | .local _ .vmem, ⟨8, _⟩ => ⟨S1x1, .f32⟩
  | _, _ => ⟨S16x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x1x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Proof.TileFacts.lean ====
/-
  The index arithmetic of the SparseCore kernel's pipeline over its two trips, as closed forms over the tile's
  coordinates: which slot of a double buffer each transfer uses, where its block starts in the whole array, which of
  the conditional steps run on which trip, and what each trip hands to the next.
-/
module

public import proofs.«01_k».proof.Proof.Gen.GatherIdeal
public import proofs.«01_k».proof.Proof.Gen.GatherIdeal.Skeleton

@[expose] public section

noncomputable section

namespace Cert.Proof.GatherTile

open Cert.GatherIdeal Cert.GatherIdeal.Gen
open Idealize.ShloMosaic

/-- The first row of the tile's first block of 256 rows. -/
abbrev base (L : grid0.Coords) : ℕ := 512 * (L 1).val + 8192 * (L 0).val

/-- The first trip of the pipeline's loop. -/
abbrev trip0 : Fin k0_t1_loop.trips := ⟨0, by decide⟩
/-- The second trip of the pipeline's loop. -/
abbrev trip1 : Fin k0_t1_loop.trips := ⟨1, by decide⟩

/-- The number of the tile's first block, as the kernel computes it. -/
abbrev firstBlock (L : grid0.Coords) : BitVec 32 :=
  Scalar.muli (Scalar.addi (Scalar.addi 0#32 (Scalar.muli (BitVec.ofNat 32 (L 1).val) 1#32)) (Scalar.muli (BitVec.ofNat 32 (L 0).val) 16#32)) 2#32

/-! ## Offsets -/

/-- In the second trip, where the slot that the next fetch fills starts. -/
theorem off4_1 : k0_off4 1#32 = ![1, 0, 0] := by decide +kernel
/-- In the first trip, where the window of indices that is fetched next starts. -/
theorem off5_0 : ∀ L : grid0.Coords, k0_off5 L 0#32 = ![0, base L + 256] := by decide +kernel
/-- In the second trip, where the semaphore of the next fetch stands. -/
theorem off6_1 : k0_off6 1#32 = ![1] := by decide +kernel
/-- In the first trip, where the slot of the awaited fetch starts. -/
theorem off7_0 : k0_off7 0#32 = ![0, 0, 0] := by decide +kernel
/-- In the second trip, where the slot of the awaited fetch starts. -/
theorem off7_1 : k0_off7 1#32 = ![1, 0, 0] := by decide +kernel
/-- In the first trip, where the window of the awaited fetch starts. -/
theorem off8_0 : ∀ L : grid0.Coords, k0_off8 L 0#32 = ![0, base L] := by decide +kernel
/-- In the second trip, where the window of the awaited fetch starts. -/
theorem off8_1 : ∀ L : grid0.Coords, k0_off8 L 1#32 = ![0, base L + 256] := by decide +kernel
/-- In the first trip, where the semaphore of the awaited fetch stands. -/
theorem off9_0 : k0_off9 0#32 = ![0] := by decide +kernel
/-- In the second trip, where the semaphore of the awaited fetch stands. -/
theorem off9_1 : k0_off9 1#32 = ![1] := by decide +kernel
/-- In the first trip, where the slot of rows that the gather fills starts. -/
theorem off10_0 : k0_off10 0#32 = ![0, 0, 0] := by decide +kernel
/-- In the second trip, where the slot of rows that the gather fills starts. -/
theorem off10_1 : k0_off10 1#32 = ![1, 0, 0] := by decide +kernel
/-- In the first trip, where the slot of indices that the gather reads starts. -/
theorem off11_0 : k0_off11 0#32 = ![0, 0, 0] := by decide +kernel
/-- In the second trip, where the slot of indices that the gather reads starts. -/
theorem off11_1 : k0_off11 1#32 = ![1, 0, 0] := by decide +kernel
/-- In the first trip, where the slot that is written back starts. -/
theorem off12_0 : k0_off12 0#32 = ![0, 0, 0] := by decide +kernel
/-- In the second trip, where the slot that is written back starts. -/
theorem off12_1 : k0_off12 1#32 = ![1, 0, 0] := by decide +kernel
/-- In the first trip, where the window of the result that is written starts. -/
theorem off13_0 : ∀ L : grid0.Coords, k0_off13 L 0#32 = ![base L, 0] := by decide +kernel
/-- In the second trip, where the window of the result that is written starts. -/
theorem off13_1 : ∀ L : grid0.Coords, k0_off13 L 1#32 = ![base L + 256, 0] := by decide +kernel
/-- In the first trip, where the semaphore of the write-back stands. -/
theorem off14_0 : k0_off14 0#32 = ![0] := by decide +kernel
/-- In the second trip, where the semaphore of the write-back stands. -/
theorem off14_1 : k0_off14 1#32 = ![1] := by decide +kernel
/-- In the first trip, where the slot of the earlier write-back, now awaited, starts. -/
theorem off15_0 : k0_off15 0#32 = ![0, 0, 0] := by decide +kernel
/-- In the second trip, where the window of the earlier write-back, now awaited, starts. -/
theorem off16_1 : ∀ L : grid0.Coords, k0_off16 L 1#32 = ![base L, 0] := by decide +kernel
/-- In the first trip, where the semaphore of the earlier write-back, now awaited, stands. -/
theorem off17_0 : k0_off17 0#32 = ![0] := by decide +kernel
/-- Where the window of the last write-back, awaited after the loop, starts. -/
theorem off19_0 : ∀ L : grid0.Coords, k0_off19 L 0#32 = ![base L + 256, 0] := by decide +kernel
/-- Where the semaphore of the last write-back, awaited after the loop, stands. -/
theorem off20_1 : k0_off20 1#32 = ![1] := by decide +kernel
/-- Where the slot of the last write-back, awaited after the loop, starts. -/
theorem off21_1 : k0_off21 1#32 = ![1, 0, 0] := by decide +kernel

/-! ## Conditions and side conditions -/

/-- The first trip fetches the next window of indices. -/
theorem cond1_0 : ∀ L : grid0.Coords, k0_cond1 L trip0 0#32 = 1#1 := by decide +kernel
/-- The second trip fetches no further window. -/
theorem cond1_1 : ∀ L : grid0.Coords, ¬k0_cond1 L trip1 1#32 = 1#1 := by decide +kernel
/-- The first trip awaits its window of indices. -/
theorem cond2_0 : ∀ L : grid0.Coords, k0_cond2 L trip0 0#32 = 1#1 := by decide +kernel
/-- The second trip awaits its window of indices. -/
theorem cond2_1 : ∀ L : grid0.Coords, k0_cond2 L trip1 1#32 = 1#1 := by decide +kernel
/-- The first trip writes its rows back. -/
theorem cond5_0 : ∀ L : grid0.Coords, k0_cond5 L trip0 0#32 = 1#1 := by decide +kernel
/-- The second trip writes its rows back. -/
theorem cond5_1 : ∀ L : grid0.Coords, k0_cond5 L trip1 1#32 = 1#1 := by decide +kernel
/-- The first trip awaits no earlier write-back. -/
theorem cond7_0 : ∀ L : grid0.Coords, ¬k0_cond7 L trip0 0#32 = 1#1 := by decide +kernel
/-- The second trip awaits the write-back of the first. -/
theorem cond7_1 : ∀ L : grid0.Coords, k0_cond7 L trip1 1#32 = 1#1 := by decide +kernel

/-- The slot that the gather of the first trip reads lies inside the index buffer. -/
theorem chk3_0 : k0_chk3 0#32 := by decide +kernel
/-- The slot that the gather of the second trip reads lies inside the index buffer. -/
theorem chk3_1 : k0_chk3 1#32 := by decide +kernel
/-- The slot that the gather of the first trip fills lies inside the row buffer. -/
theorem chk2_0 : k0_chk2 0#32 := by decide +kernel
/-- The slot that the gather of the second trip fills lies inside the row buffer. -/
theorem chk2_1 : k0_chk2 1#32 := by decide +kernel
/-- The offsets of the first trip lie inside their arrays. -/
theorem chk1_0 : ∀ L : grid0.Coords, k0_chk1 L trip0 1#32 0#32 0#32 0#32 0#32 := by decide +kernel
/-- The offsets of the second trip lie inside their arrays. -/
theorem chk1_1 : ∀ L : grid0.Coords, k0_chk1 L trip1 2#32 1#32 1#32 0#32 1#32 := by decide +kernel
/-- The window of the last write-back lies inside the result. -/
theorem chk5_0 : ∀ L : grid0.Coords, k0_chk5 L 0#32 := by decide +kernel
/-- The slot and the semaphore of the last write-back lie inside their arrays. -/
theorem chk4_1 : k0_chk4 1#32 := by decide +kernel

end Cert.Proof.GatherTile

end
-- ==== Proof.Views.lean ====
module

public import proofs.«01_k».proof.Defs
public import proofs.«01_k».proof.Proof.TileFacts
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.Pointwise.Index

@[expose] public section

noncomputable section

namespace Cert.Proof.GatherTile

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The labels of the program's calls. -/
abbrev ΛP : Labels := Pipeline.Sig Λ₀ (Fin 0) fun p => (pcfgs (F := F) p).Adm
/-- The SparseCore call's configuration. -/
abbrev K : SparseCore.Cfg τ sig (ΛP (F := F)) 1 := sc (F := F)
/-- The program's definitions. -/
abbrev D [FloatOps F] : Defs nD τ sig (Elt F) (ΛP (F := F)) := Pipeline.defs pcfgs defs₀
/-- No call here recurses. -/
abbrev 𝒱₀ : Variants := Variants.none
/-- The same for the lifted labels. -/
abbrev 𝒱 : Variants := 𝒱₀.lift
/-- The variant at which each thread starts. -/
abbrev v₀ : 𝒱.V := Sum.inl none

/-- The ghost state of the handshakes. -/
abbrev UH : Type := URounds (GSem nD τ sig) ℕ
/-- The whole ghost state: the handshakes' and the transfers' counters. -/
abbrev UU : Type := UH × Counters

local notation "𝕄" => MT nD τ sig (HIx 1) (Elt F) ℕ UU ℕ

/-- The padded table on device `d`. -/
abbrev xLoc (d : Dev nD) : Loc nD τ sig := (SparseCore.T d).loc main_v0
/-- The index row on device `d`. -/
abbrev iLoc (d : Dev nD) : Loc nD τ sig := (SparseCore.T d).loc main_v1
/-- The gathered rows on device `d`. -/
abbrev oLoc (d : Dev nD) : Loc nD τ sig := (SparseCore.T d).loc main_v2

/-- The padded table, as a tile sees it. -/
abbrev xV : Memref sig .scVector .hbm S1024x128 .f32 := Memref.whole main_v0_scv
/-- The index row, as a tile sees it. -/
abbrev iV : Memref sig .scVector .hbm S1x16384 .i32 := Memref.whole main_v1_scv
/-- The gathered rows, as a tile sees them. -/
abbrev oV : Memref sig .scVector .hbm S16384x128 .f32 := Memref.whole main_v2_scv
/-- A tile's double buffer of indices, whole. -/
abbrev sV : Memref sig .scVector .vmem S2x1x256 .i32 := Memref.whole cc0_scoped0
/-- A tile's double buffer of rows, whole. -/
abbrev rV : Memref sig .scVector .vmem S2x256x128 .f32 := Memref.whole cc0_scoped2

/-- A tile's 512 indices lie inside the row. -/
theorem base_le (L : grid0.Coords) : base L + 512 ≤ 16384 := by
  have h0 : (L 0).val < 2 := (L 0).isLt
  have h1 : (L 1).val < 16 := (L 1).isLt
  unfold base; omega

/-- A window of 256 indices lies inside the index row. -/
theorem iwin_inb (r : ℕ) (h : r + 256 ≤ 16384) : ∀ a, (![0, r] : Fin 2 → ℕ) a + S1x256.size a ≤ S1x16384.size a := by
  intro a
  match a with
  | 0 => exact Nat.le_refl _
  | 1 => exact h
/-- A window of 256 rows lies inside the result. -/
theorem owin_inb (r : ℕ) (h : r + 256 ≤ 16384) : ∀ a, (![r, 0] : Fin 2 → ℕ) a + S256x128.size a ≤ S16384x128.size a := by
  intro a
  match a with
  | 0 => exact h
  | 1 => exact Nat.le_refl _
/-- A slot lies inside the index buffer. -/
theorem islot_inb (s : Fin 2) : ∀ a, (![s.val, 0, 0] : Fin 3 → ℕ) a + S1x1x256.size a ≤ S2x1x256.size a := by revert s; decide
/-- A slot lies inside the row buffer. -/
theorem rslot_inb (s : Fin 2) : ∀ a, (![s.val, 0, 0] : Fin 3 → ℕ) a + S1x256x128.size a ≤ S2x256x128.size a := by revert s; decide

/-- Rows `r .. r + 255` of the index array. -/
abbrev iWin (r : ℕ) (h : r + 256 ≤ 16384) : Memref sig .scVector .hbm S1x256 .i32 :=
  iV.slice (Rect.unit (s := S1x16384) ![0, r] S1x256.size (iwin_inb r h)) (fun _ => rfl)
/-- Rows `r .. r + 255` of the result. -/
abbrev oWin (r : ℕ) (h : r + 256 ≤ 16384) : Memref sig .scVector .hbm S256x128 .f32 :=
  oV.slice (Rect.unit (s := S16384x128) ![r, 0] S256x128.size (owin_inb r h)) (fun _ => rfl)
/-- Slot 0 of the index buffer. -/
abbrev iSlot0 : Memref sig .scVector .vmem S1x256 .i32 :=
  (sV.slice (Rect.unit (s := S2x1x256) ![0, 0, 0] S1x1x256.size (islot_inb 0)) (fun _ => rfl)).squeeze S1x256 squeezes_S1x1x256_S1x256
/-- Slot 1 of the index buffer. -/
abbrev iSlot1 : Memref sig .scVector .vmem S1x256 .i32 :=
  (sV.slice (Rect.unit (s := S2x1x256) ![1, 0, 0] S1x1x256.size (islot_inb 1)) (fun _ => rfl)).squeeze S1x256 squeezes_S1x1x256_S1x256
/-- Slot 0 of the row buffer. -/
abbrev rSlot0 : Memref sig .scVector .vmem S256x128 .f32 :=
  (rV.slice (Rect.unit (s := S2x256x128) ![0, 0, 0] S1x256x128.size (rslot_inb 0)) (fun _ => rfl)).squeeze S256x128 squeezes_S1x256x128_S256x128
/-- Slot 1 of the row buffer. -/
abbrev rSlot1 : Memref sig .scVector .vmem S256x128 .f32 :=
  (rV.slice (Rect.unit (s := S2x256x128) ![1, 0, 0] S1x256x128.size (rslot_inb 1)) (fun _ => rfl)).squeeze S256x128 squeezes_S1x256x128_S256x128
/-- A slot of the index buffer as the list of 256 row numbers the gather reads. -/
abbrev listOf (m : Memref sig .scVector .vmem S1x256 .i32) : Memref sig .scVector .vmem S256 .i32 :=
  (m.slice (Rect.unit (s := S1x256) ![0, 0] S1x256.size inb_S1x256_S1x256_0_0) (fun _ => rfl)).squeeze S256 squeezes_S1x256_S256
/-- The whole table, as the gather reads it. -/
abbrev xAll : Memref sig .scVector .hbm S1024x128 .f32 :=
  xV.slice (Rect.unit (s := S1024x128) ![0, 0] S1024x128.size inb_S1024x128_S1024x128_0_0) (fun _ => rfl)

/-- The SparseCore of a tile. -/
abbrev cV (L : grid0.Coords) : Fin τ.nSC := (L 0).castLE hcore0
/-- A tile's number on its SparseCore. -/
abbrev jV (L : grid0.Coords) : Fin τ.nSub := (L 1).castLE hsub0

variable (d : Dev nD) (L : grid0.Coords)

/-- The tile's first window lies inside the row. -/
theorem baseA (L : grid0.Coords) : base L + 256 ≤ 16384 := by have := base_le L; omega
/-- The tile's second window lies inside the row. -/
theorem baseB (L : grid0.Coords) : base L + 256 + 256 ≤ 16384 := by have := base_le L; omega

/-- The tile's first window of indices. -/
abbrev iA (L : grid0.Coords) := iWin (base L) (baseA L)
/-- The tile's second window of indices. -/
abbrev iB (L : grid0.Coords) := iWin (base L + 256) (baseB L)
/-- The tile's first window of the result. -/
abbrev oA (L : grid0.Coords) := oWin (base L) (baseA L)
/-- The tile's second window of the result. -/
abbrev oB (L : grid0.Coords) := oWin (base L + 256) (baseB L)

/-- A semaphore of a pair lies inside the pair. -/
theorem sem_inb (s : Fin 2) : ∀ a, (![s.val] : Fin 1 → ℕ) a + S1.size a ≤ S2.size a := by revert s; decide
/-- The semaphore of the index fetches into slot 0. -/
abbrev semI0 : DmaSem sig := ((cc0_scoped1.slice (Rect.unit (s := S2) ![0] S1.size (sem_inb 0))).squeeze S_ squeezes_S1_S_).sem
/-- The semaphore of the index fetches into slot 1. -/
abbrev semI1 : DmaSem sig := ((cc0_scoped1.slice (Rect.unit (s := S2) ![1] S1.size (sem_inb 1))).squeeze S_ squeezes_S1_S_).sem
/-- The semaphore of the write-backs from slot 0. -/
abbrev semO0 : DmaSem sig := ((cc0_scoped3.slice (Rect.unit (s := S2) ![0] S1.size (sem_inb 0))).squeeze S_ squeezes_S1_S_).sem
/-- The semaphore of the write-backs from slot 1. -/
abbrev semO1 : DmaSem sig := ((cc0_scoped3.slice (Rect.unit (s := S2) ![1] S1.size (sem_inb 1))).squeeze S_ squeezes_S1_S_).sem
/-- The semaphore of the gathers. -/
abbrev semG : DmaSem sig := cc0_scoped4.sem

/-- A window of the index row, however its offset is written. -/
theorem iWin_eq {off : Fin 2 → ℕ} {r : ℕ} (e : off = ![0, r]) (h : r + 256 ≤ 16384) (p : ∀ a, off a + S1x256.size a ≤ S1x16384.size a)
    (q : ∀ a, (Rect.unit (s := S1x16384) off S1x256.size p).stride a = 1) :
    iV.slice (Rect.unit (s := S1x16384) off S1x256.size p) q = iWin r h := by subst e; rfl
/-- A window of the result, however its offset is written. -/
theorem oWin_eq {off : Fin 2 → ℕ} {r : ℕ} (e : off = ![r, 0]) (h : r + 256 ≤ 16384) (p : ∀ a, off a + S256x128.size a ≤ S16384x128.size a)
    (q : ∀ a, (Rect.unit (s := S16384x128) off S256x128.size p).stride a = 1) :
    oV.slice (Rect.unit (s := S16384x128) off S256x128.size p) q = oWin r h := by subst e; rfl
/-- Slot 0 of the index buffer, however its offset is written. -/
theorem iSlot0_eq {off : Fin 3 → ℕ} (e : off = ![0, 0, 0]) (p : ∀ a, off a + S1x1x256.size a ≤ S2x1x256.size a)
    (q : ∀ a, (Rect.unit (s := S2x1x256) off S1x1x256.size p).stride a = 1) :
    (sV.slice (Rect.unit (s := S2x1x256) off S1x1x256.size p) q).squeeze S1x256 squeezes_S1x1x256_S1x256 = iSlot0 := by subst e; rfl
/-- Slot 1 of the index buffer, however its offset is written. -/
theorem iSlot1_eq {off : Fin 3 → ℕ} (e : off = ![1, 0, 0]) (p : ∀ a, off a + S1x1x256.size a ≤ S2x1x256.size a)
    (q : ∀ a, (Rect.unit (s := S2x1x256) off S1x1x256.size p).stride a = 1) :
    (sV.slice (Rect.unit (s := S2x1x256) off S1x1x256.size p) q).squeeze S1x256 squeezes_S1x1x256_S1x256 = iSlot1 := by subst e; rfl
/-- Slot 0 of the row buffer, however its offset is written. -/
theorem rSlot0_eq {off : Fin 3 → ℕ} (e : off = ![0, 0, 0]) (p : ∀ a, off a + S1x256x128.size a ≤ S2x256x128.size a)
    (q : ∀ a, (Rect.unit (s := S2x256x128) off S1x256x128.size p).stride a = 1) :
    (rV.slice (Rect.unit (s := S2x256x128) off S1x256x128.size p) q).squeeze S256x128 squeezes_S1x256x128_S256x128 = rSlot0 := by subst e; rfl
/-- Slot 1 of the row buffer, however its offset is written. -/
theorem rSlot1_eq {off : Fin 3 → ℕ} (e : off = ![1, 0, 0]) (p : ∀ a, off a + S1x256x128.size a ≤ S2x256x128.size a)
    (q : ∀ a, (Rect.unit (s := S2x256x128) off S1x256x128.size p).stride a = 1) :
    (rV.slice (Rect.unit (s := S2x256x128) off S1x256x128.size p) q).squeeze S256x128 squeezes_S1x256x128_S256x128 = rSlot1 := by subst e; rfl
/-- A semaphore of a pair, however its offset is written. -/
theorem sem_eq {off off' : Fin 1 → ℕ} (A : DmaSems sig S2) (e : off = off') (p : ∀ a, off a + S1.size a ≤ S2.size a) (p' : ∀ a, off' a + S1.size a ≤ S2.size a) :
    ((A.slice (Rect.unit (s := S2) off S1.size p)).squeeze S_ squeezes_S1_S_).sem = ((A.slice (Rect.unit (s := S2) off' S1.size p')).squeeze S_ squeezes_S1_S_).sem := by subst e; rfl

/-- Where the transfers' counters live in the ghost state. -/
abbrev EC : UEmb Counters 𝕄 := countersEmb

/-- A memref's elements at contents `f`, at share `q`. -/
abbrev pts {s : Shape} {e : EltTy} {sp : Space} (d : Dev nD) (L : grid0.Coords) (m : Memref sig .scVector sp s e) (q : PosShare TreeShare)
    (f : Buf (Elt F) (m.view.loc (V d (cV L) (jV L)))) : sProp 𝕄 := m.view.loc (V d (cV L) (jV L)) ↦[m.view.set]{q} f

/-! ## What the buffers hold -/

/-- Contents of the padded table. -/
abbrev XBuf (F : FTy → Type) : Type := S1024x128.Idx → Elt F .f32
/-- Contents of the index row. -/
abbrev IBuf (F : FTy → Type) : Type := S1x16384.Idx → Elt F .i32

/-- The row of the table a word names. -/
def rowOf (w : BitVec 32) : Fin 1024 := Fin.ofNat 1024 w.toNat

/-- The gathered rows: row `x 0` of the result is the table's row that entry `x 0` of the index array names. -/
def G (T : S1024x128.Idx → Elt F .f32) (I : S1x16384.Idx → Elt F .i32) : S16384x128.Idx → Elt F .f32 :=
  fun x => T (ix2 (rowOf (I (ix2 0 (x 0)))) (x 1))

/-- The list a slot holds, read by position. -/
theorem listOf_read (m : Memref sig .scVector .vmem S1x256 .i32) (f : m.view.ty.Contents (Elt F)) (x : S256.Idx) :
    (listOf m).view.read (Elt F) f x = m.view.read (Elt F) f (ix2 0 (x 0)) := by
  have e : (listOf m).view.emb x = m.view.emb (ix2 0 (x 0)) := by
    show m.view.emb ((Rect.unit (s := S1x256) ![0, 0] S1x256.size inb_S1x256_S1x256_0_0).emb (Shape.reshapeEquiv _ x)) = _
    congr 1
    rw [Shape.reshapeEquiv_eq_of_rowMajor (y := (ix2 0 (x 0) : S1x256.Idx)) _ (by
      rw [Shape.rowMajor_val_one]
      exact (Shape.rowMajor_val_two _).trans (by simp))]
    funext a
    apply Fin.ext
    match a with
    | 0 => rfl
    | 1 => simp [Rect.emb, LoadRect.idx, Rect.unit]
  rw [View.read_apply, View.read_apply, e]

/-- The list that a gather reads is the whole of its slot. -/
theorem set_listOf (m : Memref sig .scVector .vmem S1x256 .i32) : (listOf m).view.set = m.view.set := by
  show ((m.view.slice (Rect.unit (s := S1x256) ![0, 0] S1x256.size inb_S1x256_S1x256_0_0)).reshape S256 squeezes_S1x256_S256.numel_eq).set = _
  rw [View.set_reshape, View.set_slice, View.set]
  refine congrArg (Finset.map m.view.emb) (Finset.eq_univ_of_forall fun x => ?_)
  rw [← Rect.map_emb_univ]
  refine Finset.mem_map.mpr ⟨x, Finset.mem_univ _, ?_⟩
  funext a
  apply Fin.ext
  match a with
  | 0 => simp [Rect.emb, LoadRect.idx, Rect.unit]
  | 1 => simp [Rect.emb, LoadRect.idx, Rect.unit]

/-- The view that the gather reads is the whole table. -/
theorem set_xAll : xAll.view.set = Finset.univ := by
  refine Finset.eq_univ_of_forall fun x => ?_
  show x ∈ ((View.whole main_v0_scv).slice _).set
  rw [View.set_slice_whole, ← Rect.map_emb_univ]
  refine Finset.mem_map.mpr ⟨x, Finset.mem_univ _, ?_⟩
  funext a
  apply Fin.ext
  match a with
  | 0 => simp [Rect.emb, LoadRect.idx, Rect.unit]
  | 1 => simp [Rect.emb, LoadRect.idx, Rect.unit]

/-- Where an element of an index window stands in the index row. -/
theorem iWin_emb (r : ℕ) (h : r + 256 ≤ 16384) (y : S1x256.Idx) :
    (iWin r h).view.emb y = (ix2 0 ⟨r + (y 1).val, by have := (y 1).isLt; have : (y 1).val < 256 := this; omega⟩ : S1x16384.Idx) := by
  show (Rect.unit (s := S1x16384) ![0, r] S1x256.size (iwin_inb r h)).emb y = _
  funext a
  apply Fin.ext
  match a with
  | 0 => have := (y 0).isLt; have : (y 0).val < 1 := this; simp [Rect.emb, LoadRect.idx, Rect.unit]; omega
  | 1 => simp [Rect.emb, LoadRect.idx, Rect.unit]

/-- Where an element of a result window stands in the result. -/
theorem oWin_emb (r : ℕ) (h : r + 256 ≤ 16384) (y : S256x128.Idx) :
    (oWin r h).view.emb y = (ix2 ⟨r + (y 0).val, by have := (y 0).isLt; have : (y 0).val < 256 := this; omega⟩ (y 1) : S16384x128.Idx) := by
  show (Rect.unit (s := S16384x128) ![r, 0] S256x128.size (owin_inb r h)).emb y = _
  funext a
  apply Fin.ext
  match a with
  | 0 => simp [Rect.emb, LoadRect.idx, Rect.unit]
  | 1 => simp [Rect.emb, LoadRect.idx, Rect.unit]

/-- After the fetch of a window, the slot's list is the window's entries in order. -/
theorem fetched (m : Memref sig .scVector .vmem S1x256 .i32) (f : m.view.ty.Contents (Elt F)) (I : S1x16384.Idx → Elt F .i32) (r : ℕ) (h : r + 256 ≤ 16384) (x : S256.Idx) :
    (listOf m).view.read (Elt F) (m.view.write (Elt F) f ((iWin r h).view.read (Elt F) I) Finset.univ) x
      = I (ix2 0 ⟨r + (x 0).val, by have := (x 0).isLt; have : (x 0).val < 256 := this; omega⟩) := by
  rw [listOf_read, View.read_write_univ]
  refine ((View.read_apply _ _).trans (cast_eq _ _)).trans ?_
  rw [iWin_emb]
  rfl

/-- A fetched window of indices names rows of the table only, if the index row does. -/
theorem fetched_lt (m : Memref sig .scVector .vmem S1x256 .i32) (f : m.view.ty.Contents (Elt F)) (I : S1x16384.Idx → Elt F .i32) (r : ℕ) (h : r + 256 ≤ 16384)
    (hI : ∀ x, (I x : BitVec 32).toNat < 1024) (x : S256.Idx) :
    ((listOf m).view.read (Elt F) (m.view.write (Elt F) f ((iWin r h).view.read (Elt F) I) Finset.univ) x : BitVec 32).toNat
      < S1024x128.size gathers_S1024x128_S256x128.axis := by
  rw [fetched]; exact hI _

/-- What the gather through such a list brings, at each element the window of the result it is copied to. -/
theorem payload_eq (T : S1024x128.Idx → Elt F .f32) (I : S1x16384.Idx → Elt F .i32) (r : ℕ) (h : r + 256 ≤ 16384)
    (l : S256.Idx → Elt F .i32) (hl : ∀ x, l x = I (ix2 0 ⟨r + (x 0).val, by have := (x 0).isLt; have : (x 0).val < 256 := this; omega⟩))
    (hn : S256.numel = S256x128.size gathers_S1024x128_S256x128.axis') (hin : ∀ x, (l x : BitVec 32).toNat < S1024x128.size gathers_S1024x128_S256x128.axis) (y : S256x128.Idx) :
    SparseCore.gatherPayload gathers_S1024x128_S256x128 (xAll.view.read (Elt F) T) (SparseCore.rows l hn hin) y = G T I ((oWin r h).view.emb y) := by
  unfold SparseCore.gatherPayload G
  refine ((View.read_apply _ _).trans (cast_eq _ _)).trans ?_
  rw [oWin_emb]
  congr 1
  have hy : (S256.rowMajor.symm ((y 0 : Fin 256).cast hn.symm)) = (ix1 (n0 := 256) (y 0) : S256.Idx) := by
    refine (Equiv.symm_apply_eq _).mpr ?_
    exact Fin.ext (Shape.rowMajor_val_one (d := ![256]) (ix1 (n0 := 256) (y 0))).symm
  show (Rect.unit (s := S1024x128) ![0, 0] S1024x128.size inb_S1024x128_S1024x128_0_0).emb (gathers_S1024x128_S256x128.idx _ y) = _
  funext a
  apply Fin.ext
  match a with
  | 0 =>
    have e := congrArg Fin.val (Shape.Gathers.idx_axis gathers_S1024x128_S256x128 (SparseCore.rows l hn hin) y)
    have hlt := hin (ix1 (n0 := 256) (y 0) : S256.Idx)
    rw [hl] at hlt
    have e2 : (SparseCore.rows l hn hin (y 0)).val = (I (ix2 0 ⟨r + (y 0).val, by have := (y 0).isLt; have : (y 0).val < 256 := this; omega⟩) : BitVec 32).toNat := by
      show (l (S256.rowMajor.symm ((y 0 : Fin 256).cast hn.symm)) : BitVec 32).toNat = _
      rw [hy]
      exact congrArg BitVec.toNat (hl _)
    show 0 + 1 * (gathers_S1024x128_S256x128.idx (SparseCore.rows l hn hin) y 0).val = (_ % 1024 : ℕ)
    rw [Nat.zero_add, Nat.one_mul]
    refine (e.trans e2).trans (Nat.mod_eq_of_lt hlt).symm
  | 1 =>
    have e := Shape.Gathers.idx_of_ne gathers_S1024x128_S256x128 (SparseCore.rows l hn hin) y 1 (by decide)
    show 0 + 1 * (gathers_S1024x128_S256x128.idx (SparseCore.rows l hn hin) y 1).val = (y 1).val
    rw [Nat.zero_add, Nat.one_mul]
    exact e

/-- The window after the copy holds the gathered rows, wherever it lies in the window. -/
theorem window_eq (T : S1024x128.Idx → Elt F .f32) (I : S1x16384.Idx → Elt F .i32) (r : ℕ) (h : r + 256 ≤ 16384) (fo : S16384x128.Idx → Elt F .f32)
    (P : S256x128.Idx → Elt F .f32) (hP : ∀ y, P y = G T I ((oWin r h).view.emb y)) (i : S16384x128.Idx) (hi : i ∈ (oWin r h).view.set) :
    (oWin r h).view.write (Elt F) fo P Finset.univ i = G T I i := by
  obtain ⟨y, -, rfl⟩ := Finset.mem_map.mp hi
  rw [View.write_emb_of_mem _ _ (Finset.mem_univ y), hP]
  rfl

end Cert.Proof.GatherTile
-- ==== Proof.Tile.lean ====
module

public import proofs.«01_k».proof.Proof.Views

@[expose] public section

noncomputable section

namespace Cert.Proof.GatherTile

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)

/-- The 256 row transfers of a gather into a slot complete the slot's amount together. -/
theorem hN0 : ∀ h : S1024x128.Gathers 0 S256x128, ∑ j, (rSlot0.slice (S256x128.rowRect h.axis' j) (S256x128.stride_rowRect h.axis' j)).view.dmaCredit
      = rSlot0.view.dmaCredit := by decide +kernel
/-- The rows of slot 1 together count as much on their semaphore as the slot. -/
theorem hN1 : ∀ h : S1024x128.Gathers 0 S256x128, ∑ j, (rSlot1.slice (S256x128.rowRect h.axis' j) (S256x128.stride_rowRect h.axis' j)).view.dmaCredit
      = rSlot1.view.dmaCredit := by decide +kernel

section

variable [FloatOps F] (O : CellTallies nD τ sig (HIx 1)) (W : Waits sig (HIx 1)) (qi qx : PosShare TreeShare)
    (I : Buf (Elt F) (iLoc d)) (T : Buf (Elt F) (xLoc d))

/-- A fetch of the window `w` of the index array into the slot `m`, in flight on `sm`. -/
abbrev idxFlight (m : Memref sig .scVector .vmem S1x256 .i32) (w : Memref sig .scVector .hbm S1x256 .i32) (sm : DmaSem sig)
    (f : Buf (Elt F) (m.view.loc (V d (cV L) (jV L)))) (I : Buf (Elt F) (w.view.loc (V d (cV L) (jV L)))) : sProp 𝕄 :=
  Transfers.Flight (EC (F := F)) (V d (cV L) (jV L)) (.dma sm) (default : HIx 1) 8192
    iprop(pts d L m fullShare (m.view.write (Elt F) f (w.view.read (Elt F) I) Finset.univ) ∗ pts d L w qi I)

/-- A copy of the slot `m` to the window `w` of the result, in flight on `sm`: it leaves the window at `g`. -/
abbrev outFlight (m : Memref sig .scVector .vmem S256x128 .f32) (w : Memref sig .scVector .hbm S256x128 .f32) (sm : DmaSem sig)
    (g : Buf (Elt F) (w.view.loc (V d (cV L) (jV L)))) : sProp 𝕄 :=
  Transfers.Flight (EC (F := F)) (V d (cV L) (jV L)) (.dma sm) (default : HIx 1) 1048576
    iprop(pts d L w fullShare g ∗ ∃ f, pts d L m fullShare f)

/-- The thread owes `O` and has recorded no wait beyond `W` but those of its own transfers. -/
abbrev owing : sProp 𝕄 := iprop(∃ W', ⌜∀ p ∈ W', p ∈ W ∨ p.2 = none⌝ ∗ owes (V d (cV L) (jV L)) O W')

/-- The fetch's payload, however it is spelt. -/
theorem idxFlight_of (m : Memref sig .scVector .vmem S1x256 .i32) (w : Memref sig .scVector .hbm S1x256 .i32) (sm : DmaSem sig)
    (f : Buf (Elt F) (m.view.loc (V d (cV L) (jV L)))) (I : Buf (Elt F) (w.view.loc (V d (cV L) (jV L)))) (x : S1x256.Idx → Elt F .i32)
    (hx : x = w.view.read (Elt F) I) :
    (Transfers.Flight (EC (F := F)) (V d (cV L) (jV L)) (.dma sm) (default : HIx 1) 8192
      iprop(pts d L m fullShare (m.view.writes (Elt F) f [⟨Rect.whole S1x256, x⟩]) ∗ pts d L w qi I) : sProp 𝕄) ⊢ idxFlight d L qi m w sm f I := by
  subst hx
  rw [idxFlight, ← View.write_univ_eq_writes_whole m.view f [] (w.view.read (Elt F) I)]
  exact Entails.refl _

/-- A copy out whose payload is the gathered rows leaves them. -/
theorem outFlight_of (m : Memref sig .scVector .vmem S256x128 .f32) (r : ℕ) (h : r + 256 ≤ 16384) (sm : DmaSem sig)
    (g : Buf (Elt F) (m.view.loc (V d (cV L) (jV L)))) (fo : Buf (Elt F) (oLoc d)) (x : S256x128.Idx → Elt F .f32)
    (hx : ∀ y, x y = G T I ((oWin r h).view.emb y)) :
    (Transfers.Flight (EC (F := F)) (V d (cV L) (jV L)) (.dma sm) (default : HIx 1) 1048576
      iprop(pts d L (oWin r h) fullShare ((oWin r h).view.writes (Elt F) fo [⟨Rect.whole S256x128, x⟩]) ∗ pts d L m fullShare g) : sProp 𝕄)
        ⊢ outFlight d L m (oWin r h) sm (G T I) := by
  refine Transfers.Flight_mono (EC (F := F)) (V d (cV L) (jV L)) (sep_mono (Entails.of_eq (pointsTo_congr fun i hi => ?_)) (by iintro H; iexists _; iexact H))
  rw [← View.write_univ_eq_writes_whole (oWin r h).view fo [] x]
  exact window_eq T I r h fo x hx i hi

set_option maxHeartbeats 4000000 in
/-- The pipeline's first trip: it starts the second index fetch, waits for the first, gathers the first 256 rows and
    starts their copy to the first window of the result. -/
theorem trip0_body (fo : Buf (Elt F) (oLoc d)) (f0 : Buf (Elt F) (iSlot0.view.loc (V d (cV L) (jV L)))) (f1 : Buf (Elt F) (iSlot1.view.loc (V d (cV L) (jV L))))
    (g0 : Buf (Elt F) (rSlot0.view.loc (V d (cV L) (jV L)))) (hI : ∀ x, (I x : BitVec 32).toNat < 1024) :
    iprop(Transfers.MayWaits (V d (cV L) (jV L)) (default : HIx 1) O ∗ idxFlight d L qi iSlot0 (iA L) semI0 f0 I
      ∗ pts d L iSlot1 fullShare f1 ∗ pts d L (iB L) qi I ∗ pts d L rSlot0 fullShare g0 ∗ pts d L xAll qx T ∗ pts d L (oA L) fullShare fo
      ∗ semVal (V d (cV L) (jV L), .dma semI1) 0 ∗ semVal (V d (cV L) (jV L), .dma semO0) 0 ∗ semVal (V d (cV L) (jV L), .dma semG) 0
      ∗ owing d L O W)
     ⊢ wp frame (wpE (defs₀ (F := F)) 𝒱₀ (V d (cV L) (jV L)) none) Set.univ
          (k0_t1_body (F := F) L xV (Memref.isWhole_whole _) iV (Memref.isWhole_whole _) oV (Memref.isWhole_whole _)
            sV (Memref.isWhole_whole _) cc0_scoped1 rV (Memref.isWhole_whole _) cc0_scoped3 cc0_scoped4 (firstBlock L) trip0 (1#32, 0#32, 0#32, 0#32, 0#32))
          fun r => iprop(⌜r = (2#32, 1#32, 1#32, 0#32, 1#32)⌝ ∗ idxFlight d L qi iSlot1 (iB L) semI1 f1 I ∗ pts d L (iA L) qi I
            ∗ semVal (V d (cV L) (jV L), .dma semI0) 0 ∗ pts d L xAll qx T ∗ (∃ f, pts d L iSlot0 fullShare f) ∗ semVal (V d (cV L) (jV L), .dma semG) 0
            ∗ outFlight d L rSlot0 (oA L) semO0 (G T I) ∗ owing d L O W) := by
  unfold k0_t1_body
  simp only [k0_part1_eq_skeleton, k0_part2_eq_skeleton]
  unfold k0_part1_skel k0_part2_skel
  simp only [dif_pos (cond1_0 L), dif_pos (cond2_0 L), dif_pos (cond5_0 L), dif_neg (cond7_0 L), ite_self]
  simp only [iSlot1_eq off4_1, iWin_eq (off5_0 L) (baseB L), sem_eq cc0_scoped1 off6_1 _ (sem_inb 1), iSlot0_eq off7_0, iWin_eq (off8_0 L) (baseA L),
    sem_eq cc0_scoped1 off9_0 _ (sem_inb 0), rSlot0_eq off10_0, iSlot0_eq off11_0, rSlot0_eq off12_0, oWin_eq (off13_0 L) (baseA L),
    sem_eq cc0_scoped3 off14_0 _ (sem_inb 0)]
  have h1 := chk1_0 L
  have h2 := chk2_0
  have h3 := chk3_0
  iintro ⟨#Hmw, Hf0, Hi1, HiB, Hr0, Hx, HoA, Hs1, Ho0, HsG, ⟨%W', %hW', HO⟩⟩
  sl_exec
  ihave Hi0 := (Entails.of_eq (show (pts d L iSlot0 fullShare _ : sProp 𝕄) = (listOf iSlot0).view.loc (V d (cV L) (jV L)) ↦[(listOf iSlot0).view.set]{fullShare}
    iSlot0.view.write (Elt F) f0 ((iA L).view.read (Elt F) I) Finset.univ by rw [set_listOf])) $$ Hf0_dst
  iapply (SparseCore.wp_indirectGatherLocal countersEmb 𝒱₀ (V d (cV L) (jV L)) none (hg := gathers_S1024x128_S256x128) (default : HIx 1)
      rSlot0.view.dmaCredit (hN0 _) (by decide) (fetched_lt iSlot0 f0 I (base L) (baseA L) hI)) $$ [Hx Hr0 Hi0 HsG]
  · isplitl [Hx]; · iexact Hx
    isplitl [Hr0]; · iexact Hr0
    isplitl [Hi0]; · iexact Hi0
    iexact HsG
  iintro Hfl
  sl_exec
  iapply (Transfers.wp_waitLocalO countersEmb 𝒱₀ (V d (cV L) (jV L)) none (default : HIx 1) (rfl : rSlot0.view.dmaCredit = _)) $$ [Hfl HO]
  · isplitl [Hfl]; · iexact Hfl
    isplitl [HO]; · iexact HO
    iapply (Transfers.MayWaits.elim (SemLoc.dma semG)) $$ Hmw
  iintro ⟨⟨Hr0, Hx, Hi0⟩, HsG, HO⟩
  sl_exec
  sl_step
  isplitr
  · ipureintro
    clear * - L
    revert L
    decide +kernel
  isplitl [Hs1]
  · iapply (idxFlight_of d L qi iSlot1 (iB L) semI1 f1 I _ ?_)
    swap; · iexact Hs1
    rfl
  isplitl [Hf0_src]; · iexact Hf0_src
  isplitl [Hf0]; · iexact Hf0
  isplitl [Hx]; · iexact Hx
  isplitl [Hi0]
  · iexists _
    iapply (Entails.of_eq (show ((listOf iSlot0).view.loc (V d (cV L) (jV L)) ↦[(listOf iSlot0).view.set]{fullShare} _ : sProp 𝕄) = pts d L iSlot0 fullShare _ by rw [set_listOf]))
    iexact Hi0
  isplitl [HsG]; · iexact HsG
  isplitl [Ho0]
  · iapply (outFlight_of d L I T rSlot0 (base L) (baseA L) semO0 _ fo _ (fun y => ?_))
    swap; · iexact Ho0
    exact (congrFun (View.read_write_univ (v := rSlot0.view) g0 _) y).trans (payload_eq T I (base L) (baseA L) _ (fetched iSlot0 f0 I (base L) (baseA L)) _
        (fetched_lt iSlot0 f0 I (base L) (baseA L) hI) y)
  iexists _
  isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

set_option maxHeartbeats 4000000 in
/-- The pipeline's second trip: it waits for the second index fetch, gathers the second 256 rows, starts their copy to
    the second window and waits for the first window's copy. -/
theorem trip1_body (fo : Buf (Elt F) (oLoc d)) (f1 : Buf (Elt F) (iSlot1.view.loc (V d (cV L) (jV L))))
    (g1 : Buf (Elt F) (rSlot1.view.loc (V d (cV L) (jV L)))) (hI : ∀ x, (I x : BitVec 32).toNat < 1024) :
    iprop(Transfers.MayWaits (V d (cV L) (jV L)) (default : HIx 1) O ∗ idxFlight d L qi iSlot1 (iB L) semI1 f1 I
      ∗ pts d L rSlot1 fullShare g1 ∗ pts d L xAll qx T ∗ pts d L (oB L) fullShare fo ∗ outFlight d L rSlot0 (oA L) semO0 (G T I)
      ∗ semVal (V d (cV L) (jV L), .dma semO1) 0 ∗ semVal (V d (cV L) (jV L), .dma semG) 0
      ∗ owing d L O W)
     ⊢ wp frame (wpE (defs₀ (F := F)) 𝒱₀ (V d (cV L) (jV L)) none) Set.univ
          (k0_t1_body (F := F) L xV (Memref.isWhole_whole _) iV (Memref.isWhole_whole _) oV (Memref.isWhole_whole _)
            sV (Memref.isWhole_whole _) cc0_scoped1 rV (Memref.isWhole_whole _) cc0_scoped3 cc0_scoped4 (firstBlock L) trip1 (2#32, 1#32, 1#32, 0#32, 1#32))
          fun r => iprop(⌜r = (2#32, 2#32, 2#32, 1#32, 0#32)⌝ ∗ pts d L (iB L) qi I ∗ semVal (V d (cV L) (jV L), .dma semI1) 0
            ∗ pts d L xAll qx T ∗ (∃ f, pts d L iSlot1 fullShare f) ∗ semVal (V d (cV L) (jV L), .dma semG) 0
            ∗ outFlight d L rSlot1 (oB L) semO1 (G T I)
            ∗ pts d L (oA L) fullShare (G T I) ∗ (∃ f, pts d L rSlot0 fullShare f) ∗ semVal (V d (cV L) (jV L), .dma semO0) 0 ∗ owing d L O W) := by
  unfold k0_t1_body
  simp only [k0_part1_eq_skeleton, k0_part2_eq_skeleton]
  unfold k0_part1_skel k0_part2_skel
  simp only [dif_neg (cond1_1 L), dif_pos (cond2_1 L), dif_pos (cond5_1 L), dif_pos (cond7_1 L), ite_self]
  simp only [iSlot1_eq off7_1, iWin_eq (off8_1 L) (baseB L),
    sem_eq cc0_scoped1 off9_1 _ (sem_inb 1), rSlot1_eq off10_1, iSlot1_eq off11_1, rSlot1_eq off12_1, oWin_eq (off13_1 L) (baseB L),
    sem_eq cc0_scoped3 off14_1 _ (sem_inb 1), rSlot0_eq off15_0, oWin_eq (off16_1 L) (baseA L), sem_eq cc0_scoped3 off17_0 _ (sem_inb 0)]
  have h1 := chk1_1 L
  have h2 := chk2_1
  have h3 := chk3_1
  iintro ⟨#Hmw, Hf1, Hr1, Hx, HoB, Ho0, Ho1, HsG, ⟨%W', %hW', HO⟩⟩
  sl_exec
  ihave Hi1 := (Entails.of_eq (show (pts d L iSlot1 fullShare _ : sProp 𝕄) = (listOf iSlot1).view.loc (V d (cV L) (jV L)) ↦[(listOf iSlot1).view.set]{fullShare}
    iSlot1.view.write (Elt F) f1 ((iB L).view.read (Elt F) I) Finset.univ by rw [set_listOf])) $$ Hf1_dst
  iapply (SparseCore.wp_indirectGatherLocal countersEmb 𝒱₀ (V d (cV L) (jV L)) none (hg := gathers_S1024x128_S256x128) (default : HIx 1)
      rSlot1.view.dmaCredit (hN1 _) (by decide) (fetched_lt iSlot1 f1 I (base L + 256) (baseB L) hI)) $$ [Hx Hr1 Hi1 HsG]
  · isplitl [Hx]; · iexact Hx
    isplitl [Hr1]; · iexact Hr1
    isplitl [Hi1]; · iexact Hi1
    iexact HsG
  iintro Hfl
  sl_exec
  iapply (Transfers.wp_waitLocalO countersEmb 𝒱₀ (V d (cV L) (jV L)) none (default : HIx 1) (rfl : rSlot1.view.dmaCredit = _)) $$ [Hfl HO]
  · isplitl [Hfl]; · iexact Hfl
    isplitl [HO]; · iexact HO
    iapply (Transfers.MayWaits.elim (SemLoc.dma semG)) $$ Hmw
  iintro ⟨⟨Hr1, Hx, Hi1⟩, HsG, HO⟩
  sl_exec
  iapply (Transfers.wp_waitLocalO countersEmb 𝒱₀ (V d (cV L) (jV L)) none (default : HIx 1) (rfl : (oA L).view.dmaCredit = 1048576)) $$ [Ho0 HO]
  · isplitl [Ho0]; · iexact Ho0
    isplitl [HO]; · iexact HO
    iapply (Transfers.MayWaits.elim (SemLoc.dma semO0)) $$ Hmw
  iintro ⟨⟨HoA, Hr0⟩, Ho0, HO⟩
  sl_exec
  sl_step
  isplitr
  · ipureintro
    clear * - L
    revert L
    decide +kernel
  isplitl [Hf1_src]; · iexact Hf1_src
  isplitl [Hf1]; · iexact Hf1
  isplitl [Hx]; · iexact Hx
  isplitl [Hi1]
  · iexists _
    iapply (Entails.of_eq (show ((listOf iSlot1).view.loc (V d (cV L) (jV L)) ↦[(listOf iSlot1).view.set]{fullShare} _ : sProp 𝕄) = pts d L iSlot1 fullShare _ by rw [set_listOf]))
    iexact Hi1
  isplitl [HsG]; · iexact HsG
  isplitl [Ho1]
  · iapply (outFlight_of d L I T rSlot1 (base L + 256) (baseB L) semO1 _ fo _ (fun y => ?_))
    swap; · iexact Ho1
    exact (congrFun (View.read_write_univ (v := rSlot1.view) g1 _) y).trans (payload_eq T I (base L + 256) (baseB L) _ (fetched iSlot1 f1 I (base L + 256) (baseB L)) _
        (fetched_lt iSlot1 f1 I (base L + 256) (baseB L) hI) y)
  isplitl [HoA]; · iexact HoA
  isplitl [Hr0]; · iexact Hr0
  isplitl [Ho0]; · iexact Ho0
  iexists _
  isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

end

end Cert.Proof.GatherTile
-- ==== Proof.Body.lean ====
module

public import proofs.«01_k».proof.Proof.Tile

@[expose] public section

noncomputable section

namespace Cert.Proof.GatherTile

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)

section

variable [FloatOps F] (O : CellTallies nD τ sig (HIx 1)) (W : Waits sig (HIx 1)) (qi qx : PosShare TreeShare)
    (I : Buf (Elt F) (iLoc d)) (T : Buf (Elt F) (xLoc d))

set_option maxHeartbeats 4000000 in
/-- The pipeline's prologue starts the first index fetch. -/
theorem part3_body (f0 : Buf (Elt F) (iSlot0.view.loc (V d (cV L) (jV L)))) :
    iprop(pts d L iSlot0 fullShare f0 ∗ pts d L (iA L) qi I ∗ semVal (V d (cV L) (jV L), .dma semI0) 0)
     ⊢ wp frame (wpE (defs₀ (F := F)) 𝒱₀ (V d (cV L) (jV L)) none) Set.univ
          (k0_part3 (F := F) L xV (Memref.isWhole_whole _) iV (Memref.isWhole_whole _) oV (Memref.isWhole_whole _)
            sV (Memref.isWhole_whole _) cc0_scoped1 rV (Memref.isWhole_whole _) cc0_scoped3 cc0_scoped4)
          fun r => iprop(⌜r = firstBlock L⌝ ∗ idxFlight d L qi iSlot0 (iA L) semI0 f0 I) := by
  simp only [k0_part3_eq_skeleton]
  unfold k0_part3_skel
  simp only [iSlot0_eq k0_off1_eq, iWin_eq (r := base L) (k0_off2_eq L) (baseA L), sem_eq cc0_scoped1 k0_off3_eq _ (sem_inb 0)]
  iintro ⟨Hi0, HiA, Hs0⟩
  sl_exec
  sl_step
  isplitr
  · ipureintro; rfl
  iapply (idxFlight_of d L qi iSlot0 (iA L) semI0 f0 I _ ?_)
  swap; · iexact Hs0
  rfl

/-- The loop is its two trips in order. -/
theorem loop_two {α : Type} {E : Type → Type} (init : α) (body : Fin k0_t1_loop.trips → α → Prog E α) :
    Scf.Loop.for k0_t1_loop k0_t1_ok init body = (body trip0 init >>= fun a => body trip1 a >>= fun a => .ret a) := by
  unfold Scf.Loop.for; rw [Scf.for_eq]; rfl

set_option maxHeartbeats 4000000 in
/-- The kernel on one vector subcore: its two windows of the result are left at the gathered rows, everything else it
    was lent comes back, and its own buffers and semaphores are as they were but for their contents. -/
theorem kernel_body (fo : Buf (Elt F) (oLoc d)) (f0 : Buf (Elt F) (iSlot0.view.loc (V d (cV L) (jV L)))) (f1 : Buf (Elt F) (iSlot1.view.loc (V d (cV L) (jV L))))
    (g0 : Buf (Elt F) (rSlot0.view.loc (V d (cV L) (jV L)))) (g1 : Buf (Elt F) (rSlot1.view.loc (V d (cV L) (jV L)))) (hI : ∀ x, (I x : BitVec 32).toNat < 1024) :
    iprop(Transfers.MayWaits (V d (cV L) (jV L)) (default : HIx 1) O ∗ pts d L (iA L) qi I ∗ pts d L (iB L) qi I ∗ pts d L xAll qx T
      ∗ pts d L (oA L) fullShare fo ∗ pts d L (oB L) fullShare fo
      ∗ pts d L iSlot0 fullShare f0 ∗ pts d L iSlot1 fullShare f1 ∗ pts d L rSlot0 fullShare g0 ∗ pts d L rSlot1 fullShare g1
      ∗ semVal (V d (cV L) (jV L), .dma semI0) 0 ∗ semVal (V d (cV L) (jV L), .dma semI1) 0 ∗ semVal (V d (cV L) (jV L), .dma semO0) 0
      ∗ semVal (V d (cV L) (jV L), .dma semO1) 0 ∗ semVal (V d (cV L) (jV L), .dma semG) 0 ∗ owing d L O W)
     ⊢ wp frame (wpE (defs₀ (F := F)) 𝒱₀ (V d (cV L) (jV L)) none) Set.univ
          (cc0_gather_kernel (F := F) L xV (Memref.isWhole_whole _) iV (Memref.isWhole_whole _) oV (Memref.isWhole_whole _)
            sV (Memref.isWhole_whole _) cc0_scoped1 rV (Memref.isWhole_whole _) cc0_scoped3 cc0_scoped4)
          fun _ => iprop(pts d L (iA L) qi I ∗ pts d L (iB L) qi I ∗ pts d L xAll qx T
            ∗ pts d L (oA L) fullShare (G T I) ∗ pts d L (oB L) fullShare (G T I)
            ∗ (∃ f, pts d L iSlot0 fullShare f) ∗ (∃ f, pts d L iSlot1 fullShare f) ∗ (∃ f, pts d L rSlot0 fullShare f) ∗ (∃ f, pts d L rSlot1 fullShare f)
            ∗ semVal (V d (cV L) (jV L), .dma semI0) 0 ∗ semVal (V d (cV L) (jV L), .dma semI1) 0 ∗ semVal (V d (cV L) (jV L), .dma semO0) 0
            ∗ semVal (V d (cV L) (jV L), .dma semO1) 0 ∗ semVal (V d (cV L) (jV L), .dma semG) 0 ∗ owing d L O W) := by
  simp only [cc0_gather_kernel_eq_skeleton]
  unfold cc0_gather_kernel_skel
  simp only [k0_part4_eq_skeleton]
  unfold k0_part4_skel
  simp only [loop_two, wp_bind]
  iintro ⟨#Hmw, HiA, HiB, Hx, HoA, HoB, Hi0, Hi1, Hr0, Hr1, HsI0, HsI1, HsO0, HsO1, HsG, HO⟩
  ihave Hw := (part3_body d L qi I f0) $$ [Hi0 HiA HsI0]
  · isplitl [Hi0]; · iexact Hi0
    isplitl [HiA]; · iexact HiA
    iexact HsI0
  iapply (wp_wand _ _ _) $$ Hw
  iintro %r ⟨%hr, Hf0⟩
  subst hr
  ihave Hw := (trip0_body d L O W qi qx I T fo f0 f1 g0 hI) $$ [Hf0 Hi1 HiB Hr0 Hx HoA HsI1 HsO0 HsG HO]
  · isplitr; · iexact Hmw
    isplitl [Hf0]; · iexact Hf0
    isplitl [Hi1]; · iexact Hi1
    isplitl [HiB]; · iexact HiB
    isplitl [Hr0]; · iexact Hr0
    isplitl [Hx]; · iexact Hx
    isplitl [HoA]; · iexact HoA
    isplitl [HsI1]; · iexact HsI1
    isplitl [HsO0]; · iexact HsO0
    isplitl [HsG]; · iexact HsG
    iexact HO
  iapply (wp_wand _ _ _) $$ Hw
  iintro %r ⟨%hr, Hf1, HiA, HsI0, Hx, Hi0, HsG, HfA, HO⟩
  subst hr
  ihave Hw := (trip1_body d L O W qi qx I T fo f1 g1 hI) $$ [Hf1 Hr1 Hx HoB HfA HsO1 HsG HO]
  · isplitr; · iexact Hmw
    isplitl [Hf1]; · iexact Hf1
    isplitl [Hr1]; · iexact Hr1
    isplitl [Hx]; · iexact Hx
    isplitl [HoB]; · iexact HoB
    isplitl [HfA]; · iexact HfA
    isplitl [HsO1]; · iexact HsO1
    isplitl [HsG]; · iexact HsG
    iexact HO
  iapply (wp_wand _ _ _) $$ Hw
  iintro %r ⟨%hr, HiB, HsI1, Hx, Hi1, HsG, HfB, HoA, Hr0, HsO0, ⟨%W', %hW', HO⟩⟩
  subst hr
  have h4 := chk4_1
  have h5 := chk5_0 L
  sl_exec
  simp only [oWin_eq (off19_0 L) (baseB L), sem_eq cc0_scoped3 off20_1 _ (sem_inb 1), rSlot1_eq off21_1]
  iapply (Transfers.wp_waitLocalO countersEmb 𝒱₀ (V d (cV L) (jV L)) none (default : HIx 1) (rfl : (oB L).view.dmaCredit = 1048576)) $$ [HfB HO]
  · isplitl [HfB]; · iexact HfB
    isplitl [HO]; · iexact HO
    iapply (Transfers.MayWaits.elim (SemLoc.dma semO1)) $$ Hmw
  iintro ⟨⟨HoB, Hr1⟩, HsO1, HO⟩
  sl_exec
  sl_step
  isplitl [HiA]; · iexact HiA
  isplitl [HiB]; · iexact HiB
  isplitl [Hx]; · iexact Hx
  isplitl [HoA]; · iexact HoA
  isplitl [HoB]; · iexact HoB
  isplitl [Hi0]; · iexact Hi0
  isplitl [Hi1]; · iexact Hi1
  isplitl [Hr0]; · iexact Hr0
  isplitl [Hr1]; · iexact Hr1
  isplitl [HsI0]; · iexact HsI0
  isplitl [HsI1]; · iexact HsI1
  isplitl [HsO0]; · iexact HsO0
  isplitl [HsO1]; · iexact HsO1
  isplitl [HsG]; · iexact HsG
  iexists _
  isplitr
  swap; · iexact HO
  ipureintro; intro p hp
  rcases Finset.mem_insert.mp hp with hp | hp; · exact .inr (hp ▸ rfl)
  exact hW' p hp

end

end Cert.Proof.GatherTile
-- ==== Proof.Blocks.lean ====
module

public import proofs.«01_k».proof.Proof.Body
public import Idealize.ShloMosaic.Lib.ShareLeaves

@[expose] public section

noncomputable section

namespace Cert.Proof.GatherTile

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! # The arrays cut into the subcores' blocks

Subcore `i` of core `c` works on block `16 c + i` of 32 blocks of 512 rows, in two windows of 256 rows. -/

/-- The number of the block of subcore `i` of core `c`. -/
def kOf (c i : ℕ) : Fin 32 := Fin.ofNat 32 (16 * c + i)

/-- The indices that block `k` reads. -/
abbrev iBlk (k : Fin 32) : Finset S1x16384.Idx := Finset.univ.filter fun x => 512 * k.val ≤ (x 1).val ∧ (x 1).val < 512 * k.val + 512
/-- The rows that block `k` writes. -/
abbrev oBlk (k : Fin 32) : Finset S16384x128.Idx := Finset.univ.filter fun x => 512 * k.val ≤ (x 0).val ∧ (x 0).val < 512 * k.val + 512

/-- The number of a tile's block gives the tile's first index: 512 indices to a block. -/
theorem kOf_base (L : grid0.Coords) : 512 * (kOf (L 0).val (L 1).val).val = base L := by
  have h0 : (L 0).val < 2 := (L 0).isLt
  have h1 : (L 1).val < 16 := (L 1).isLt
  unfold kOf base
  rw [Fin.val_ofNat, Nat.mod_eq_of_lt (by omega)]; omega

/-- An index of the index row lies in the window from `r` exactly when its column is one of the 256 from `r`. -/
theorem mem_iWin (r : ℕ) (h : r + 256 ≤ 16384) (x : S1x16384.Idx) :
    x ∈ (iWin r h).view.set ↔ r ≤ (x 1).val ∧ (x 1).val < r + 256 := by
  have e : (iWin r h).view.set = (Rect.unit (s := S1x16384) ![0, r] S1x256.size (iwin_inb r h)).set := by
    show ((View.whole (main_v1_scv : Ref sig .scVector)).slice _).set = _
    rw [View.set_slice]; exact Finset.map_refl
  rw [e, Rect.mem_set_unit]
  refine ⟨fun H => H 1, fun H a => ?_⟩
  match a with
  | 0 => have h0 : (x 0).val < 1 := (x 0).isLt; exact ⟨Nat.zero_le _, by simpa using h0⟩
  | 1 => exact H

/-- An index of the result lies in the window from `r` exactly when its row is one of the 256 from `r`. -/
theorem mem_oWin (r : ℕ) (h : r + 256 ≤ 16384) (x : S16384x128.Idx) :
    x ∈ (oWin r h).view.set ↔ r ≤ (x 0).val ∧ (x 0).val < r + 256 := by
  have e : (oWin r h).view.set = (Rect.unit (s := S16384x128) ![r, 0] S256x128.size (owin_inb r h)).set := by
    show ((View.whole (main_v2_scv : Ref sig .scVector)).slice _).set = _
    rw [View.set_slice]; exact Finset.map_refl
  rw [e, Rect.mem_set_unit]
  refine ⟨fun H => H 0, fun H a => ?_⟩
  match a with
  | 0 => exact H
  | 1 => have h0 : (x 1).val < 128 := (x 1).isLt; exact ⟨Nat.zero_le _, by simpa using h0⟩

/-- A tile's block of the index row is its two windows. -/
theorem iBlk_eq (L : grid0.Coords) : iBlk (kOf (L 0).val (L 1).val) = (iA L).view.set ∪ (iB L).view.set := by
  ext x
  rw [Finset.mem_union, mem_iWin, mem_iWin, Finset.mem_filter, kOf_base]
  simp only [Finset.mem_univ, true_and]; omega
/-- A tile's block of the result is its two windows. -/
theorem oBlk_eq (L : grid0.Coords) : oBlk (kOf (L 0).val (L 1).val) = (oA L).view.set ∪ (oB L).view.set := by
  ext x
  rw [Finset.mem_union, mem_oWin, mem_oWin, Finset.mem_filter, kOf_base]
  simp only [Finset.mem_univ, true_and]; omega
/-- A tile's two windows of the index row share no element. -/
theorem iAB_disjoint (L : grid0.Coords) : Disjoint (iA L).view.set (iB L).view.set :=
  Finset.disjoint_left.mpr fun x h1 h2 => by rw [mem_iWin] at h1 h2; omega
/-- A tile's two windows of the result share no element. -/
theorem oAB_disjoint (L : grid0.Coords) : Disjoint (oA L).view.set (oB L).view.set :=
  Finset.disjoint_left.mpr fun x h1 h2 => by rw [mem_oWin] at h1 h2; omega

/-- The blocks of the index row are pairwise disjoint. -/
theorem iBlk_disjoint : ∀ i ∈ (Finset.univ : Finset (Fin 32)), ∀ j ∈ (Finset.univ : Finset (Fin 32)), i ≠ j → Disjoint (iBlk i) (iBlk j) := by
  intro i _ j _ h
  refine Finset.disjoint_left.mpr fun x h1 h2 => h (Fin.ext ?_)
  have a := (Finset.mem_filter.mp h1).2; have b := (Finset.mem_filter.mp h2).2
  omega
/-- The blocks of the result are pairwise disjoint. -/
theorem oBlk_disjoint : ∀ i ∈ (Finset.univ : Finset (Fin 32)), ∀ j ∈ (Finset.univ : Finset (Fin 32)), i ≠ j → Disjoint (oBlk i) (oBlk j) := by
  intro i _ j _ h
  refine Finset.disjoint_left.mpr fun x h1 h2 => h (Fin.ext ?_)
  have a := (Finset.mem_filter.mp h1).2; have b := (Finset.mem_filter.mp h2).2
  omega
/-- The 32 blocks cover the index row. -/
theorem iBlk_cover : (Finset.univ : Finset (Fin 32)).biUnion iBlk = Finset.univ := by
  refine Finset.eq_univ_of_forall fun x => ?_
  have h : (x 1).val < 16384 := (x 1).isLt
  refine Finset.mem_biUnion.mpr ⟨⟨(x 1).val / 512, by omega⟩, Finset.mem_univ _, Finset.mem_filter.mpr ⟨Finset.mem_univ _, ?_⟩⟩
  show 512 * ((x 1).val / 512) ≤ (x 1).val ∧ (x 1).val < 512 * ((x 1).val / 512) + 512
  omega
/-- The 32 blocks cover the result. -/
theorem oBlk_cover : (Finset.univ : Finset (Fin 32)).biUnion oBlk = Finset.univ := by
  refine Finset.eq_univ_of_forall fun x => ?_
  have h : (x 0).val < 16384 := (x 0).isLt
  refine Finset.mem_biUnion.mpr ⟨⟨(x 0).val / 512, by omega⟩, Finset.mem_univ _, Finset.mem_filter.mpr ⟨Finset.mem_univ _, ?_⟩⟩
  show 512 * ((x 0).val / 512) ≤ (x 0).val ∧ (x 0).val < 512 * ((x 0).val / 512) + 512
  omega

/-- The index row, held whole, is its 32 blocks held one by one. -/
theorem iPts_blocks (d : Dev nD) (f : Buf (Elt F) (iLoc d)) :
    (iLoc d ↦{fullShare} f : sProp 𝕄) = bigSep Finset.univ fun k : Fin 32 => iLoc d ↦[iBlk k]{fullShare} f := by
  rw [← pointsTo_biUnion Finset.univ (ℓ := iLoc d) iBlk iBlk_disjoint, iBlk_cover]; try rfl
/-- The result, held whole, is its 32 blocks held one by one. -/
theorem oPts_blocks (d : Dev nD) (f : Buf (Elt F) (oLoc d)) :
    (oLoc d ↦{fullShare} f : sProp 𝕄) = bigSep Finset.univ fun k : Fin 32 => oLoc d ↦[oBlk k]{fullShare} f := by
  rw [← pointsTo_biUnion Finset.univ (ℓ := oLoc d) oBlk oBlk_disjoint, oBlk_cover]; try rfl

/-- Block `k`'s share of the table. -/
abbrev xq (k : Fin 32) : PosShare TreeShare := ShareLeaves.leaf 5 fullShare k
/-- The table, held whole, is 32 read shares of the table. -/
theorem xPts_shares (d : Dev nD) (f : Buf (Elt F) (xLoc d)) :
    (xLoc d ↦{fullShare} f : sProp 𝕄) = bigSep Finset.univ fun k : Fin 32 => xLoc d ↦{xq k} f :=
  ShareLeaves.pointsTo_leaves Finset.univ f 5 fullShare

section

variable (d : Dev nD) (L : grid0.Coords)

/-- A tile's block of the index row, held, is its two windows held. -/
theorem iPts_windows (f : Buf (Elt F) (iLoc d)) :
    (iLoc d ↦[iBlk (kOf (L 0).val (L 1).val)]{fullShare} f : sProp 𝕄) = iprop(pts d L (iA L) fullShare f ∗ pts d L (iB L) fullShare f) := by
  rw [iBlk_eq]; exact BI.Entails.antisymm (pointsTo_union (iAB_disjoint L)).1 (pointsTo_union (iAB_disjoint L)).2
/-- A tile's block of the result, held, is its two windows held. -/
theorem oPts_windows (f : Buf (Elt F) (oLoc d)) :
    (oLoc d ↦[oBlk (kOf (L 0).val (L 1).val)]{fullShare} f : sProp 𝕄) = iprop(pts d L (oA L) fullShare f ∗ pts d L (oB L) fullShare f) := by
  rw [oBlk_eq]; exact BI.Entails.antisymm (pointsTo_union (oAB_disjoint L)).1 (pointsTo_union (oAB_disjoint L)).2
/-- A share of the table is the same share of the view that the gather reads. -/
theorem xPts_all (q : PosShare TreeShare) (f : Buf (Elt F) (xLoc d)) : (xLoc d ↦{q} f : sProp 𝕄) = pts d L xAll q f := by
  show _ = (xLoc d ↦[xAll.view.set]{q} f : sProp 𝕄)
  rw [set_xAll]

/-! ## The subcore's two double buffers, cut into their slots -/

/-- An element of the index buffer lies in slot `s` exactly when its first coordinate is `s`. -/
theorem mem_slotI (s : Fin 2) (h) (x : S2x1x256.Idx) : x ∈ (Rect.unit (s := S2x1x256) ![s.val, 0, 0] S1x1x256.size h).set ↔ (x 0).val = s.val := by
  rw [Rect.mem_set_unit]
  refine ⟨fun H => ?_, fun H a => ?_⟩
  · have h0 : s.val ≤ (x 0).val ∧ (x 0).val < s.val + 1 := H 0
    omega
  · match a with
    | 0 => show s.val ≤ (x 0).val ∧ (x 0).val < s.val + 1; omega
    | 1 => have h0 : (x 1).val < 1 := (x 1).isLt; show 0 ≤ (x 1).val ∧ (x 1).val < 0 + 1; omega
    | 2 => have h0 : (x 2).val < 256 := (x 2).isLt; show 0 ≤ (x 2).val ∧ (x 2).val < 0 + 256; omega
/-- An element of the row buffer lies in slot `s` exactly when its first coordinate is `s`. -/
theorem mem_slotR (s : Fin 2) (h) (x : S2x256x128.Idx) : x ∈ (Rect.unit (s := S2x256x128) ![s.val, 0, 0] S1x256x128.size h).set ↔ (x 0).val = s.val := by
  rw [Rect.mem_set_unit]
  refine ⟨fun H => ?_, fun H a => ?_⟩
  · have h0 : s.val ≤ (x 0).val ∧ (x 0).val < s.val + 1 := H 0
    omega
  · match a with
    | 0 => show s.val ≤ (x 0).val ∧ (x 0).val < s.val + 1; omega
    | 1 => have h0 : (x 1).val < 256 := (x 1).isLt; show 0 ≤ (x 1).val ∧ (x 1).val < 0 + 256; omega
    | 2 => have h0 : (x 2).val < 128 := (x 2).isLt; show 0 ≤ (x 2).val ∧ (x 2).val < 0 + 128; omega

/-- Slot 0 of the index buffer, by the first coordinate. -/
theorem mem_iSlot0 (x : S2x1x256.Idx) : x ∈ (iSlot0).view.set ↔ (x 0).val = 0 := by
  have e : (iSlot0).view.set = (Rect.unit (s := S2x1x256) ![(0 : Fin 2).val, 0, 0] S1x1x256.size (islot_inb 0)).set := by
    show (((View.whole (cc0_scoped0 : Ref sig .scVector)).slice _).reshape _ _).set = _
    rw [View.set_reshape, View.set_slice]; exact Finset.map_refl
  rw [e]; exact mem_slotI 0 _ x
/-- Slot 1 of the index buffer, by the first coordinate. -/
theorem mem_iSlot1 (x : S2x1x256.Idx) : x ∈ (iSlot1).view.set ↔ (x 0).val = 1 := by
  have e : (iSlot1).view.set = (Rect.unit (s := S2x1x256) ![(1 : Fin 2).val, 0, 0] S1x1x256.size (islot_inb 1)).set := by
    show (((View.whole (cc0_scoped0 : Ref sig .scVector)).slice _).reshape _ _).set = _
    rw [View.set_reshape, View.set_slice]; exact Finset.map_refl
  rw [e]; exact mem_slotI 1 _ x
/-- The two slots are the whole index buffer. -/
theorem islots_union : (iSlot0).view.set ∪ (iSlot1).view.set = (Finset.univ : Finset S2x1x256.Idx) := by
  refine Finset.eq_univ_of_forall fun (x : S2x1x256.Idx) => Finset.mem_union.mpr ?_
  have h : (x 0).val < 2 := (x 0).isLt
  rcases (show (x 0).val = 0 ∨ (x 0).val = 1 by omega) with e | e
  · exact .inl ((mem_iSlot0 x).mpr e)
  · exact .inr ((mem_iSlot1 x).mpr e)
/-- The two slots of the index buffer share no element. -/
theorem islots_disjoint : Disjoint (iSlot0).view.set (iSlot1).view.set :=
  Finset.disjoint_left.mpr fun (x : S2x1x256.Idx) h1 h2 => by
    have e := ((mem_iSlot0 x).mp h1).symm.trans ((mem_iSlot1 x).mp h2)
    exact absurd e (by decide)
/-- Slot 0 of the row buffer, by the first coordinate. -/
theorem mem_rSlot0 (x : S2x256x128.Idx) : x ∈ (rSlot0).view.set ↔ (x 0).val = 0 := by
  have e : (rSlot0).view.set = (Rect.unit (s := S2x256x128) ![(0 : Fin 2).val, 0, 0] S1x256x128.size (rslot_inb 0)).set := by
    show (((View.whole (cc0_scoped2 : Ref sig .scVector)).slice _).reshape _ _).set = _
    rw [View.set_reshape, View.set_slice]; exact Finset.map_refl
  rw [e]; exact mem_slotR 0 _ x
/-- Slot 1 of the row buffer, by the first coordinate. -/
theorem mem_rSlot1 (x : S2x256x128.Idx) : x ∈ (rSlot1).view.set ↔ (x 0).val = 1 := by
  have e : (rSlot1).view.set = (Rect.unit (s := S2x256x128) ![(1 : Fin 2).val, 0, 0] S1x256x128.size (rslot_inb 1)).set := by
    show (((View.whole (cc0_scoped2 : Ref sig .scVector)).slice _).reshape _ _).set = _
    rw [View.set_reshape, View.set_slice]; exact Finset.map_refl
  rw [e]; exact mem_slotR 1 _ x
/-- The two slots are the whole row buffer. -/
theorem rslots_union : (rSlot0).view.set ∪ (rSlot1).view.set = (Finset.univ : Finset S2x256x128.Idx) := by
  refine Finset.eq_univ_of_forall fun (x : S2x256x128.Idx) => Finset.mem_union.mpr ?_
  have h : (x 0).val < 2 := (x 0).isLt
  rcases (show (x 0).val = 0 ∨ (x 0).val = 1 by omega) with e | e
  · exact .inl ((mem_rSlot0 x).mpr e)
  · exact .inr ((mem_rSlot1 x).mpr e)
/-- The two slots of the row buffer share no element. -/
theorem rslots_disjoint : Disjoint (rSlot0).view.set (rSlot1).view.set :=
  Finset.disjoint_left.mpr fun (x : S2x256x128.Idx) h1 h2 => by
    have e := ((mem_rSlot0 x).mp h1).symm.trans ((mem_rSlot1 x).mp h2)
    exact absurd e (by decide)

/-- A tile's double buffer of indices. -/
abbrev sLoc : Loc nD τ sig := (V d (cV L) (jV L)).loc cc0_scoped0
/-- A tile's double buffer of rows. -/
abbrev rLoc : Loc nD τ sig := (V d (cV L) (jV L)).loc cc0_scoped2

/-- The index buffer, held whole, gives its two slots. -/
theorem sPts_split (f : Buf (Elt F) (sLoc d L)) :
    (sLoc d L ↦{fullShare} f : sProp 𝕄) ⊢ iprop(pts d L iSlot0 fullShare f ∗ pts d L iSlot1 fullShare f) := by
  show (sLoc d L ↦[(Finset.univ : Finset S2x1x256.Idx)]{fullShare} f : sProp 𝕄) ⊢ _
  rw [← islots_union]; exact (pointsTo_union islots_disjoint).1
/-- The row buffer, held whole, gives its two slots. -/
theorem rPts_split (f : Buf (Elt F) (rLoc d L)) :
    (rLoc d L ↦{fullShare} f : sProp 𝕄) ⊢ iprop(pts d L rSlot0 fullShare f ∗ pts d L rSlot1 fullShare f) := by
  show (rLoc d L ↦[(Finset.univ : Finset S2x256x128.Idx)]{fullShare} f : sProp 𝕄) ⊢ _
  rw [← rslots_union]; exact (pointsTo_union rslots_disjoint).1
/-- The two slots of the index buffer, with any contents, give the buffer back. -/
theorem sPts_join :
    iprop((∃ f, pts d L iSlot0 fullShare f) ∗ ∃ f, pts d L iSlot1 fullShare f) ⊢ (iprop(∃ f, sLoc d L ↦{fullShare} f) : sProp 𝕄) := by
  iintro ⟨⟨%f, Hf⟩, %g, Hg⟩
  ihave H := (pointsTo_join (ℓ := sLoc d L) (q := fullShare) (f := f) (g := g) islots_disjoint) $$ [Hf Hg]
  · isplitl [Hf] <;> iassumption
  rw [islots_union]
  iexists _; iexact H
/-- The two slots of the row buffer, with any contents, give the buffer back. -/
theorem rPts_join :
    iprop((∃ f, pts d L rSlot0 fullShare f) ∗ ∃ f, pts d L rSlot1 fullShare f) ⊢ (iprop(∃ f, rLoc d L ↦{fullShare} f) : sProp 𝕄) := by
  iintro ⟨⟨%f, Hf⟩, %g, Hg⟩
  ihave H := (pointsTo_join (ℓ := rLoc d L) (q := fullShare) (f := f) (g := g) rslots_disjoint) $$ [Hf Hg]
  · isplitl [Hf] <;> iassumption
  rw [rslots_union]
  iexists _; iexact H

end

end Cert.Proof.GatherTile

end
-- ==== Proof.Launch.lean ====
module

public import proofs.«01_k».proof.Proof.Blocks

@[expose] public section

noncomputable section

namespace Cert.Proof.GatherTile

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! # The call, launched on its 32 subcores -/

/-- What the handshakes of the call need of the program's counters. -/
theorem facts : (K (F := F)).Facts :=
  ⟨show sc_start ≠ sc_taskDone by decide,
   show (SemLoc.reg sc_start : SemLoc sig).isScoped .scScalar = false by decide,
   show (SemLoc.reg sc_taskDone : SemLoc sig).isScoped .scScalar = false by decide,
   show (SemLoc.reg sc_go : SemLoc sig).isScoped .scVector = false by decide,
   show (SemLoc.reg sc_done : SemLoc sig).isScoped .tc = false by decide,
   show ∀ (b : DevRef τ sig) (c : Fin τ.nSC), b.owner = .sc c → sig.taskShared b.table b.idx = false by decide,
   fun _ => rfl⟩

/-- Where the handshakes' rounds live in the ghost state. -/
abbrev EH : Emb UH (MT nD τ sig (HIx 1) (Elt F) ℕ UU ℕ) := embL

-- The contents, on each device, of the table, of the index array and of the result before the call.
variable (T : ∀ d, Buf (Elt F) (xLoc d)) (I : ∀ d, Buf (Elt F) (iLoc d)) (O₀ : ∀ d, Buf (Elt F) (oLoc d))

/-- What block `k` is given: its indices, a share of the table, its rows of the result. -/
abbrev tIn (d : Dev nD) (k : Fin 32) : sProp 𝕄 :=
  iprop((iLoc d ↦[iBlk k]{fullShare} I d) ∗ (xLoc d ↦{xq k} T d) ∗ oLoc d ↦[oBlk k]{fullShare} O₀ d)
/-- What block `k` gives back: the same, its rows of the result being the gathered ones. -/
abbrev tOut (d : Dev nD) (k : Fin 32) : sProp 𝕄 :=
  iprop((iLoc d ↦[iBlk k]{fullShare} I d) ∗ (xLoc d ↦{xq k} T d) ∗ oLoc d ↦[oBlk k]{fullShare} G (F := F) (T d) (I d))

/-- The pieces that change hands in the call. -/
def P : (K (F := F)).Pay (nD := nD) (Val := Elt F) (Name := ℕ) (U := UU) where
  st := fun _ d c => bigSep Finset.univ fun i : Fin 16 => tIn T I O₀ d (kOf c.val i.val)
  go := fun _ d c i => tIn T I O₀ d (kOf c.val i.val)
  td := fun _ d c i => tOut T I d (kOf c.val i.val)
  dn := fun _ d c => bigSep Finset.univ fun i : Fin 16 => tOut T I d (kOf c.val i.val)
  x := fun _ _ => iprop(emp)

/-- What the handshakes carry can be stored in an invariant. -/
instance P_storable : (P T I O₀).IsStorable where
  st := fun _ _ _ => by unfold P; infer_instance
  dn := fun _ _ _ => by unfold P; infer_instance
  go := fun _ _ _ _ => by unfold P; infer_instance
  td := fun _ _ _ _ => by unfold P; infer_instance

/-! ## A subcore's own semaphores and buffers -/

section Tile

variable (d : Dev nD) (L : grid0.Coords)

/-- A tile's counter, by the semaphore that names it. -/
abbrev cell (s : DmaSem sig) : GSem nD τ sig := (V d (cV L) (jV L), .dma s)

/-- Different semaphores of a tile are different counters. -/
theorem cell_ne {s s' : DmaSem sig} (h : s ≠ s') : cell d L s ≠ cell d L s' := by
  intro e; exact h (SemLoc.dma.inj (Prod.mk.inj e).2)

/-- A scoped semaphore's counter is one of the tile's own. -/
theorem cell_mem {s : DmaSem sig} (h : (SemLoc.dma s : SemLoc sig).isScoped .scVector = true) :
    cell d L s ∈ ownCells (V d (cV L) (jV L)) := (mem_ownCells (g := cell d L s)).mpr ⟨rfl, h⟩

/-- A tile's own counters, all at zero: the five that the pipeline uses, and the rest. -/
theorem ownSems0_V :
    (ownSems0 (V d (cV L) (jV L)) : sProp 𝕄)
      = iprop(semVal (cell d L semI0) 0 ∗ semVal (cell d L semI1) 0 ∗ semVal (cell d L semO0) 0 ∗ semVal (cell d L semO1) 0 ∗ semVal (cell d L semG) 0
          ∗ bigSep ((((((ownCells (V d (cV L) (jV L))).erase (cell d L semI0)).erase (cell d L semI1)).erase (cell d L semO0)).erase (cell d L semO1)).erase (cell d L semG))
              fun g => semVal g 0) := by
  unfold SparseCore.Cfg.ownSems0
  rw [SparseCore.bigSep_erase' (cell_mem d L (s := semI0) (by decide)),
    SparseCore.bigSep_erase' (Finset.mem_erase.mpr ⟨cell_ne d L (s := semI1) (s' := semI0) (by decide), cell_mem d L (s := semI1) (by decide)⟩),
    SparseCore.bigSep_erase' (Finset.mem_erase.mpr ⟨cell_ne d L (s := semO0) (s' := semI1) (by decide), Finset.mem_erase.mpr ⟨cell_ne d L (s := semO0) (s' := semI0) (by decide),
      cell_mem d L (s := semO0) (by decide)⟩⟩),
    SparseCore.bigSep_erase' (Finset.mem_erase.mpr ⟨cell_ne d L (s := semO1) (s' := semO0) (by decide), Finset.mem_erase.mpr ⟨cell_ne d L (s := semO1) (s' := semI1) (by decide),
      Finset.mem_erase.mpr ⟨cell_ne d L (s := semO1) (s' := semI0) (by decide), cell_mem d L (s := semO1) (by decide)⟩⟩⟩),
    SparseCore.bigSep_erase' (Finset.mem_erase.mpr ⟨cell_ne d L (s := semG) (s' := semO1) (by decide), Finset.mem_erase.mpr ⟨cell_ne d L (s := semG) (s' := semO0) (by decide),
      Finset.mem_erase.mpr ⟨cell_ne d L (s := semG) (s' := semI1) (by decide), Finset.mem_erase.mpr ⟨cell_ne d L (s := semG) (s' := semI0) (by decide),
        cell_mem d L (s := semG) (by decide)⟩⟩⟩⟩)]

/-- A tile's own buffers: the two double buffers, and the rest. -/
theorem ownBufs_V :
    (ownBufs (V d (cV L) (jV L)) : sProp 𝕄)
      = iprop((∃ f, sLoc d L ↦{fullShare} f) ∗ (∃ f, rLoc d L ↦{fullShare} f)
          ∗ bigSep (((ownRefs (τ := τ) (.scVector (cV L) (jV L))).erase ((Proc.scVector (cV L) (jV L)).devRef cc0_scoped0)).erase
              ((Proc.scVector (cV L) (jV L)).devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

variable [FloatOps F]

set_option maxHeartbeats 1000000 in
/-- A subcore's run: from its block's pieces and its own scratch, the block's rows are gathered. -/
theorem tile_body (hF : (K (F := F)).Facts) (hI : ∀ d x, (I d x : BitVec 32).toNat < 1024) (O : CellTallies nD τ sig (HIx 1)) (W : Waits sig (HIx 1))
    (hO : ∀ g, O g none = 0) :
    iprop(levAts (K (F := F)).L (K (F := F)).lev ∗ emp ∗ tIn T I O₀ d (kOf (L 0).val (L 1).val)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel (F := F) L xV (Memref.isWhole_whole _) iV (Memref.isWhole_whole _) oV (Memref.isWhole_whole _)
            sV (Memref.isWhole_whole _) cc0_scoped1 rV (Memref.isWhole_whole _) cc0_scoped3 cc0_scoped4)
          fun _ => iprop(tOut T I d (kOf (L 0).val (L 1).val) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  unfold tIn tOut
  rw [iPts_windows, oPts_windows, oPts_windows, xPts_all]
  iintro ⟨#Hlv, -, ⟨⟨HiA, HiB⟩, Hx, HoA, HoB⟩, ⟨⟨%fs, Hs⟩, ⟨%fr, Hr⟩, Hbufs⟩, ⟨Hs0, Hs1, Hs2, Hs3, Hs4, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hss := (sPts_split (F := F) d L fs) $$ Hs
  icases Hss with ⟨Hi0, Hi1⟩
  ihave Hrr := (rPts_split (F := F) d L fr) $$ Hr
  icases Hrr with ⟨Hr0, Hr1⟩
  ihave Hw := (kernel_body d L O W fullShare (xq (kOf (L 0).val (L 1).val)) (I d) (T d) (O₀ d) fs fs fr fr (hI d))
    $$ [Hmw HiA HiB Hx HoA HoB Hi0 Hi1 Hr0 Hr1 Hs0 Hs1 Hs2 Hs3 Hs4 HO]
  · isplitl [Hmw]; · iexact Hmw
    isplitl [HiA]; · iexact HiA
    isplitl [HiB]; · iexact HiB
    isplitl [Hx]; · iexact Hx
    isplitl [HoA]; · iexact HoA
    isplitl [HoB]; · iexact HoB
    isplitl [Hi0]; · iexact Hi0
    isplitl [Hi1]; · iexact Hi1
    isplitl [Hr0]; · iexact Hr0
    isplitl [Hr1]; · iexact Hr1
    isplitl [Hs0]; · iexact Hs0
    isplitl [Hs1]; · iexact Hs1
    isplitl [Hs2]; · iexact Hs2
    isplitl [Hs3]; · iexact Hs3
    isplitl [Hs4]; · iexact Hs4
    iexists W; isplitr
    · ipureintro; exact fun p hp => .inl hp
    · iexact HO
  iapply (wp_wand _ _ _) $$ Hw
  iintro %_ ⟨HiA, HiB, Hx, HoA, HoB, Hi0, Hi1, Hr0, Hr1, Hs0, Hs1, Hs2, Hs3, Hs4, HO⟩
  isplitl [HiA HiB Hx HoA HoB]
  · isplitl [HiA HiB]
    · isplitl [HiA] <;> iassumption
    isplitl [Hx]; · iexact Hx
    isplitl [HoA] <;> iassumption
  isplitl [Hi0 Hi1 Hr0 Hr1 Hbufs]
  · isplitl [Hi0 Hi1]
    · iapply (sPts_join (F := F) d L); isplitl [Hi0] <;> iassumption
    isplitl [Hr0 Hr1]
    · iapply (rPts_join (F := F) d L); isplitl [Hr0] <;> iassumption
    iexact Hbufs
  isplitl [Hs0 Hs1 Hs2 Hs3 Hs4 Hsems]
  · isplitl [Hs0]; · iexact Hs0
    isplitl [Hs1]; · iexact Hs1
    isplitl [Hs2]; · iexact Hs2
    isplitl [Hs3]; · iexact Hs3
    isplitl [Hs4]; · iexact Hs4
    iexact Hsems
  iexact HO

/-! ## The obligation of the call -/

/-- A tile's grid coordinates, from its SparseCore and its number. -/
def coordsV (c : Fin (grid0.bound 0)) (s : Fin (grid0.bound 1)) : grid0.Coords :=
  fun | 0 => c | 1 => s | ⟨_ + 2, h⟩ => absurd h (Nat.not_lt.2 (Nat.le_add_left _ _))

/-- What a vector subcore runs of the call: the kernel's body at the tile's coordinates. -/
theorem defs₀_vector (c : Fin τ.nSC) (s : Fin τ.nSub) :
    defs₀ (F := F) (.scVector c s) 0 ()
      = SparseCore.onTile hcore0 hsub0 (fun c s => cc0_gather_kernel (F := F) (coordsV c s) xV (Memref.isWhole_whole _) iV (Memref.isWhole_whole _) oV (Memref.isWhole_whole _)
            sV (Memref.isWhole_whole _) cc0_scoped1 rV (Memref.isWhole_whole _) cc0_scoped3 cc0_scoped4) ⟨⟩ c s := rfl

omit [FloatOps F] in
/-- A tile's waits at the end are among those that the call allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Each tile, given its block, its share of the table and indices inside the table, leaves its block of the result gathered. -/
theorem tileObl (hF : (K (F := F)).Facts) (hI : ∀ d x, (I d x : BitVec 32).toNat < 1024) :
    (K (F := F)).TileObl (D (F := F)) 𝒱 (P T I O₀) v₀ 0 := by
  intro d c i O W hO _ _
  simp only [show (P T I O₀).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body T I O₀ d (coordsV ⟨_, hci.1⟩ ⟨_, hci.2⟩) hF hI O W hO).trans (wp_mono frame _ _ fun _ => obl_post)

end Tile

/-- The call's operands split among the 32 tiles, and the tiles' results join again. -/
theorem vecSplit : (K (F := F)).VecSplit' (P T I O₀) 0 := by
  intro d c
  show (bigSep Finset.univ fun i : Fin 16 => tIn T I O₀ d (kOf c.val i.val)) ⊢ |={Set.univ}=> iprop(
      (bigSep Finset.univ fun i : Fin 16 => tIn T I O₀ d (kOf c.val i.val))
      ∗ ((bigSep Finset.univ fun i : Fin 16 => tOut T I d (kOf c.val i.val)) -∗ bigSep Finset.univ fun i : Fin 16 => tOut T I d (kOf c.val i.val)))
  iintro H; imodintro
  isplitl [H]; · iexact H
  iintro H; iexact H

/-- Over the 2 cores and the 16 subcores of each is over the 32 blocks. -/
theorem bigSep_cores (Φ : Fin 32 → sProp 𝕄) :
    (bigSep Finset.univ fun c : Fin 2 => bigSep Finset.univ fun i : Fin 16 => Φ (kOf c.val i.val)) = bigSep Finset.univ Φ := by
  rw [bigSep_univ_equiv (finProdFinEquiv (m := 2) (n := 16)) Φ, bigSep_univ_prod]
  refine bigSep_congr fun c _ => bigSep_congr fun i _ => congrArg Φ (Fin.ext ?_)
  have h0 := c.isLt; have h1 := i.isLt
  show (Fin.ofNat 32 (16 * c.val + i.val)).val = i.val + 16 * c.val
  rw [Fin.val_ofNat, Nat.mod_eq_of_lt (by omega)]; omega

/-- What the call takes: the index array, the table and the result, whole. -/
theorem st0_eq (d : Dev nD) : (bigSep Finset.univ fun c : Fin ((K (F := F)).nCore 0) => (P T I O₀).st 0 d c)
    = iprop((iLoc d ↦{fullShare} I d) ∗ (xLoc d ↦{fullShare} T d) ∗ oLoc d ↦{fullShare} O₀ d) := by
  refine (bigSep_cores fun k => tIn T I O₀ d k).trans ?_
  rw [bigSep_sep', bigSep_sep', ← iPts_blocks, ← xPts_shares, ← oPts_blocks]
/-- What the call gives back: the same, the result holding the gathered rows. -/
theorem dn0_eq (d : Dev nD) : (bigSep Finset.univ fun c : Fin ((K (F := F)).nCore 0) => (P T I O₀).dn 0 d c)
    = iprop((iLoc d ↦{fullShare} I d) ∗ (xLoc d ↦{fullShare} T d) ∗ oLoc d ↦{fullShare} G (F := F) (T d) (I d)) := by
  refine (bigSep_cores fun k => tOut T I d k).trans ?_
  rw [bigSep_sep', bigSep_sep', ← iPts_blocks, ← xPts_shares, ← oPts_blocks]

/-! ## The launch element of the ghost state -/

/-- The ghost state at the start: the handshakes' tokens and no transfer. -/
def u₀ : UU := (initOf (K (F := F)).hsCells (K (F := F)).hsToks, 1)

/-- A family of empty resources is empty. -/
theorem bigSep_emp' {J : Type} (s : Finset J) : (bigSep s fun _ => iprop(emp)) = (iprop(emp) : sProp 𝕄) := bigSep_emp_const s

/-- The ghost state at the start gives what the launch asks for. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P T I O₀).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P T I O₀).x q thr) = bigSep Finset.univ fun _ => iprop(emp) from
    bigSep_congr fun _ _ => bigSep_univ_of_subsingleton (0 : Fin 1), bigSep_emp']
  iempintro

end Cert.Proof.GatherTile

end
-- ==== Proof.Run.lean ====
module

public import proofs.«01_k».proof.Proof.Launch
public import Idealize.ShloMosaic.Lib.Pipeline.Frame

@[expose] public section

noncomputable section

namespace Cert.Proof.GatherTile

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.StableHlo (held held_sub_split held_congr after after_cons after_nil seq)

/-! # The call with its host code -/

section

variable [FloatOps F] (m : (ℓ : Loc nD τ sig) → Buf (Elt F) ℓ) (ρ : Dev nD → PrngReg)

/-- The host operations before the call: the table padded to 128 columns, the indices in one row. -/
abbrev preOps : List (HloOp τ sig (Elt F)) :=
  [StableHlo.nullary main_c (constantI S_ 32 0#32),
   StableHlo.TRef.unary (.of main_c : StableHlo.TRef sig ⟨S_, .i32⟩) main_call0.v0 (sitofp .f32),
   StableHlo.TRef.binary (.of main_arg0 : StableHlo.TRef sig ⟨S1024x64, .f32⟩) main_call0.v0 main_call0.v1 (fun x v => pad S1024x128 ![0, 0] ![0, 64] ![0, 0] x v pads_S1024x64_S1024x128_000_0640 h_S_),
   StableHlo.reshape main_arg1 main_v1 (rfl : (.i32 : EltTy) = .i32) shapeCasts_S16x1x1024_S1x16384]
/-- The host operations after it: the first 64 columns, in the result's shape. -/
abbrev postOps : List (HloOp τ sig (Elt F)) :=
  [StableHlo.unary main_v2 main_v3 ((extractStridedSlice S16384x64 ![0, 0] · slices_S16384x128_S16384x64_0_0) : (⟨S16384x128, .f32⟩ : BufTy).Contents (Elt F) → (⟨S16384x64, .f32⟩ : BufTy).Contents (Elt F)),
   StableHlo.reshape main_v3 main_v4 (rfl : (.f32 : EltTy) = .f32) shapeCasts_S16384x64_S16x1024x64]

/-- The program is its host code and its calls, one after the other. -/
theorem main_eq (d : Dev nD) : main (F := F) d = (seq preOps >>= fun _ => (sc (F := F)).run d 0 >>= fun _ => seq postOps >>= fun _ => pure ⟨⟩) := rfl

/-- The host code before the calls touches the TensorCore's arrays only. -/
theorem preOps_tc : (preOps : List (HloOp τ sig (Elt F))).Forall fun op => op.bufs ⊆ StableHlo.tcRefs τ sig :=
  ⟨StableHlo.nullary_bufs_sub .., StableHlo.unary_bufs_sub .., StableHlo.binary_bufs_sub .., StableHlo.reshape_bufs_sub ..⟩
/-- The host code after the calls touches the TensorCore's arrays only. -/
theorem postOps_tc : (postOps : List (HloOp τ sig (Elt F))).Forall fun op => op.bufs ⊆ StableHlo.tcRefs τ sig :=
  ⟨StableHlo.unary_bufs_sub .., StableHlo.reshape_bufs_sub ..⟩
/-- The host code before the calls allocates nothing. -/
theorem preOps_noAlloc : (preOps : List (HloOp τ sig (Elt F))).Forall fun op => op.fresh = ∅ := ⟨rfl, rfl, rfl, rfl⟩
/-- The host code after the calls allocates nothing. -/
theorem postOps_noAlloc : (postOps : List (HloOp τ sig (Elt F))).Forall fun op => op.fresh = ∅ := ⟨rfl, rfl⟩
/-- The arrays that the host code before the call touches are among those held. -/
theorem preOps_sub : ∀ op ∈ (preOps : List (HloOp τ sig (Elt F))), op.bufs ⊆ Pipeline.ucRefs τ sig :=
  fun op h => Pipeline.sub_ucRefs op (List.forall_iff_forall_mem.mp preOps_tc op h)
/-- The arrays that the host code after the call touches are among those held. -/
theorem postOps_sub : ∀ op ∈ (postOps : List (HloOp τ sig (Elt F))), op.bufs ⊆ Pipeline.ucRefs τ sig :=
  fun op h => Pipeline.sub_ucRefs op (List.forall_iff_forall_mem.mp postOps_tc op h)
/-- No operation before the call makes a fresh array. -/
theorem preOps_fresh : ∀ op ∈ (preOps : List (HloOp τ sig (Elt F))), op.fresh = ∅ := List.forall_iff_forall_mem.mp preOps_noAlloc
/-- No operation after the call makes a fresh array. -/
theorem postOps_fresh : ∀ op ∈ (postOps : List (HloOp τ sig (Elt F))), op.fresh = ∅ := List.forall_iff_forall_mem.mp postOps_noAlloc

/-- The padded table among the program's arrays. -/
abbrev x' : DevRef τ sig := Proc.devRef .tc (main_v0 : Ref sig .tc)
/-- The index row among the program's arrays. -/
abbrev i' : DevRef τ sig := Proc.devRef .tc (main_v1 : Ref sig .tc)
/-- The gathered rows among the program's arrays. -/
abbrev o' : DevRef τ sig := Proc.devRef .tc (main_v2 : Ref sig .tc)

/-- What the arrays hold at the launch; -/
def V0 (d : Dev nD) : Valuation τ sig (Elt F) := fun b => m (d, b)
/-- when the call begins; -/
def V1 (d : Dev nD) : Valuation τ sig (Elt F) := after preOps (V0 m d)
/-- The padded table's contents when the SparseCore call starts. -/
def T1 (d : Dev nD) : Buf (Elt F) (xLoc d) := V1 m d x'
/-- The index row's contents when the SparseCore call starts. -/
def I1 (d : Dev nD) : Buf (Elt F) (iLoc d) := V1 m d i'
/-- The result's contents when the SparseCore call starts. -/
def O1 (d : Dev nD) : Buf (Elt F) (oLoc d) := V1 m d o'
/-- when it has ended; -/
def V2 (d : Dev nD) : Valuation τ sig (Elt F) := Function.update (V1 m d) o' (G (F := F) (T1 m d) (I1 m d))
/-- at the end. -/
def V3 (d : Dev nD) : Valuation τ sig (Elt F) := after postOps (V2 m d)

/-- The three arrays of the SparseCore call. -/
abbrev SC3 : Finset (DevRef τ sig) := {i', x', o'}

omit [FloatOps F] in
/-- The three arrays held together are the three held one by one. -/
theorem held_SC3 (d : Dev nD) (W : Valuation τ sig (Elt F)) :
    (held (SparseCore.T d) SC3 W : sProp 𝕄) = iprop((iLoc d ↦{fullShare} W i') ∗ (xLoc d ↦{fullShare} W x') ∗ oLoc d ↦{fullShare} W o') := by
  unfold held SC3
  rw [SparseCore.bigSep_insert' (by decide), SparseCore.bigSep_insert' (by decide), bigSep_singleton]

/-- The three arrays are among those held. -/
theorem SC3_sub : SC3 ⊆ Pipeline.ucRefs τ sig := by decide

/-- What is held before the SparseCore call: its three arrays, and the rest. -/
theorem held_V1 (d : Dev nD) : (held (SparseCore.T d) (Pipeline.ucRefs τ sig) (V1 m d) : sProp 𝕄)
    = iprop(((iLoc d ↦{fullShare} I1 m d) ∗ (xLoc d ↦{fullShare} T1 m d) ∗ oLoc d ↦{fullShare} O1 m d) ∗ held (SparseCore.T d) (Pipeline.ucRefs τ sig \ SC3) (V1 m d)) := by
  rw [held_sub_split _ SC3_sub, held_SC3]; rfl
/-- What is held after the SparseCore call: its three arrays, the result gathered, and the rest. -/
theorem held_V2 (d : Dev nD) : (held (SparseCore.T d) (Pipeline.ucRefs τ sig) (V2 m d) : sProp 𝕄)
    = iprop(((iLoc d ↦{fullShare} I1 m d) ∗ (xLoc d ↦{fullShare} T1 m d) ∗ oLoc d ↦{fullShare} G (F := F) (T1 m d) (I1 m d))
        ∗ held (SparseCore.T d) (Pipeline.ucRefs τ sig \ SC3) (V1 m d)) := by
  rw [held_sub_split _ SC3_sub, held_SC3]
  refine congrArg₂ (fun a b : sProp 𝕄 => iprop(a ∗ b)) ?_ ?_
  · rw [show V2 m d i' = I1 m d from Function.update_of_ne (show i' ≠ o' by decide) _ _,
      show V2 m d x' = T1 m d from Function.update_of_ne (show x' ≠ o' by decide) _ _,
      show V2 m d o' = G (F := F) (T1 m d) (I1 m d) from Function.update_self _ _ _]
  · exact held_congr _ fun b hb => Function.update_of_ne (fun e => (Finset.mem_sdiff.mp hb).2 (by rw [e]; decide)) _ _

/-- What @main leaves: every array at its contents at the end. -/
abbrev FIN (d : Dev nD) : sProp 𝕄 := held (SparseCore.T d) (Pipeline.ucRefs τ sig) (V3 m d)

/-- What the handshakes carry, at the contents that the program has at the call. -/
abbrev P1 : (K (F := F)).Pay (nD := nD) (Val := Elt F) (Name := ℕ) (U := UU) := P (T1 m) (I1 m) (O1 m)

/-- @main on device `d`'s TensorCore: the host operations before the call, the call, those after it. -/
theorem hmain (κ : GSem nD τ sig → ℕ) (d : Dev nD) :
    iprop((K (F := F)).ctx EH (P1 m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) (Pipeline.ucRefs τ sig) (V0 m d) from
    Pipeline.unscopedBufs_held d (V0 m d), main_eq]
  iintro ⟨#Hctx, Hst, ⟨Hb, Hheld, Hts, -⟩, -⟩
  iapply (StableHlo.wp_seq 𝒱 none Set.univ d (Pipeline.ucRefs τ sig) _ preOps preOps_sub preOps_fresh (V0 m d)) $$ [Hb Hheld]
  · isplitl [Hb] <;> iassumption
  iintro ⟨Hb, Hheld⟩
  ihave Hh := (show (held (SparseCore.T d) (Pipeline.ucRefs τ sig) (after preOps (V0 m d)) : sProp 𝕄) ⊢ _ from Entails.of_eq (held_V1 m d)) $$ Hheld
  icases Hh with ⟨Hcall, Hrest⟩
  rw [wp_bind]
  iapply ((K (F := F)).wp_run (D (F := F)) 𝒱 (EH := EH) (P := P1 m) κ d 0) $$ [Hst Hcall Hb Hrest Hts]
  isplitr; · iexact Hctx
  isplitl [Hst]; · iexact Hst
  isplitl [Hcall]
  · rw [st0_eq]; iexact Hcall
  iintro ⟨Hst, Hdn⟩
  ihave Hdn' := (Entails.of_eq (dn0_eq (T1 m) (I1 m) (O1 m) d)) $$ Hdn
  ihave Hheld := (Entails.of_eq (held_V2 m d).symm) $$ [Hdn' Hrest]
  · isplitl [Hdn'] <;> iassumption
  iapply (StableHlo.wp_seq 𝒱 none Set.univ d (Pipeline.ucRefs τ sig) _ postOps postOps_sub postOps_fresh (V2 m d)) $$ [Hb Hheld]
  · isplitl [Hb] <;> iassumption
  iintro ⟨Hb, Hheld⟩
  rw [wp_pure]; imodintro
  isplitl [Hst]; · iexact Hst
  isplitl [Hheld]; · iexact Hheld
  isplitl [Hb] <;> iassumption

/-- The memory of a device at the end holds the program's final contents. -/
def fq (d : Dev nD) (s' : Phys nD τ sig (Elt F)) : Prop := ∀ b ∈ Pipeline.ucRefs τ sig, s'.mem.mem (d, b) = V3 m d b

set_option maxRecDepth 16384 in
/-- What is held at the end shows the final contents of the memory. -/
theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (Pipeline.ucRefs τ sig)) $$ [HSI H]
  · isplitl [HSI]; · iexact HSI
    iexact H
  ipureintro; exact h

/-! ## The run -/

/-- What the run ends with: the final contents on every device, and every counter at zero. -/
def QC : PUnit × MemSt nD τ sig (Elt F) → Prop := fun r => (∀ c : Dev nD, ∀ b ∈ Pipeline.ucRefs τ sig, r.2.mem (c, b) = V3 m c b) ∧ r.2.sem = fun _ => 0

/-- From a launch memory whose indices are in range, the program ends, waiting for nothing, with every array at its contents at the end. -/
theorem run_main [∀ e, Nonempty (Elt F e)] (hI : ∀ d x, (I1 m d x : BitVec 32).toNat < 1024) :
    θ_run (Cert.GatherIdeal.defs (F := F)) (Cert.GatherIdeal.threads (F := F)) ⟨m, fun _ => 0, ρ⟩ (QC m) :=
  SparseCore.Cfg.θ_run_sc_quiescent (K := K (F := F)) (D := D (F := F)) (𝒱 := 𝒱) (EH := EH) (P := P1 m) (A := ∅) facts v₀
    (fun q hq => match q with | 0 => nomatch hq)
    (fun q _ => match q with | 0 => tileObl (T1 m) (I1 m) (O1 m) facts hI)
    (fun q _ => match q with | 0 => SparseCore.Cfg.VecSplit.of_plain (vecSplit (T1 m) (I1 m) (O1 m)))
    m ρ main (fun _ => iprop(emp)) (FIN m) (u₀ (F := F)) (sep_elim_left.trans (hu₀ (T1 m) (I1 m) (O1 m))) (hmain m ρ) (fq m) (hfin m) (QC m) (fun _ h hz => ⟨h, hz⟩)

end

end Cert.Proof.GatherTile

end
-- ==== Proof.Take.lean ====
module

public import proofs.«01_k».proof.Proof.Gen.GatherReference
public import Idealize.ShloMosaic.Lib.ValueIdxCore
public import Idealize.ShloMosaic.Lib.Pipeline.Value
public import Idealize.ShloMosaic.Lib.ReduceAll
public import Idealize.ShloMosaic.Lib.WordCmp

@[expose] public section

noncomputable section

namespace Cert.Proof.Take

open Idealize.ShloMosaic Idealize.ShloMosaic.ValueIdx
open Cert.GatherReference Cert.GatherReference.Gen

/-! # Rows of a table: what `jnp.take(table, rows, axis=0)` computes -/

variable {F : FTy → Type} [FloatOps F]

/-- A gather of whole rows, read at an index: row `idx[b]`, read signed and clamped into the table, at the same column. -/
theorem gather_rows_apply {α : Type} (x : S1024x64.Idx → α) (idx : IVec S16384x1 32) (r : Fin 16384) (c : Fin 64) :
    Host.gather gather_S1024x64_S16384x1_S16384x64_1_0_n_n_0_1_164 x idx (ix2 r c)
      = x (ix2 ⟨min (idx (ix2 r 0)).toInt.toNat 1023, by omega⟩ c) := by
  unfold Host.gather
  congr 1
  funext a
  refine Fin.ext ?_
  show gather_S1024x64_S16384x1_S16384x64_1_0_n_n_0_1_164.start (ix2 r c) idx a + gather_S1024x64_S16384x1_S16384x64_1_0_n_n_0_1_164.batchCoord (ix2 r c) a
      + gather_S1024x64_S16384x1_S16384x64_1_0_n_n_0_1_164.offCoord (ix2 r c) a = _
  rw [GatherDims.batchCoord_eq_zero _ _ _ (fun h => absurd h List.not_mem_nil), Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ gather_S1024x64_S16384x1_S16384x64_1_0_n_n_0_1_164.startIndexMap from List.mem_singleton.mpr rfl)]
    have hsi : gather_S1024x64_S16384x1_S16384x64_1_0_n_n_0_1_164.siIdx (ix2 r c) ⟨List.idxOf (0 : Fin 2) gather_S1024x64_S16384x1_S16384x64_1_0_n_n_0_1_164.startIndexMap,
        List.idxOf_lt_length_iff.2 (List.mem_singleton.mpr rfl)⟩ = ix2 r 0 := by
      funext b; refine Fin.ext ?_
      match b with
      | ⟨0, _⟩ => rfl
      | ⟨1, _⟩ => rfl
    rw [hsi]
    rfl
  · unfold GatherDims.start
    rw [dif_neg (show (1 : Fin 2) ∉ gather_S1024x64_S16384x1_S16384x64_1_0_n_n_0_1_164.startIndexMap by decide), Nat.zero_add]
    rfl

/-- The rows' numbers, a negative one counted from the end, in one column. -/
def wrapped (w : IVec S16384 32) : IVec S16384x1 32 :=
  broadcastInDim S16384x1 ![0] bcast_S16384_S16384x1_0
    (select (cmpi .slt w (broadcastInDim S16384 ![] bcast_S_S16384 (constantI S_ 32 0#32)))
      (addi w (broadcastInDim S16384 ![] bcast_S_S16384 (constantI S_ 32 1024#32))) w)

/-- `jnp.take(x, w, axis=0)`, operation by operation: the gathered rows where the number is in range, elsewhere NaN. -/
def take (x : FVec F S1024x64 .f32) (w : IVec S16384 32) : FVec F S16384x64 .f32 :=
  select
    (broadcastInDim S16384x64 ![0] bcast_S16384_S16384x64_0
      (Host.reduce IntOp.andi
        (andi (cmpi .sge (wrapped w) (broadcastInDim S16384x1 ![] bcast_S_S16384x1 (constantI S_ 32 0#32)))
          (cmpi .sle (wrapped w) (broadcastInDim S16384x1 ![0, 1] bcast_S1x1_S16384x1_0_1 (broadcastInDim S1x1 ![1] bcast_S1_S1x1_1 (constantI S1 32 1023#32)))))
        (constantI S_ 1 1#1) reducesTo_S16384x1_S16384_d1 h_S_))
    (Host.gather gather_S1024x64_S16384x1_S16384x64_1_0_n_n_0_1_164 x (wrapped w))
    (broadcastInDim S16384x64 ![] bcast_S_S16384x64 (constant S_ .f32 0x7FC00000#32))

/-- A word below 1024 reads the same as a signed word. -/
theorem toInt_of_lt {v : BitVec 32} (h : v.toNat < 1024) : v.toInt = v.toNat := by
  rw [BitVec.toInt_eq_toNat_cond]; omega

/-- A word below 1024 is not negative. -/
theorem slt_zero {v : BitVec 32} (h : v.toNat < 1024) : IntOp.cmpi .slt v 0#32 = 0#1 := by
  simp only [IntOp.cmpi, BitVec.slt_eq_decide, toInt_of_lt h]
  rw [decide_eq_false (by simp)]
  rfl

/-- A word below 1024 passes the lookup's range check. -/
theorem in_range {v : BitVec 32} (h : v.toNat < 1024) : IntOp.andi (IntOp.cmpi .sge v 0#32) (IntOp.cmpi .sle v 1023#32) = 1#1 := by
  simp only [IntOp.cmpi, WordCmp.andi_ofBool, WordCmp.ofBool_eq_one_iff, Bool.and_eq_true, BitVec.sle_eq_decide, decide_eq_true_eq, toInt_of_lt h]
  constructor
  · simp
  · have : (1023#32 : BitVec 32).toInt = 1023 := by decide
    rw [this]; omega

/-- A row's number that is in range is not wrapped. -/
theorem wrapped_apply (w : IVec S16384 32) (hw : ∀ i, (w i).toNat < 1024) (r : Fin 16384) : wrapped w (ix2 r 0) = w (ix1 r) := by
  unfold wrapped
  refine (broadcastInDim_apply _ _ _ _ (ix1 r) (by intro a; fin_cases a; rfl)).trans ?_
  show (if IntOp.cmpi .slt (w (ix1 r)) 0#32 = 1#1 then IntOp.addi (w (ix1 r)) 1024#32 else w (ix1 r)) = _
  rw [slt_zero (hw _), if_neg (by decide)]

/-- With every row's number in range, `take` is the table's row, column by column. -/
theorem take_apply (x : FVec F S1024x64 .f32) (w : IVec S16384 32) (hw : ∀ i, (w i).toNat < 1024) (r : Fin 16384) (c : Fin 64) :
    take x w (ix2 r c) = x (ix2 ⟨(w (ix1 r)).toNat, hw _⟩ c) := by
  have hm : Host.reduce IntOp.andi
        (andi (cmpi .sge (wrapped w) (broadcastInDim S16384x1 ![] bcast_S_S16384x1 (constantI S_ 32 0#32)))
          (cmpi .sle (wrapped w) (broadcastInDim S16384x1 ![0, 1] bcast_S1x1_S16384x1_0_1 (broadcastInDim S1x1 ![1] bcast_S1_S1x1_1 (constantI S1 32 1023#32)))))
        (constantI S_ 1 1#1) reducesTo_S16384x1_S16384_d1 h_S_ = fun _ => 1#1 := by
    funext j
    refine Host.reduce_andi_one _ _ _ _ _ rfl fun i => ?_
    show IntOp.andi (IntOp.cmpi .sge (wrapped w i) 0#32) (IntOp.cmpi .sle (wrapped w i) 1023#32) = 1#1
    obtain ⟨r, rfl⟩ : ∃ r : Fin 16384, i = ix2 r 0 := ⟨⟨(i 0).val, idx2_lt0 i⟩, by
      funext a; refine Fin.ext ?_
      match a with
      | ⟨0, _⟩ => rfl
      | ⟨1, _⟩ => exact Nat.lt_one_iff.mp (idx2_lt1 i)⟩
    rw [wrapped_apply w hw]
    exact in_range (hw _)
  unfold take
  rw [hm]
  show Host.gather gather_S1024x64_S16384x1_S16384x64_1_0_n_n_0_1_164 x (wrapped w) (ix2 r c) = _
  rw [gather_rows_apply]
  refine congrArg (fun k : Fin 1024 => x (ix2 k c)) (Fin.ext ?_)
  show min (wrapped w (ix2 r 0)).toInt.toNat 1023 = (w (ix1 r)).toNat
  rw [wrapped_apply w hw, toInt_of_lt (hw _), Int.toNat_natCast]
  exact Nat.min_eq_left (by have := hw (ix1 r); omega)

end Cert.Proof.Take

end
-- ==== Proof.Claims.lean ====
module

public import proofs.«01_k».proof.Proof.Run
public import proofs.«01_k».proof.Proof.Take
public import proofs.«01_k».proof.Proof.Gen.GatherReference
public import proofs.«01_k».proof.Proof.Gen.Gather
public import proofs.«01_k».proof.Proof.Gen.Pre_rows
public import Idealize.ShloMosaic.Lib.Claim
public import Idealize.ShloMosaic.Lib.StableHlo.RunHlo
public import Idealize.ShloMosaic.Lib.ReduceAll
public import Idealize.ShloMosaic.Lib.WordCmp

@[expose] public section

noncomputable section

namespace Cert.Proof.GatherClaims

open Idealize.ShloMosaic Idealize.SL.Sem Idealize.ShloMosaic.TcCoe
open Idealize.ShloMosaic.StableHlo Idealize.ShloMosaic.WordCmp
open Cert.Proof.GatherTile (V0 V1 V2 V3 T1 I1 O1 G run_main QC i' x' o' preOps postOps)

/-- A word between 0 and 1023 as a signed number is the same as an unsigned one. -/
theorem toNat_lt {v : BitVec 32} (e : IntOp.andi (IntOp.cmpi .sge v 0#32) (IntOp.cmpi .slt v 1024#32) = 1#1) : v.toNat < 1024 := by
  simp only [IntOp.cmpi, andi_ofBool, ofBool_eq_one_iff, Bool.and_eq_true, BitVec.sle_eq_decide, BitVec.slt_eq_decide, decide_eq_true_eq,
    BitVec.toInt_eq_toNat_cond, BitVec.toNat_ofNat, Nat.reducePow, Nat.reduceMod] at e
  omega

/-- The precondition of the indices, index by index. -/
theorem rows_lt {F : FTy → Type} [FloatOps F] (x : FVec F Cert.Pre_rows.S1024x64 .f32) (w : IVec Cert.Pre_rows.S16x1x1024 32)
    (h : Cert.Pre_rows.fn (F := F) x w = fun _ => 1#1) (i : Cert.Pre_rows.S16x1x1024.Idx) : (w i).toNat < 1024 := by
  have e := congrFun h (fun a => a.elim0)
  haveI : Subsingleton Cert.Pre_rows.S_.Idx := ⟨fun a b => funext fun k => k.elim0⟩
  exact toNat_lt (Host.reduce_andi_all _ _ _ _ _ e i)

variable {F : FTy → Type} [FloatOps F]

open Cert.GatherIdeal in
/-- The indices that the call receives: the argument in one row. -/
theorem I1_eq (m : (ℓ : Loc nD τ sig) → Buf (Elt F) ℓ) (d : Dev nD) :
    I1 m d = shapeCast S1x16384 (m ((d.tc : Thread nD τ).loc main_arg1)) Gen.shapeCasts_S16x1x1024_S1x16384 := by
  unfold I1 V1 preOps
  after_results
  rfl

open Cert.GatherIdeal in
/-- The table that the call receives: the argument, with 64 more columns. -/
theorem T1_eq (m : (ℓ : Loc nD τ sig) → Buf (Elt F) ℓ) (d : Dev nD) :
    T1 m d = pad S1024x128 ![0, 0] ![0, 64] ![0, 0] (m ((d.tc : Thread nD τ).loc main_arg0)) (sitofp .f32 (constantI S_ 32 0#32)) Gen.pads_S1024x64_S1024x128_000_0640 Gen.h_S_ := by
  unfold T1 V1 preOps
  after_results
  rfl

open Cert.GatherIdeal in
/-- The result: the first 64 columns of what the call leaves. -/
theorem V3_result (m : (ℓ : Loc nD τ sig) → Buf (Elt F) ℓ) (d : Dev nD) :
    V3 m d (Proc.devRef .tc main_v4) = shapeCast S16x1024x64 (extractStridedSlice S16384x64 ![0, 0] (G (T1 m d) (I1 m d)) Gen.slices_S16384x128_S16384x64_0_0) Gen.shapeCasts_S16384x64_S16x1024x64 := by
  unfold V3 postOps
  after_results
  unfold V2
  rw [Function.update_self]
  rfl

open Cert.GatherIdeal in
/-- The program leaves its first argument as it was. -/
theorem V3_arg0 (m : (ℓ : Loc nD τ sig) → Buf (Elt F) ℓ) (d : Dev nD) :
    V3 m d (Proc.devRef .tc main_arg0) = m ((d.tc : Thread nD τ).loc main_arg0) := by
  unfold V3 postOps
  after_results
  unfold V2
  rw [Function.update_of_ne (by decide)]
  unfold V1 preOps
  after_results
  rfl

open Cert.GatherIdeal in
/-- The program leaves its second argument as it was. -/
theorem V3_arg1 (m : (ℓ : Loc nD τ sig) → Buf (Elt F) ℓ) (d : Dev nD) :
    V3 m d (Proc.devRef .tc main_arg1) = m ((d.tc : Thread nD τ).loc main_arg1) := by
  unfold V3 postOps
  after_results
  unfold V2
  rw [Function.update_of_ne (by decide)]
  unfold V1 preOps
  after_results
  rfl

open Cert.GatherIdeal in
/-- The run, read at the result and at the arguments. -/
theorem run_values [∀ e, Nonempty (Elt F e)] (m : (ℓ : Loc nD τ sig) → Buf (Elt F) ℓ) (ρ : Dev nD → PrngReg)
    (hw : ∀ (d : Dev nD) i, (m ((d.tc : Thread nD τ).loc main_arg1) i : BitVec 32).toNat < 1024) :
    θ_run (Cert.GatherIdeal.defs (F := F)) (Cert.GatherIdeal.threads (F := F)) ⟨m, fun _ => 0, ρ⟩ fun r =>
      (∀ c : Dev nD,
        r.2.mem ((c.tc : Thread nD τ).loc main_v4) = V3 m c (Proc.devRef .tc main_v4)
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 := by
  refine (θ_run Cert.GatherIdeal.defs _ _).mono (fun r h => ⟨fun c => ⟨h.1 c (Proc.devRef .tc main_v4) (by decide), (h.1 c (Proc.devRef .tc main_arg0) (by decide)).trans (V3_arg0 m c),
    (h.1 c (Proc.devRef .tc main_arg1) (by decide)).trans (V3_arg1 m c)⟩, h.2⟩) (run_main m ρ fun d x => ?_)
  rw [I1_eq]
  exact hw d _

/-- The call alone runs, keeps its arguments and leaves every counter at zero. -/
theorem frame_gather : Cert.quiescent_Gather := fun m ρ hpre =>
  (θ_run Cert.GatherIdeal.defs _ _).mono (fun _ h => ⟨fun c => (h.1 c).2, h.2⟩) (run_values (F := Bits) m ρ fun d => rows_lt _ _ (hpre d))

/-- The same over the ideal values. -/
theorem frame_gather_ideal : Cert.quiescent_GatherIdeal := fun m ρ hpre =>
  (θ_run Cert.GatherIdeal.defs _ _).mono (fun _ h => ⟨fun c => (h.1 c).2, h.2⟩) (run_values (F := Ideal) m ρ fun d => rows_lt _ _ (hpre d))

/-- The reference lookup runs, keeps its arguments and leaves every counter at zero. -/
theorem frame_reference : Cert.quiescent_GatherReference := by
  intro m ρ _
  refine (θ_run Cert.GatherReference.defs _ _).mono (fun r h => ⟨h, sem_eq_zero_of_no_sems (by decide) r.2⟩) ?_
  hlo_run

open Cert.GatherIdeal in
/-- The indices in one row, read at an index, are the indices in one axis. -/
theorem row_apply (w : S16x1x1024.Idx → BitVec 32) (r : Fin 16384) :
    shapeCast S1x16384 w Gen.shapeCasts_S16x1x1024_S1x16384 (ValueIdx.ix2 0 r)
      = shapeCast Cert.GatherReference.S16384 w Cert.GatherReference.Gen.shapeCasts_S16x1x1024_S16384 (ValueIdx.ix1 r) := by
  unfold shapeCast
  refine congrArg w (Shape.reshapeEquiv_eq_of_rowMajor _ ?_)
  rw [Shape.rowMajor_reshapeEquiv]
  rw [Shape.rowMajor_val_one, Shape.rowMajor_val_two]
  show (r : ℕ) = 0 * 16384 + (r : ℕ)
  omega

open Cert.GatherIdeal in
/-- The padded table is the table in its first 64 columns. -/
theorem padded_apply (x : FVec F S1024x64 .f32) (v : FVec F S_ .f32) (k : Fin 1024) (c : Fin 64) :
    pad S1024x128 ![0, 0] ![0, 64] ![0, 0] x v Gen.pads_S1024x64_S1024x128_000_0640 Gen.h_S_ (ValueIdx.ix2 k (c.castLE (by omega) : Fin 128)) = x (ValueIdx.ix2 k c) := by
  unfold pad
  rw [dif_pos (by intro a; fin_cases a <;> simp <;> omega)]
  congr 1
  funext a
  fin_cases a <;> simp

open Cert.GatherIdeal in
/-- What the call leaves in its first 64 columns is what `jnp.take` computes of the table and the indices. -/
theorem rows_eq (m : (ℓ : Loc nD τ sig) → Buf (Elt F) ℓ) (d : Dev nD)
    (hw : ∀ i, (m ((d.tc : Thread nD τ).loc main_arg1) i : BitVec 32).toNat < 1024) :
    extractStridedSlice S16384x64 ![0, 0] (G (T1 m d) (I1 m d)) Gen.slices_S16384x128_S16384x64_0_0
      = Take.take (F := F) (m ((d.tc : Thread nD τ).loc main_arg0)) (shapeCast Cert.GatherReference.S16384 (m ((d.tc : Thread nD τ).loc main_arg1)) Cert.GatherReference.Gen.shapeCasts_S16x1x1024_S16384) := by
  funext y
  obtain ⟨r, c, rfl⟩ : ∃ (r : Fin 16384) (c : Fin 64), y = ValueIdx.ix2 r c := ⟨_, _, ValueIdx.eq_ix2 y⟩
  refine Eq.trans ?_ (Take.take_apply _ _ (fun i => hw _) r c).symm
  refine (extractStridedSlice_apply _ _ _ _ (ValueIdx.ix2 r (c.castLE (by omega) : Fin 128)) (by intro a; fin_cases a <;> simp)).trans ?_
  have hI : I1 m d (ValueIdx.ix2 0 r) = shapeCast Cert.GatherReference.S16384 (m ((d.tc : Thread nD τ).loc main_arg1)) Cert.GatherReference.Gen.shapeCasts_S16x1x1024_S16384 (ValueIdx.ix1 r) := by
    rw [I1_eq]
    exact row_apply _ r
  show T1 m d (ValueIdx.ix2 (Cert.Proof.GatherTile.rowOf (I1 m d (ValueIdx.ix2 0 r))) (c.castLE (by omega) : Fin 128)) = _
  rw [hI, T1_eq]
  refine (padded_apply _ _ _ c).trans ?_
  exact congrArg (fun k : Fin 1024 => m ((d.tc : Thread nD τ).loc main_arg0) (ValueIdx.ix2 k c)) (Fin.ext (Nat.mod_eq_of_lt (hw _)))

/-- The call alone, with its host code, computes bit for bit what `jnp.take` does. -/
theorem bitexact : Cert.bitexact_Gather_GatherReference := by
  intro m ρ m' ρ' hpre hagree
  refine ⟨fun c => V3 m c (Proc.devRef .tc Cert.GatherIdeal.main_v4), (θ_run Cert.GatherIdeal.defs _ _).mono (fun _ h c => h.1 c) (run_values (F := Bits) m ρ fun d => rows_lt _ _ (hpre d)), ?_⟩
  hlo_run
  refine Eq.trans ?_ (V3_result m c).symm
  rw [rows_eq m c (rows_lt _ _ (hpre c))]
  set_option maxRecDepth 100000 in
  rfl

end Cert.Proof.GatherClaims

end
-- ==== Proof.Whole.TileFacts.lean ====
/-
  The index arithmetic of the SparseCore kernel's pipeline over its two trips, as closed forms over the tile's
  coordinates: which slot of a double buffer each transfer uses, where its block starts in the whole array, which of
  the conditional steps run on which trip, and what each trip hands to the next.
-/
module

public import proofs.«01_k».proof.Proof.Gen.KernelIdeal
public import proofs.«01_k».proof.Proof.Gen.KernelIdeal.Skeleton

@[expose] public section

noncomputable section

namespace Cert.Proof.Whole

open Cert.KernelIdeal Cert.KernelIdeal.Gen
open Idealize.ShloMosaic

/-- The first row of the tile's first block of 256 rows. -/
abbrev base (L : grid1.Coords) : ℕ := 512 * (L 1).val + 8192 * (L 0).val

/-- The first trip of the pipeline's loop. -/
abbrev trip0 : Fin k1_t1_loop.trips := ⟨0, by decide⟩
/-- The second trip of the pipeline's loop. -/
abbrev trip1 : Fin k1_t1_loop.trips := ⟨1, by decide⟩

/-- The number of the tile's first block, as the kernel computes it. -/
abbrev firstBlock (L : grid1.Coords) : BitVec 32 :=
  Scalar.muli (Scalar.addi (Scalar.addi 0#32 (Scalar.muli (BitVec.ofNat 32 (L 1).val) 1#32)) (Scalar.muli (BitVec.ofNat 32 (L 0).val) 16#32)) 2#32

/-! ## Offsets -/

/-- In the second trip, where the slot that the next fetch fills starts. -/
theorem off4_1 : k1_off4 1#32 = ![1, 0, 0] := by decide +kernel
/-- In the first trip, where the window of indices that is fetched next starts. -/
theorem off5_0 : ∀ L : grid1.Coords, k1_off5 L 0#32 = ![0, base L + 256] := by decide +kernel
/-- In the second trip, where the semaphore of the next fetch stands. -/
theorem off6_1 : k1_off6 1#32 = ![1] := by decide +kernel
/-- In the first trip, where the slot of the awaited fetch starts. -/
theorem off7_0 : k1_off7 0#32 = ![0, 0, 0] := by decide +kernel
/-- In the second trip, where the slot of the awaited fetch starts. -/
theorem off7_1 : k1_off7 1#32 = ![1, 0, 0] := by decide +kernel
/-- In the first trip, where the window of the awaited fetch starts. -/
theorem off8_0 : ∀ L : grid1.Coords, k1_off8 L 0#32 = ![0, base L] := by decide +kernel
/-- In the second trip, where the window of the awaited fetch starts. -/
theorem off8_1 : ∀ L : grid1.Coords, k1_off8 L 1#32 = ![0, base L + 256] := by decide +kernel
/-- In the first trip, where the semaphore of the awaited fetch stands. -/
theorem off9_0 : k1_off9 0#32 = ![0] := by decide +kernel
/-- In the second trip, where the semaphore of the awaited fetch stands. -/
theorem off9_1 : k1_off9 1#32 = ![1] := by decide +kernel
/-- In the first trip, where the slot of rows that the gather fills starts. -/
theorem off10_0 : k1_off10 0#32 = ![0, 0, 0] := by decide +kernel
/-- In the second trip, where the slot of rows that the gather fills starts. -/
theorem off10_1 : k1_off10 1#32 = ![1, 0, 0] := by decide +kernel
/-- In the first trip, where the slot of indices that the gather reads starts. -/
theorem off11_0 : k1_off11 0#32 = ![0, 0, 0] := by decide +kernel
/-- In the second trip, where the slot of indices that the gather reads starts. -/
theorem off11_1 : k1_off11 1#32 = ![1, 0, 0] := by decide +kernel
/-- In the first trip, where the slot that is written back starts. -/
theorem off12_0 : k1_off12 0#32 = ![0, 0, 0] := by decide +kernel
/-- In the second trip, where the slot that is written back starts. -/
theorem off12_1 : k1_off12 1#32 = ![1, 0, 0] := by decide +kernel
/-- In the first trip, where the window of the result that is written starts. -/
theorem off13_0 : ∀ L : grid1.Coords, k1_off13 L 0#32 = ![base L, 0] := by decide +kernel
/-- In the second trip, where the window of the result that is written starts. -/
theorem off13_1 : ∀ L : grid1.Coords, k1_off13 L 1#32 = ![base L + 256, 0] := by decide +kernel
/-- In the first trip, where the semaphore of the write-back stands. -/
theorem off14_0 : k1_off14 0#32 = ![0] := by decide +kernel
/-- In the second trip, where the semaphore of the write-back stands. -/
theorem off14_1 : k1_off14 1#32 = ![1] := by decide +kernel
/-- In the first trip, where the slot of the earlier write-back, now awaited, starts. -/
theorem off15_0 : k1_off15 0#32 = ![0, 0, 0] := by decide +kernel
/-- In the second trip, where the window of the earlier write-back, now awaited, starts. -/
theorem off16_1 : ∀ L : grid1.Coords, k1_off16 L 1#32 = ![base L, 0] := by decide +kernel
/-- In the first trip, where the semaphore of the earlier write-back, now awaited, stands. -/
theorem off17_0 : k1_off17 0#32 = ![0] := by decide +kernel
/-- Where the window of the last write-back, awaited after the loop, starts. -/
theorem off19_0 : ∀ L : grid1.Coords, k1_off19 L 0#32 = ![base L + 256, 0] := by decide +kernel
/-- Where the semaphore of the last write-back, awaited after the loop, stands. -/
theorem off20_1 : k1_off20 1#32 = ![1] := by decide +kernel
/-- Where the slot of the last write-back, awaited after the loop, starts. -/
theorem off21_1 : k1_off21 1#32 = ![1, 0, 0] := by decide +kernel

/-! ## Conditions and side conditions -/

/-- The first trip fetches the next window of indices. -/
theorem cond1_0 : ∀ L : grid1.Coords, k1_cond1 L trip0 0#32 = 1#1 := by decide +kernel
/-- The second trip fetches no further window. -/
theorem cond1_1 : ∀ L : grid1.Coords, ¬k1_cond1 L trip1 1#32 = 1#1 := by decide +kernel
/-- The first trip awaits its window of indices. -/
theorem cond2_0 : ∀ L : grid1.Coords, k1_cond2 L trip0 0#32 = 1#1 := by decide +kernel
/-- The second trip awaits its window of indices. -/
theorem cond2_1 : ∀ L : grid1.Coords, k1_cond2 L trip1 1#32 = 1#1 := by decide +kernel
/-- The first trip writes its rows back. -/
theorem cond5_0 : ∀ L : grid1.Coords, k1_cond5 L trip0 0#32 = 1#1 := by decide +kernel
/-- The second trip writes its rows back. -/
theorem cond5_1 : ∀ L : grid1.Coords, k1_cond5 L trip1 1#32 = 1#1 := by decide +kernel
/-- The first trip awaits no earlier write-back. -/
theorem cond7_0 : ∀ L : grid1.Coords, ¬k1_cond7 L trip0 0#32 = 1#1 := by decide +kernel
/-- The second trip awaits the write-back of the first. -/
theorem cond7_1 : ∀ L : grid1.Coords, k1_cond7 L trip1 1#32 = 1#1 := by decide +kernel

/-- The slot that the gather of the first trip reads lies inside the index buffer. -/
theorem chk3_0 : k1_chk3 0#32 := by decide +kernel
/-- The slot that the gather of the second trip reads lies inside the index buffer. -/
theorem chk3_1 : k1_chk3 1#32 := by decide +kernel
/-- The slot that the gather of the first trip fills lies inside the row buffer. -/
theorem chk2_0 : k1_chk2 0#32 := by decide +kernel
/-- The slot that the gather of the second trip fills lies inside the row buffer. -/
theorem chk2_1 : k1_chk2 1#32 := by decide +kernel
/-- The offsets of the first trip lie inside their arrays. -/
theorem chk1_0 : ∀ L : grid1.Coords, k1_chk1 L trip0 1#32 0#32 0#32 0#32 0#32 := by decide +kernel
/-- The offsets of the second trip lie inside their arrays. -/
theorem chk1_1 : ∀ L : grid1.Coords, k1_chk1 L trip1 2#32 1#32 1#32 0#32 1#32 := by decide +kernel
/-- The window of the last write-back lies inside the result. -/
theorem chk5_0 : ∀ L : grid1.Coords, k1_chk5 L 0#32 := by decide +kernel
/-- The slot and the semaphore of the last write-back lie inside their arrays. -/
theorem chk4_1 : k1_chk4 1#32 := by decide +kernel

end Cert.Proof.Whole

end
-- ==== Proof.Whole.Views.lean ====
module

public import proofs.«01_k».proof.Defs
public import proofs.«01_k».proof.Proof.Whole.TileFacts
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.Pointwise.Index

@[expose] public section

noncomputable section

namespace Cert.Proof.Whole

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The labels of the program's calls. -/
abbrev ΛP : Labels := Pipeline.Sig Λ₀ (Fin 1) fun p => (pcfgs (F := F) p).Adm
/-- The SparseCore call's configuration. -/
abbrev K : SparseCore.Cfg τ sig (ΛP (F := F)) 1 := sc (F := F)
/-- The program's definitions. -/
abbrev D [FloatOps F] : Defs nD τ sig (Elt F) (ΛP (F := F)) := Pipeline.defs pcfgs defs₀
/-- No call here recurses. -/
abbrev 𝒱₀ : Variants := Variants.none
/-- The same for the lifted labels. -/
abbrev 𝒱 : Variants := 𝒱₀.lift
/-- The variant at which each thread starts. -/
abbrev v₀ : 𝒱.V := Sum.inl none

/-- The ghost state of the handshakes. -/
abbrev UH : Type := URounds (GSem nD τ sig) ℕ
/-- The whole ghost state: the handshakes', the TensorCore call's, and the transfers' counters. -/
abbrev UU : Type := UH × (URounds (GSem nD τ sig) Unit × Counters)

local notation "𝕄" => MT nD τ sig (HIx 1) (Elt F) ℕ UU ℕ

/-- The padded table on device `d`. -/
abbrev xLoc (d : Dev nD) : Loc nD τ sig := (SparseCore.T d).loc main_v10
/-- The index row on device `d`. -/
abbrev iLoc (d : Dev nD) : Loc nD τ sig := (SparseCore.T d).loc main_v11
/-- The gathered rows on device `d`. -/
abbrev oLoc (d : Dev nD) : Loc nD τ sig := (SparseCore.T d).loc main_v12

/-- The padded table, as a tile sees it. -/
abbrev xV : Memref sig .scVector .hbm S1024x128 .f32 := Memref.whole main_v10_scv
/-- The index row, as a tile sees it. -/
abbrev iV : Memref sig .scVector .hbm S1x16384 .i32 := Memref.whole main_v11_scv
/-- The gathered rows, as a tile sees them. -/
abbrev oV : Memref sig .scVector .hbm S16384x128 .f32 := Memref.whole main_v12_scv
/-- A tile's double buffer of indices, whole. -/
abbrev sV : Memref sig .scVector .vmem S2x1x256 .i32 := Memref.whole cc1_scoped0
/-- A tile's double buffer of rows, whole. -/
abbrev rV : Memref sig .scVector .vmem S2x256x128 .f32 := Memref.whole cc1_scoped2

/-- A tile's 512 indices lie inside the row. -/
theorem base_le (L : grid1.Coords) : base L + 512 ≤ 16384 := by
  have h0 : (L 0).val < 2 := (L 0).isLt
  have h1 : (L 1).val < 16 := (L 1).isLt
  unfold base; omega

/-- A window of 256 indices lies inside the index row. -/
theorem iwin_inb (r : ℕ) (h : r + 256 ≤ 16384) : ∀ a, (![0, r] : Fin 2 → ℕ) a + S1x256.size a ≤ S1x16384.size a := by
  intro a
  match a with
  | 0 => exact Nat.le_refl _
  | 1 => exact h
/-- A window of 256 rows lies inside the result. -/
theorem owin_inb (r : ℕ) (h : r + 256 ≤ 16384) : ∀ a, (![r, 0] : Fin 2 → ℕ) a + S256x128.size a ≤ S16384x128.size a := by
  intro a
  match a with
  | 0 => exact h
  | 1 => exact Nat.le_refl _
/-- A slot lies inside the index buffer. -/
theorem islot_inb (s : Fin 2) : ∀ a, (![s.val, 0, 0] : Fin 3 → ℕ) a + S1x1x256.size a ≤ S2x1x256.size a := by revert s; decide
/-- A slot lies inside the row buffer. -/
theorem rslot_inb (s : Fin 2) : ∀ a, (![s.val, 0, 0] : Fin 3 → ℕ) a + S1x256x128.size a ≤ S2x256x128.size a := by revert s; decide

/-- Rows `r .. r + 255` of the index array. -/
abbrev iWin (r : ℕ) (h : r + 256 ≤ 16384) : Memref sig .scVector .hbm S1x256 .i32 :=
  iV.slice (Rect.unit (s := S1x16384) ![0, r] S1x256.size (iwin_inb r h)) (fun _ => rfl)
/-- Rows `r .. r + 255` of the result. -/
abbrev oWin (r : ℕ) (h : r + 256 ≤ 16384) : Memref sig .scVector .hbm S256x128 .f32 :=
  oV.slice (Rect.unit (s := S16384x128) ![r, 0] S256x128.size (owin_inb r h)) (fun _ => rfl)
/-- Slot 0 of the index buffer. -/
abbrev iSlot0 : Memref sig .scVector .vmem S1x256 .i32 :=
  (sV.slice (Rect.unit (s := S2x1x256) ![0, 0, 0] S1x1x256.size (islot_inb 0)) (fun _ => rfl)).squeeze S1x256 squeezes_S1x1x256_S1x256
/-- Slot 1 of the index buffer. -/
abbrev iSlot1 : Memref sig .scVector .vmem S1x256 .i32 :=
  (sV.slice (Rect.unit (s := S2x1x256) ![1, 0, 0] S1x1x256.size (islot_inb 1)) (fun _ => rfl)).squeeze S1x256 squeezes_S1x1x256_S1x256
/-- Slot 0 of the row buffer. -/
abbrev rSlot0 : Memref sig .scVector .vmem S256x128 .f32 :=
  (rV.slice (Rect.unit (s := S2x256x128) ![0, 0, 0] S1x256x128.size (rslot_inb 0)) (fun _ => rfl)).squeeze S256x128 squeezes_S1x256x128_S256x128
/-- Slot 1 of the row buffer. -/
abbrev rSlot1 : Memref sig .scVector .vmem S256x128 .f32 :=
  (rV.slice (Rect.unit (s := S2x256x128) ![1, 0, 0] S1x256x128.size (rslot_inb 1)) (fun _ => rfl)).squeeze S256x128 squeezes_S1x256x128_S256x128
/-- A slot of the index buffer as the list of 256 row numbers the gather reads. -/
abbrev listOf (m : Memref sig .scVector .vmem S1x256 .i32) : Memref sig .scVector .vmem S256 .i32 :=
  (m.slice (Rect.unit (s := S1x256) ![0, 0] S1x256.size inb_S1x256_S1x256_0_0) (fun _ => rfl)).squeeze S256 squeezes_S1x256_S256
/-- The whole table, as the gather reads it. -/
abbrev xAll : Memref sig .scVector .hbm S1024x128 .f32 :=
  xV.slice (Rect.unit (s := S1024x128) ![0, 0] S1024x128.size inb_S1024x128_S1024x128_0_0) (fun _ => rfl)

/-- The SparseCore of a tile. -/
abbrev cV (L : grid1.Coords) : Fin τ.nSC := (L 0).castLE hcore1
/-- A tile's number on its SparseCore. -/
abbrev jV (L : grid1.Coords) : Fin τ.nSub := (L 1).castLE hsub1

variable (d : Dev nD) (L : grid1.Coords)

/-- The tile's first window lies inside the row. -/
theorem baseA (L : grid1.Coords) : base L + 256 ≤ 16384 := by have := base_le L; omega
/-- The tile's second window lies inside the row. -/
theorem baseB (L : grid1.Coords) : base L + 256 + 256 ≤ 16384 := by have := base_le L; omega

/-- The tile's first window of indices. -/
abbrev iA (L : grid1.Coords) := iWin (base L) (baseA L)
/-- The tile's second window of indices. -/
abbrev iB (L : grid1.Coords) := iWin (base L + 256) (baseB L)
/-- The tile's first window of the result. -/
abbrev oA (L : grid1.Coords) := oWin (base L) (baseA L)
/-- The tile's second window of the result. -/
abbrev oB (L : grid1.Coords) := oWin (base L + 256) (baseB L)

/-- A semaphore of a pair lies inside the pair. -/
theorem sem_inb (s : Fin 2) : ∀ a, (![s.val] : Fin 1 → ℕ) a + S1.size a ≤ S2.size a := by revert s; decide
/-- The semaphore of the index fetches into slot 0. -/
abbrev semI0 : DmaSem sig := ((cc1_scoped1.slice (Rect.unit (s := S2) ![0] S1.size (sem_inb 0))).squeeze S_ squeezes_S1_S_).sem
/-- The semaphore of the index fetches into slot 1. -/
abbrev semI1 : DmaSem sig := ((cc1_scoped1.slice (Rect.unit (s := S2) ![1] S1.size (sem_inb 1))).squeeze S_ squeezes_S1_S_).sem
/-- The semaphore of the write-backs from slot 0. -/
abbrev semO0 : DmaSem sig := ((cc1_scoped3.slice (Rect.unit (s := S2) ![0] S1.size (sem_inb 0))).squeeze S_ squeezes_S1_S_).sem
/-- The semaphore of the write-backs from slot 1. -/
abbrev semO1 : DmaSem sig := ((cc1_scoped3.slice (Rect.unit (s := S2) ![1] S1.size (sem_inb 1))).squeeze S_ squeezes_S1_S_).sem
/-- The semaphore of the gathers. -/
abbrev semG : DmaSem sig := cc1_scoped4.sem

/-- A window of the index row, however its offset is written. -/
theorem iWin_eq {off : Fin 2 → ℕ} {r : ℕ} (e : off = ![0, r]) (h : r + 256 ≤ 16384) (p : ∀ a, off a + S1x256.size a ≤ S1x16384.size a)
    (q : ∀ a, (Rect.unit (s := S1x16384) off S1x256.size p).stride a = 1) :
    iV.slice (Rect.unit (s := S1x16384) off S1x256.size p) q = iWin r h := by subst e; rfl
/-- A window of the result, however its offset is written. -/
theorem oWin_eq {off : Fin 2 → ℕ} {r : ℕ} (e : off = ![r, 0]) (h : r + 256 ≤ 16384) (p : ∀ a, off a + S256x128.size a ≤ S16384x128.size a)
    (q : ∀ a, (Rect.unit (s := S16384x128) off S256x128.size p).stride a = 1) :
    oV.slice (Rect.unit (s := S16384x128) off S256x128.size p) q = oWin r h := by subst e; rfl
/-- Slot 0 of the index buffer, however its offset is written. -/
theorem iSlot0_eq {off : Fin 3 → ℕ} (e : off = ![0, 0, 0]) (p : ∀ a, off a + S1x1x256.size a ≤ S2x1x256.size a)
    (q : ∀ a, (Rect.unit (s := S2x1x256) off S1x1x256.size p).stride a = 1) :
    (sV.slice (Rect.unit (s := S2x1x256) off S1x1x256.size p) q).squeeze S1x256 squeezes_S1x1x256_S1x256 = iSlot0 := by subst e; rfl
/-- Slot 1 of the index buffer, however its offset is written. -/
theorem iSlot1_eq {off : Fin 3 → ℕ} (e : off = ![1, 0, 0]) (p : ∀ a, off a + S1x1x256.size a ≤ S2x1x256.size a)
    (q : ∀ a, (Rect.unit (s := S2x1x256) off S1x1x256.size p).stride a = 1) :
    (sV.slice (Rect.unit (s := S2x1x256) off S1x1x256.size p) q).squeeze S1x256 squeezes_S1x1x256_S1x256 = iSlot1 := by subst e; rfl
/-- Slot 0 of the row buffer, however its offset is written. -/
theorem rSlot0_eq {off : Fin 3 → ℕ} (e : off = ![0, 0, 0]) (p : ∀ a, off a + S1x256x128.size a ≤ S2x256x128.size a)
    (q : ∀ a, (Rect.unit (s := S2x256x128) off S1x256x128.size p).stride a = 1) :
    (rV.slice (Rect.unit (s := S2x256x128) off S1x256x128.size p) q).squeeze S256x128 squeezes_S1x256x128_S256x128 = rSlot0 := by subst e; rfl
/-- Slot 1 of the row buffer, however its offset is written. -/
theorem rSlot1_eq {off : Fin 3 → ℕ} (e : off = ![1, 0, 0]) (p : ∀ a, off a + S1x256x128.size a ≤ S2x256x128.size a)
    (q : ∀ a, (Rect.unit (s := S2x256x128) off S1x256x128.size p).stride a = 1) :
    (rV.slice (Rect.unit (s := S2x256x128) off S1x256x128.size p) q).squeeze S256x128 squeezes_S1x256x128_S256x128 = rSlot1 := by subst e; rfl
/-- A semaphore of a pair, however its offset is written. -/
theorem sem_eq {off off' : Fin 1 → ℕ} (A : DmaSems sig S2) (e : off = off') (p : ∀ a, off a + S1.size a ≤ S2.size a) (p' : ∀ a, off' a + S1.size a ≤ S2.size a) :
    ((A.slice (Rect.unit (s := S2) off S1.size p)).squeeze S_ squeezes_S1_S_).sem = ((A.slice (Rect.unit (s := S2) off' S1.size p')).squeeze S_ squeezes_S1_S_).sem := by subst e; rfl

/-- Where the transfers' counters live in the ghost state. -/
abbrev EC : UEmb Counters 𝕄 := countersEmb

/-- A memref's elements at contents `f`, at share `q`. -/
abbrev pts {s : Shape} {e : EltTy} {sp : Space} (d : Dev nD) (L : grid1.Coords) (m : Memref sig .scVector sp s e) (q : PosShare TreeShare)
    (f : Buf (Elt F) (m.view.loc (V d (cV L) (jV L)))) : sProp 𝕄 := m.view.loc (V d (cV L) (jV L)) ↦[m.view.set]{q} f

/-! ## What the buffers hold -/

/-- Contents of the padded table. -/
abbrev XBuf (F : FTy → Type) : Type := S1024x128.Idx → Elt F .f32
/-- Contents of the index row. -/
abbrev IBuf (F : FTy → Type) : Type := S1x16384.Idx → Elt F .i32

/-- The row of the table a word names. -/
def rowOf (w : BitVec 32) : Fin 1024 := Fin.ofNat 1024 w.toNat

/-- The gathered rows: row `x 0` of the result is the table's row that entry `x 0` of the index array names. -/
def G (T : S1024x128.Idx → Elt F .f32) (I : S1x16384.Idx → Elt F .i32) : S16384x128.Idx → Elt F .f32 :=
  fun x => T (ix2 (rowOf (I (ix2 0 (x 0)))) (x 1))

/-- The list a slot holds, read by position. -/
theorem listOf_read (m : Memref sig .scVector .vmem S1x256 .i32) (f : m.view.ty.Contents (Elt F)) (x : S256.Idx) :
    (listOf m).view.read (Elt F) f x = m.view.read (Elt F) f (ix2 0 (x 0)) := by
  have e : (listOf m).view.emb x = m.view.emb (ix2 0 (x 0)) := by
    show m.view.emb ((Rect.unit (s := S1x256) ![0, 0] S1x256.size inb_S1x256_S1x256_0_0).emb (Shape.reshapeEquiv _ x)) = _
    congr 1
    rw [Shape.reshapeEquiv_eq_of_rowMajor (y := (ix2 0 (x 0) : S1x256.Idx)) _ (by
      rw [Shape.rowMajor_val_one]
      exact (Shape.rowMajor_val_two _).trans (by simp))]
    funext a
    apply Fin.ext
    match a with
    | 0 => rfl
    | 1 => simp [Rect.emb, LoadRect.idx, Rect.unit]
  rw [View.read_apply, View.read_apply, e]

/-- The list that a gather reads is the whole of its slot. -/
theorem set_listOf (m : Memref sig .scVector .vmem S1x256 .i32) : (listOf m).view.set = m.view.set := by
  show ((m.view.slice (Rect.unit (s := S1x256) ![0, 0] S1x256.size inb_S1x256_S1x256_0_0)).reshape S256 squeezes_S1x256_S256.numel_eq).set = _
  rw [View.set_reshape, View.set_slice, View.set]
  refine congrArg (Finset.map m.view.emb) (Finset.eq_univ_of_forall fun x => ?_)
  rw [← Rect.map_emb_univ]
  refine Finset.mem_map.mpr ⟨x, Finset.mem_univ _, ?_⟩
  funext a
  apply Fin.ext
  match a with
  | 0 => simp [Rect.emb, LoadRect.idx, Rect.unit]
  | 1 => simp [Rect.emb, LoadRect.idx, Rect.unit]

/-- The view that the gather reads is the whole table. -/
theorem set_xAll : xAll.view.set = Finset.univ := by
  refine Finset.eq_univ_of_forall fun x => ?_
  show x ∈ ((View.whole main_v10_scv).slice _).set
  rw [View.set_slice_whole, ← Rect.map_emb_univ]
  refine Finset.mem_map.mpr ⟨x, Finset.mem_univ _, ?_⟩
  funext a
  apply Fin.ext
  match a with
  | 0 => simp [Rect.emb, LoadRect.idx, Rect.unit]
  | 1 => simp [Rect.emb, LoadRect.idx, Rect.unit]

/-- Where an element of an index window stands in the index row. -/
theorem iWin_emb (r : ℕ) (h : r + 256 ≤ 16384) (y : S1x256.Idx) :
    (iWin r h).view.emb y = (ix2 0 ⟨r + (y 1).val, by have := (y 1).isLt; have : (y 1).val < 256 := this; omega⟩ : S1x16384.Idx) := by
  show (Rect.unit (s := S1x16384) ![0, r] S1x256.size (iwin_inb r h)).emb y = _
  funext a
  apply Fin.ext
  match a with
  | 0 => have := (y 0).isLt; have : (y 0).val < 1 := this; simp [Rect.emb, LoadRect.idx, Rect.unit]; omega
  | 1 => simp [Rect.emb, LoadRect.idx, Rect.unit]

/-- Where an element of a result window stands in the result. -/
theorem oWin_emb (r : ℕ) (h : r + 256 ≤ 16384) (y : S256x128.Idx) :
    (oWin r h).view.emb y = (ix2 ⟨r + (y 0).val, by have := (y 0).isLt; have : (y 0).val < 256 := this; omega⟩ (y 1) : S16384x128.Idx) := by
  show (Rect.unit (s := S16384x128) ![r, 0] S256x128.size (owin_inb r h)).emb y = _
  funext a
  apply Fin.ext
  match a with
  | 0 => simp [Rect.emb, LoadRect.idx, Rect.unit]
  | 1 => simp [Rect.emb, LoadRect.idx, Rect.unit]

/-- After the fetch of a window, the slot's list is the window's entries in order. -/
theorem fetched (m : Memref sig .scVector .vmem S1x256 .i32) (f : m.view.ty.Contents (Elt F)) (I : S1x16384.Idx → Elt F .i32) (r : ℕ) (h : r + 256 ≤ 16384) (x : S256.Idx) :
    (listOf m).view.read (Elt F) (m.view.write (Elt F) f ((iWin r h).view.read (Elt F) I) Finset.univ) x
      = I (ix2 0 ⟨r + (x 0).val, by have := (x 0).isLt; have : (x 0).val < 256 := this; omega⟩) := by
  rw [listOf_read, View.read_write_univ]
  refine ((View.read_apply _ _).trans (cast_eq _ _)).trans ?_
  rw [iWin_emb]
  rfl

/-- A fetched window of indices names rows of the table only, if the index row does. -/
theorem fetched_lt (m : Memref sig .scVector .vmem S1x256 .i32) (f : m.view.ty.Contents (Elt F)) (I : S1x16384.Idx → Elt F .i32) (r : ℕ) (h : r + 256 ≤ 16384)
    (hI : ∀ x, (I x : BitVec 32).toNat < 1024) (x : S256.Idx) :
    ((listOf m).view.read (Elt F) (m.view.write (Elt F) f ((iWin r h).view.read (Elt F) I) Finset.univ) x : BitVec 32).toNat
      < S1024x128.size gathers_S1024x128_S256x128.axis := by
  rw [fetched]; exact hI _

/-- What the gather through such a list brings, at each element the window of the result it is copied to. -/
theorem payload_eq (T : S1024x128.Idx → Elt F .f32) (I : S1x16384.Idx → Elt F .i32) (r : ℕ) (h : r + 256 ≤ 16384)
    (l : S256.Idx → Elt F .i32) (hl : ∀ x, l x = I (ix2 0 ⟨r + (x 0).val, by have := (x 0).isLt; have : (x 0).val < 256 := this; omega⟩))
    (hn : S256.numel = S256x128.size gathers_S1024x128_S256x128.axis') (hin : ∀ x, (l x : BitVec 32).toNat < S1024x128.size gathers_S1024x128_S256x128.axis) (y : S256x128.Idx) :
    SparseCore.gatherPayload gathers_S1024x128_S256x128 (xAll.view.read (Elt F) T) (SparseCore.rows l hn hin) y = G T I ((oWin r h).view.emb y) := by
  unfold SparseCore.gatherPayload G
  refine ((View.read_apply _ _).trans (cast_eq _ _)).trans ?_
  rw [oWin_emb]
  congr 1
  have hy : (S256.rowMajor.symm ((y 0 : Fin 256).cast hn.symm)) = (ix1 (n0 := 256) (y 0) : S256.Idx) := by
    refine (Equiv.symm_apply_eq _).mpr ?_
    exact Fin.ext (Shape.rowMajor_val_one (d := ![256]) (ix1 (n0 := 256) (y 0))).symm
  show (Rect.unit (s := S1024x128) ![0, 0] S1024x128.size inb_S1024x128_S1024x128_0_0).emb (gathers_S1024x128_S256x128.idx _ y) = _
  funext a
  apply Fin.ext
  match a with
  | 0 =>
    have e := congrArg Fin.val (Shape.Gathers.idx_axis gathers_S1024x128_S256x128 (SparseCore.rows l hn hin) y)
    have hlt := hin (ix1 (n0 := 256) (y 0) : S256.Idx)
    rw [hl] at hlt
    have e2 : (SparseCore.rows l hn hin (y 0)).val = (I (ix2 0 ⟨r + (y 0).val, by have := (y 0).isLt; have : (y 0).val < 256 := this; omega⟩) : BitVec 32).toNat := by
      show (l (S256.rowMajor.symm ((y 0 : Fin 256).cast hn.symm)) : BitVec 32).toNat = _
      rw [hy]
      exact congrArg BitVec.toNat (hl _)
    show 0 + 1 * (gathers_S1024x128_S256x128.idx (SparseCore.rows l hn hin) y 0).val = (_ % 1024 : ℕ)
    rw [Nat.zero_add, Nat.one_mul]
    refine (e.trans e2).trans (Nat.mod_eq_of_lt hlt).symm
  | 1 =>
    have e := Shape.Gathers.idx_of_ne gathers_S1024x128_S256x128 (SparseCore.rows l hn hin) y 1 (by decide)
    show 0 + 1 * (gathers_S1024x128_S256x128.idx (SparseCore.rows l hn hin) y 1).val = (y 1).val
    rw [Nat.zero_add, Nat.one_mul]
    exact e

/-- The window after the copy holds the gathered rows, wherever it lies in the window. -/
theorem window_eq (T : S1024x128.Idx → Elt F .f32) (I : S1x16384.Idx → Elt F .i32) (r : ℕ) (h : r + 256 ≤ 16384) (fo : S16384x128.Idx → Elt F .f32)
    (P : S256x128.Idx → Elt F .f32) (hP : ∀ y, P y = G T I ((oWin r h).view.emb y)) (i : S16384x128.Idx) (hi : i ∈ (oWin r h).view.set) :
    (oWin r h).view.write (Elt F) fo P Finset.univ i = G T I i := by
  obtain ⟨y, -, rfl⟩ := Finset.mem_map.mp hi
  rw [View.write_emb_of_mem _ _ (Finset.mem_univ y), hP]
  rfl

end Cert.Proof.Whole
-- ==== Proof.Whole.Tile.lean ====
module

public import proofs.«01_k».proof.Proof.Whole.Views

@[expose] public section

noncomputable section

namespace Cert.Proof.Whole

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid1.Coords)

/-- The 256 row transfers of a gather into a slot complete the slot's amount together. -/
theorem hN0 : ∀ h : S1024x128.Gathers 0 S256x128, ∑ j, (rSlot0.slice (S256x128.rowRect h.axis' j) (S256x128.stride_rowRect h.axis' j)).view.dmaCredit
      = rSlot0.view.dmaCredit := by decide +kernel
/-- The rows of slot 1 together count as much on their semaphore as the slot. -/
theorem hN1 : ∀ h : S1024x128.Gathers 0 S256x128, ∑ j, (rSlot1.slice (S256x128.rowRect h.axis' j) (S256x128.stride_rowRect h.axis' j)).view.dmaCredit
      = rSlot1.view.dmaCredit := by decide +kernel

section

variable [FloatOps F] (O : CellTallies nD τ sig (HIx 1)) (W : Waits sig (HIx 1)) (qi qx : PosShare TreeShare)
    (I : Buf (Elt F) (iLoc d)) (T : Buf (Elt F) (xLoc d))

/-- A fetch of the window `w` of the index array into the slot `m`, in flight on `sm`. -/
abbrev idxFlight (m : Memref sig .scVector .vmem S1x256 .i32) (w : Memref sig .scVector .hbm S1x256 .i32) (sm : DmaSem sig)
    (f : Buf (Elt F) (m.view.loc (V d (cV L) (jV L)))) (I : Buf (Elt F) (w.view.loc (V d (cV L) (jV L)))) : sProp 𝕄 :=
  Transfers.Flight (EC (F := F)) (V d (cV L) (jV L)) (.dma sm) (default : HIx 1) 8192
    iprop(pts d L m fullShare (m.view.write (Elt F) f (w.view.read (Elt F) I) Finset.univ) ∗ pts d L w qi I)

/-- A copy of the slot `m` to the window `w` of the result, in flight on `sm`: it leaves the window at `g`. -/
abbrev outFlight (m : Memref sig .scVector .vmem S256x128 .f32) (w : Memref sig .scVector .hbm S256x128 .f32) (sm : DmaSem sig)
    (g : Buf (Elt F) (w.view.loc (V d (cV L) (jV L)))) : sProp 𝕄 :=
  Transfers.Flight (EC (F := F)) (V d (cV L) (jV L)) (.dma sm) (default : HIx 1) 1048576
    iprop(pts d L w fullShare g ∗ ∃ f, pts d L m fullShare f)

/-- The thread owes `O` and has recorded no wait beyond `W` but those of its own transfers. -/
abbrev owing : sProp 𝕄 := iprop(∃ W', ⌜∀ p ∈ W', p ∈ W ∨ p.2 = none⌝ ∗ owes (V d (cV L) (jV L)) O W')

/-- The fetch's payload, however it is spelt. -/
theorem idxFlight_of (m : Memref sig .scVector .vmem S1x256 .i32) (w : Memref sig .scVector .hbm S1x256 .i32) (sm : DmaSem sig)
    (f : Buf (Elt F) (m.view.loc (V d (cV L) (jV L)))) (I : Buf (Elt F) (w.view.loc (V d (cV L) (jV L)))) (x : S1x256.Idx → Elt F .i32)
    (hx : x = w.view.read (Elt F) I) :
    (Transfers.Flight (EC (F := F)) (V d (cV L) (jV L)) (.dma sm) (default : HIx 1) 8192
      iprop(pts d L m fullShare (m.view.writes (Elt F) f [⟨Rect.whole S1x256, x⟩]) ∗ pts d L w qi I) : sProp 𝕄) ⊢ idxFlight d L qi m w sm f I := by
  subst hx
  rw [idxFlight, ← View.write_univ_eq_writes_whole m.view f [] (w.view.read (Elt F) I)]
  exact Entails.refl _

/-- A copy out whose payload is the gathered rows leaves them. -/
theorem outFlight_of (m : Memref sig .scVector .vmem S256x128 .f32) (r : ℕ) (h : r + 256 ≤ 16384) (sm : DmaSem sig)
    (g : Buf (Elt F) (m.view.loc (V d (cV L) (jV L)))) (fo : Buf (Elt F) (oLoc d)) (x : S256x128.Idx → Elt F .f32)
    (hx : ∀ y, x y = G T I ((oWin r h).view.emb y)) :
    (Transfers.Flight (EC (F := F)) (V d (cV L) (jV L)) (.dma sm) (default : HIx 1) 1048576
      iprop(pts d L (oWin r h) fullShare ((oWin r h).view.writes (Elt F) fo [⟨Rect.whole S256x128, x⟩]) ∗ pts d L m fullShare g) : sProp 𝕄)
        ⊢ outFlight d L m (oWin r h) sm (G T I) := by
  refine Transfers.Flight_mono (EC (F := F)) (V d (cV L) (jV L)) (sep_mono (Entails.of_eq (pointsTo_congr fun i hi => ?_)) (by iintro H; iexists _; iexact H))
  rw [← View.write_univ_eq_writes_whole (oWin r h).view fo [] x]
  exact window_eq T I r h fo x hx i hi

set_option maxHeartbeats 4000000 in
/-- The pipeline's first trip: it starts the second index fetch, waits for the first, gathers the first 256 rows and
    starts their copy to the first window of the result. -/
theorem trip0_body (fo : Buf (Elt F) (oLoc d)) (f0 : Buf (Elt F) (iSlot0.view.loc (V d (cV L) (jV L)))) (f1 : Buf (Elt F) (iSlot1.view.loc (V d (cV L) (jV L))))
    (g0 : Buf (Elt F) (rSlot0.view.loc (V d (cV L) (jV L)))) (hI : ∀ x, (I x : BitVec 32).toNat < 1024) :
    iprop(Transfers.MayWaits (V d (cV L) (jV L)) (default : HIx 1) O ∗ idxFlight d L qi iSlot0 (iA L) semI0 f0 I
      ∗ pts d L iSlot1 fullShare f1 ∗ pts d L (iB L) qi I ∗ pts d L rSlot0 fullShare g0 ∗ pts d L xAll qx T ∗ pts d L (oA L) fullShare fo
      ∗ semVal (V d (cV L) (jV L), .dma semI1) 0 ∗ semVal (V d (cV L) (jV L), .dma semO0) 0 ∗ semVal (V d (cV L) (jV L), .dma semG) 0
      ∗ owing d L O W)
     ⊢ wp frame (wpE (defs₀ (F := F)) 𝒱₀ (V d (cV L) (jV L)) none) Set.univ
          (k1_t1_body (F := F) L xV (Memref.isWhole_whole _) iV (Memref.isWhole_whole _) oV (Memref.isWhole_whole _)
            sV (Memref.isWhole_whole _) cc1_scoped1 rV (Memref.isWhole_whole _) cc1_scoped3 cc1_scoped4 (firstBlock L) trip0 (1#32, 0#32, 0#32, 0#32, 0#32))
          fun r => iprop(⌜r = (2#32, 1#32, 1#32, 0#32, 1#32)⌝ ∗ idxFlight d L qi iSlot1 (iB L) semI1 f1 I ∗ pts d L (iA L) qi I
            ∗ semVal (V d (cV L) (jV L), .dma semI0) 0 ∗ pts d L xAll qx T ∗ (∃ f, pts d L iSlot0 fullShare f) ∗ semVal (V d (cV L) (jV L), .dma semG) 0
            ∗ outFlight d L rSlot0 (oA L) semO0 (G T I) ∗ owing d L O W) := by
  unfold k1_t1_body
  simp only [k1_part1_eq_skeleton, k1_part2_eq_skeleton]
  unfold k1_part1_skel k1_part2_skel
  simp only [dif_pos (cond1_0 L), dif_pos (cond2_0 L), dif_pos (cond5_0 L), dif_neg (cond7_0 L), ite_self]
  simp only [iSlot1_eq off4_1, iWin_eq (off5_0 L) (baseB L), sem_eq cc1_scoped1 off6_1 _ (sem_inb 1), iSlot0_eq off7_0, iWin_eq (off8_0 L) (baseA L),
    sem_eq cc1_scoped1 off9_0 _ (sem_inb 0), rSlot0_eq off10_0, iSlot0_eq off11_0, rSlot0_eq off12_0, oWin_eq (off13_0 L) (baseA L),
    sem_eq cc1_scoped3 off14_0 _ (sem_inb 0)]
  have h1 := chk1_0 L
  have h2 := chk2_0
  have h3 := chk3_0
  iintro ⟨#Hmw, Hf0, Hi1, HiB, Hr0, Hx, HoA, Hs1, Ho0, HsG, ⟨%W', %hW', HO⟩⟩
  sl_exec
  ihave Hi0 := (Entails.of_eq (show (pts d L iSlot0 fullShare _ : sProp 𝕄) = (listOf iSlot0).view.loc (V d (cV L) (jV L)) ↦[(listOf iSlot0).view.set]{fullShare}
    iSlot0.view.write (Elt F) f0 ((iA L).view.read (Elt F) I) Finset.univ by rw [set_listOf])) $$ Hf0_dst
  iapply (SparseCore.wp_indirectGatherLocal countersEmb 𝒱₀ (V d (cV L) (jV L)) none (hg := gathers_S1024x128_S256x128) (default : HIx 1)
      rSlot0.view.dmaCredit (hN0 _) (by decide) (fetched_lt iSlot0 f0 I (base L) (baseA L) hI)) $$ [Hx Hr0 Hi0 HsG]
  · isplitl [Hx]; · iexact Hx
    isplitl [Hr0]; · iexact Hr0
    isplitl [Hi0]; · iexact Hi0
    iexact HsG
  iintro Hfl
  sl_exec
  iapply (Transfers.wp_waitLocalO countersEmb 𝒱₀ (V d (cV L) (jV L)) none (default : HIx 1) (rfl : rSlot0.view.dmaCredit = _)) $$ [Hfl HO]
  · isplitl [Hfl]; · iexact Hfl
    isplitl [HO]; · iexact HO
    iapply (Transfers.MayWaits.elim (SemLoc.dma semG)) $$ Hmw
  iintro ⟨⟨Hr0, Hx, Hi0⟩, HsG, HO⟩
  sl_exec
  sl_step
  isplitr
  · ipureintro
    clear * - L
    revert L
    decide +kernel
  isplitl [Hs1]
  · iapply (idxFlight_of d L qi iSlot1 (iB L) semI1 f1 I _ ?_)
    swap; · iexact Hs1
    rfl
  isplitl [Hf0_src]; · iexact Hf0_src
  isplitl [Hf0]; · iexact Hf0
  isplitl [Hx]; · iexact Hx
  isplitl [Hi0]
  · iexists _
    iapply (Entails.of_eq (show ((listOf iSlot0).view.loc (V d (cV L) (jV L)) ↦[(listOf iSlot0).view.set]{fullShare} _ : sProp 𝕄) = pts d L iSlot0 fullShare _ by rw [set_listOf]))
    iexact Hi0
  isplitl [HsG]; · iexact HsG
  isplitl [Ho0]
  · iapply (outFlight_of d L I T rSlot0 (base L) (baseA L) semO0 _ fo _ (fun y => ?_))
    swap; · iexact Ho0
    exact (congrFun (View.read_write_univ (v := rSlot0.view) g0 _) y).trans (payload_eq T I (base L) (baseA L) _ (fetched iSlot0 f0 I (base L) (baseA L)) _
        (fetched_lt iSlot0 f0 I (base L) (baseA L) hI) y)
  iexists _
  isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

set_option maxHeartbeats 4000000 in
/-- The pipeline's second trip: it waits for the second index fetch, gathers the second 256 rows, starts their copy to
    the second window and waits for the first window's copy. -/
theorem trip1_body (fo : Buf (Elt F) (oLoc d)) (f1 : Buf (Elt F) (iSlot1.view.loc (V d (cV L) (jV L))))
    (g1 : Buf (Elt F) (rSlot1.view.loc (V d (cV L) (jV L)))) (hI : ∀ x, (I x : BitVec 32).toNat < 1024) :
    iprop(Transfers.MayWaits (V d (cV L) (jV L)) (default : HIx 1) O ∗ idxFlight d L qi iSlot1 (iB L) semI1 f1 I
      ∗ pts d L rSlot1 fullShare g1 ∗ pts d L xAll qx T ∗ pts d L (oB L) fullShare fo ∗ outFlight d L rSlot0 (oA L) semO0 (G T I)
      ∗ semVal (V d (cV L) (jV L), .dma semO1) 0 ∗ semVal (V d (cV L) (jV L), .dma semG) 0
      ∗ owing d L O W)
     ⊢ wp frame (wpE (defs₀ (F := F)) 𝒱₀ (V d (cV L) (jV L)) none) Set.univ
          (k1_t1_body (F := F) L xV (Memref.isWhole_whole _) iV (Memref.isWhole_whole _) oV (Memref.isWhole_whole _)
            sV (Memref.isWhole_whole _) cc1_scoped1 rV (Memref.isWhole_whole _) cc1_scoped3 cc1_scoped4 (firstBlock L) trip1 (2#32, 1#32, 1#32, 0#32, 1#32))
          fun r => iprop(⌜r = (2#32, 2#32, 2#32, 1#32, 0#32)⌝ ∗ pts d L (iB L) qi I ∗ semVal (V d (cV L) (jV L), .dma semI1) 0
            ∗ pts d L xAll qx T ∗ (∃ f, pts d L iSlot1 fullShare f) ∗ semVal (V d (cV L) (jV L), .dma semG) 0
            ∗ outFlight d L rSlot1 (oB L) semO1 (G T I)
            ∗ pts d L (oA L) fullShare (G T I) ∗ (∃ f, pts d L rSlot0 fullShare f) ∗ semVal (V d (cV L) (jV L), .dma semO0) 0 ∗ owing d L O W) := by
  unfold k1_t1_body
  simp only [k1_part1_eq_skeleton, k1_part2_eq_skeleton]
  unfold k1_part1_skel k1_part2_skel
  simp only [dif_neg (cond1_1 L), dif_pos (cond2_1 L), dif_pos (cond5_1 L), dif_pos (cond7_1 L), ite_self]
  simp only [iSlot1_eq off7_1, iWin_eq (off8_1 L) (baseB L),
    sem_eq cc1_scoped1 off9_1 _ (sem_inb 1), rSlot1_eq off10_1, iSlot1_eq off11_1, rSlot1_eq off12_1, oWin_eq (off13_1 L) (baseB L),
    sem_eq cc1_scoped3 off14_1 _ (sem_inb 1), rSlot0_eq off15_0, oWin_eq (off16_1 L) (baseA L), sem_eq cc1_scoped3 off17_0 _ (sem_inb 0)]
  have h1 := chk1_1 L
  have h2 := chk2_1
  have h3 := chk3_1
  iintro ⟨#Hmw, Hf1, Hr1, Hx, HoB, Ho0, Ho1, HsG, ⟨%W', %hW', HO⟩⟩
  sl_exec
  ihave Hi1 := (Entails.of_eq (show (pts d L iSlot1 fullShare _ : sProp 𝕄) = (listOf iSlot1).view.loc (V d (cV L) (jV L)) ↦[(listOf iSlot1).view.set]{fullShare}
    iSlot1.view.write (Elt F) f1 ((iB L).view.read (Elt F) I) Finset.univ by rw [set_listOf])) $$ Hf1_dst
  iapply (SparseCore.wp_indirectGatherLocal countersEmb 𝒱₀ (V d (cV L) (jV L)) none (hg := gathers_S1024x128_S256x128) (default : HIx 1)
      rSlot1.view.dmaCredit (hN1 _) (by decide) (fetched_lt iSlot1 f1 I (base L + 256) (baseB L) hI)) $$ [Hx Hr1 Hi1 HsG]
  · isplitl [Hx]; · iexact Hx
    isplitl [Hr1]; · iexact Hr1
    isplitl [Hi1]; · iexact Hi1
    iexact HsG
  iintro Hfl
  sl_exec
  iapply (Transfers.wp_waitLocalO countersEmb 𝒱₀ (V d (cV L) (jV L)) none (default : HIx 1) (rfl : rSlot1.view.dmaCredit = _)) $$ [Hfl HO]
  · isplitl [Hfl]; · iexact Hfl
    isplitl [HO]; · iexact HO
    iapply (Transfers.MayWaits.elim (SemLoc.dma semG)) $$ Hmw
  iintro ⟨⟨Hr1, Hx, Hi1⟩, HsG, HO⟩
  sl_exec
  iapply (Transfers.wp_waitLocalO countersEmb 𝒱₀ (V d (cV L) (jV L)) none (default : HIx 1) (rfl : (oA L).view.dmaCredit = 1048576)) $$ [Ho0 HO]
  · isplitl [Ho0]; · iexact Ho0
    isplitl [HO]; · iexact HO
    iapply (Transfers.MayWaits.elim (SemLoc.dma semO0)) $$ Hmw
  iintro ⟨⟨HoA, Hr0⟩, Ho0, HO⟩
  sl_exec
  sl_step
  isplitr
  · ipureintro
    clear * - L
    revert L
    decide +kernel
  isplitl [Hf1_src]; · iexact Hf1_src
  isplitl [Hf1]; · iexact Hf1
  isplitl [Hx]; · iexact Hx
  isplitl [Hi1]
  · iexists _
    iapply (Entails.of_eq (show ((listOf iSlot1).view.loc (V d (cV L) (jV L)) ↦[(listOf iSlot1).view.set]{fullShare} _ : sProp 𝕄) = pts d L iSlot1 fullShare _ by rw [set_listOf]))
    iexact Hi1
  isplitl [HsG]; · iexact HsG
  isplitl [Ho1]
  · iapply (outFlight_of d L I T rSlot1 (base L + 256) (baseB L) semO1 _ fo _ (fun y => ?_))
    swap; · iexact Ho1
    exact (congrFun (View.read_write_univ (v := rSlot1.view) g1 _) y).trans (payload_eq T I (base L + 256) (baseB L) _ (fetched iSlot1 f1 I (base L + 256) (baseB L)) _
        (fetched_lt iSlot1 f1 I (base L + 256) (baseB L) hI) y)
  isplitl [HoA]; · iexact HoA
  isplitl [Hr0]; · iexact Hr0
  isplitl [Ho0]; · iexact Ho0
  iexists _
  isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

end

end Cert.Proof.Whole
-- ==== Proof.Whole.Body.lean ====
module

public import proofs.«01_k».proof.Proof.Whole.Tile

@[expose] public section

noncomputable section

namespace Cert.Proof.Whole

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid1.Coords)

section

variable [FloatOps F] (O : CellTallies nD τ sig (HIx 1)) (W : Waits sig (HIx 1)) (qi qx : PosShare TreeShare)
    (I : Buf (Elt F) (iLoc d)) (T : Buf (Elt F) (xLoc d))

set_option maxHeartbeats 4000000 in
/-- The pipeline's prologue starts the first index fetch. -/
theorem part3_body (f0 : Buf (Elt F) (iSlot0.view.loc (V d (cV L) (jV L)))) :
    iprop(pts d L iSlot0 fullShare f0 ∗ pts d L (iA L) qi I ∗ semVal (V d (cV L) (jV L), .dma semI0) 0)
     ⊢ wp frame (wpE (defs₀ (F := F)) 𝒱₀ (V d (cV L) (jV L)) none) Set.univ
          (k1_part3 (F := F) L xV (Memref.isWhole_whole _) iV (Memref.isWhole_whole _) oV (Memref.isWhole_whole _)
            sV (Memref.isWhole_whole _) cc1_scoped1 rV (Memref.isWhole_whole _) cc1_scoped3 cc1_scoped4)
          fun r => iprop(⌜r = firstBlock L⌝ ∗ idxFlight d L qi iSlot0 (iA L) semI0 f0 I) := by
  simp only [k1_part3_eq_skeleton]
  unfold k1_part3_skel
  simp only [iSlot0_eq k1_off1_eq, iWin_eq (r := base L) (k1_off2_eq L) (baseA L), sem_eq cc1_scoped1 k1_off3_eq _ (sem_inb 0)]
  iintro ⟨Hi0, HiA, Hs0⟩
  sl_exec
  sl_step
  isplitr
  · ipureintro; rfl
  iapply (idxFlight_of d L qi iSlot0 (iA L) semI0 f0 I _ ?_)
  swap; · iexact Hs0
  rfl

/-- The loop is its two trips in order. -/
theorem loop_two {α : Type} {E : Type → Type} (init : α) (body : Fin k1_t1_loop.trips → α → Prog E α) :
    Scf.Loop.for k1_t1_loop k1_t1_ok init body = (body trip0 init >>= fun a => body trip1 a >>= fun a => .ret a) := by
  unfold Scf.Loop.for; rw [Scf.for_eq]; rfl

set_option maxHeartbeats 4000000 in
/-- The kernel on one vector subcore: its two windows of the result are left at the gathered rows, everything else it
    was lent comes back, and its own buffers and semaphores are as they were but for their contents. -/
theorem kernel_body (fo : Buf (Elt F) (oLoc d)) (f0 : Buf (Elt F) (iSlot0.view.loc (V d (cV L) (jV L)))) (f1 : Buf (Elt F) (iSlot1.view.loc (V d (cV L) (jV L))))
    (g0 : Buf (Elt F) (rSlot0.view.loc (V d (cV L) (jV L)))) (g1 : Buf (Elt F) (rSlot1.view.loc (V d (cV L) (jV L)))) (hI : ∀ x, (I x : BitVec 32).toNat < 1024) :
    iprop(Transfers.MayWaits (V d (cV L) (jV L)) (default : HIx 1) O ∗ pts d L (iA L) qi I ∗ pts d L (iB L) qi I ∗ pts d L xAll qx T
      ∗ pts d L (oA L) fullShare fo ∗ pts d L (oB L) fullShare fo
      ∗ pts d L iSlot0 fullShare f0 ∗ pts d L iSlot1 fullShare f1 ∗ pts d L rSlot0 fullShare g0 ∗ pts d L rSlot1 fullShare g1
      ∗ semVal (V d (cV L) (jV L), .dma semI0) 0 ∗ semVal (V d (cV L) (jV L), .dma semI1) 0 ∗ semVal (V d (cV L) (jV L), .dma semO0) 0
      ∗ semVal (V d (cV L) (jV L), .dma semO1) 0 ∗ semVal (V d (cV L) (jV L), .dma semG) 0 ∗ owing d L O W)
     ⊢ wp frame (wpE (defs₀ (F := F)) 𝒱₀ (V d (cV L) (jV L)) none) Set.univ
          (cc1_gather_kernel (F := F) L xV (Memref.isWhole_whole _) iV (Memref.isWhole_whole _) oV (Memref.isWhole_whole _)
            sV (Memref.isWhole_whole _) cc1_scoped1 rV (Memref.isWhole_whole _) cc1_scoped3 cc1_scoped4)
          fun _ => iprop(pts d L (iA L) qi I ∗ pts d L (iB L) qi I ∗ pts d L xAll qx T
            ∗ pts d L (oA L) fullShare (G T I) ∗ pts d L (oB L) fullShare (G T I)
            ∗ (∃ f, pts d L iSlot0 fullShare f) ∗ (∃ f, pts d L iSlot1 fullShare f) ∗ (∃ f, pts d L rSlot0 fullShare f) ∗ (∃ f, pts d L rSlot1 fullShare f)
            ∗ semVal (V d (cV L) (jV L), .dma semI0) 0 ∗ semVal (V d (cV L) (jV L), .dma semI1) 0 ∗ semVal (V d (cV L) (jV L), .dma semO0) 0
            ∗ semVal (V d (cV L) (jV L), .dma semO1) 0 ∗ semVal (V d (cV L) (jV L), .dma semG) 0 ∗ owing d L O W) := by
  simp only [cc1_gather_kernel_eq_skeleton]
  unfold cc1_gather_kernel_skel
  simp only [k1_part4_eq_skeleton]
  unfold k1_part4_skel
  simp only [loop_two, wp_bind]
  iintro ⟨#Hmw, HiA, HiB, Hx, HoA, HoB, Hi0, Hi1, Hr0, Hr1, HsI0, HsI1, HsO0, HsO1, HsG, HO⟩
  ihave Hw := (part3_body d L qi I f0) $$ [Hi0 HiA HsI0]
  · isplitl [Hi0]; · iexact Hi0
    isplitl [HiA]; · iexact HiA
    iexact HsI0
  iapply (wp_wand _ _ _) $$ Hw
  iintro %r ⟨%hr, Hf0⟩
  subst hr
  ihave Hw := (trip0_body d L O W qi qx I T fo f0 f1 g0 hI) $$ [Hf0 Hi1 HiB Hr0 Hx HoA HsI1 HsO0 HsG HO]
  · isplitr; · iexact Hmw
    isplitl [Hf0]; · iexact Hf0
    isplitl [Hi1]; · iexact Hi1
    isplitl [HiB]; · iexact HiB
    isplitl [Hr0]; · iexact Hr0
    isplitl [Hx]; · iexact Hx
    isplitl [HoA]; · iexact HoA
    isplitl [HsI1]; · iexact HsI1
    isplitl [HsO0]; · iexact HsO0
    isplitl [HsG]; · iexact HsG
    iexact HO
  iapply (wp_wand _ _ _) $$ Hw
  iintro %r ⟨%hr, Hf1, HiA, HsI0, Hx, Hi0, HsG, HfA, HO⟩
  subst hr
  ihave Hw := (trip1_body d L O W qi qx I T fo f1 g1 hI) $$ [Hf1 Hr1 Hx HoB HfA HsO1 HsG HO]
  · isplitr; · iexact Hmw
    isplitl [Hf1]; · iexact Hf1
    isplitl [Hr1]; · iexact Hr1
    isplitl [Hx]; · iexact Hx
    isplitl [HoB]; · iexact HoB
    isplitl [HfA]; · iexact HfA
    isplitl [HsO1]; · iexact HsO1
    isplitl [HsG]; · iexact HsG
    iexact HO
  iapply (wp_wand _ _ _) $$ Hw
  iintro %r ⟨%hr, HiB, HsI1, Hx, Hi1, HsG, HfB, HoA, Hr0, HsO0, ⟨%W', %hW', HO⟩⟩
  subst hr
  have h4 := chk4_1
  have h5 := chk5_0 L
  sl_exec
  simp only [oWin_eq (off19_0 L) (baseB L), sem_eq cc1_scoped3 off20_1 _ (sem_inb 1), rSlot1_eq off21_1]
  iapply (Transfers.wp_waitLocalO countersEmb 𝒱₀ (V d (cV L) (jV L)) none (default : HIx 1) (rfl : (oB L).view.dmaCredit = 1048576)) $$ [HfB HO]
  · isplitl [HfB]; · iexact HfB
    isplitl [HO]; · iexact HO
    iapply (Transfers.MayWaits.elim (SemLoc.dma semO1)) $$ Hmw
  iintro ⟨⟨HoB, Hr1⟩, HsO1, HO⟩
  sl_exec
  sl_step
  isplitl [HiA]; · iexact HiA
  isplitl [HiB]; · iexact HiB
  isplitl [Hx]; · iexact Hx
  isplitl [HoA]; · iexact HoA
  isplitl [HoB]; · iexact HoB
  isplitl [Hi0]; · iexact Hi0
  isplitl [Hi1]; · iexact Hi1
  isplitl [Hr0]; · iexact Hr0
  isplitl [Hr1]; · iexact Hr1
  isplitl [HsI0]; · iexact HsI0
  isplitl [HsI1]; · iexact HsI1
  isplitl [HsO0]; · iexact HsO0
  isplitl [HsO1]; · iexact HsO1
  isplitl [HsG]; · iexact HsG
  iexists _
  isplitr
  swap; · iexact HO
  ipureintro; intro p hp
  rcases Finset.mem_insert.mp hp with hp | hp; · exact .inr (hp ▸ rfl)
  exact hW' p hp

end

end Cert.Proof.Whole
-- ==== Proof.Whole.Blocks.lean ====
module

public import proofs.«01_k».proof.Proof.Whole.Body
public import Idealize.ShloMosaic.Lib.ShareLeaves

@[expose] public section

noncomputable section

namespace Cert.Proof.Whole

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! # The arrays cut into the subcores' blocks

Subcore `i` of core `c` works on block `16 c + i` of 32 blocks of 512 rows, in two windows of 256 rows. -/

/-- The number of the block of subcore `i` of core `c`. -/
def kOf (c i : ℕ) : Fin 32 := Fin.ofNat 32 (16 * c + i)

/-- The indices that block `k` reads. -/
abbrev iBlk (k : Fin 32) : Finset S1x16384.Idx := Finset.univ.filter fun x => 512 * k.val ≤ (x 1).val ∧ (x 1).val < 512 * k.val + 512
/-- The rows that block `k` writes. -/
abbrev oBlk (k : Fin 32) : Finset S16384x128.Idx := Finset.univ.filter fun x => 512 * k.val ≤ (x 0).val ∧ (x 0).val < 512 * k.val + 512

/-- The number of a tile's block gives the tile's first index: 512 indices to a block. -/
theorem kOf_base (L : grid1.Coords) : 512 * (kOf (L 0).val (L 1).val).val = base L := by
  have h0 : (L 0).val < 2 := (L 0).isLt
  have h1 : (L 1).val < 16 := (L 1).isLt
  unfold kOf base
  rw [Fin.val_ofNat, Nat.mod_eq_of_lt (by omega)]; omega

/-- An index of the index row lies in the window from `r` exactly when its column is one of the 256 from `r`. -/
theorem mem_iWin (r : ℕ) (h : r + 256 ≤ 16384) (x : S1x16384.Idx) :
    x ∈ (iWin r h).view.set ↔ r ≤ (x 1).val ∧ (x 1).val < r + 256 := by
  have e : (iWin r h).view.set = (Rect.unit (s := S1x16384) ![0, r] S1x256.size (iwin_inb r h)).set := by
    show ((View.whole (main_v11_scv : Ref sig .scVector)).slice _).set = _
    rw [View.set_slice]; exact Finset.map_refl
  rw [e, Rect.mem_set_unit]
  refine ⟨fun H => H 1, fun H a => ?_⟩
  match a with
  | 0 => have h0 : (x 0).val < 1 := (x 0).isLt; exact ⟨Nat.zero_le _, by simpa using h0⟩
  | 1 => exact H

/-- An index of the result lies in the window from `r` exactly when its row is one of the 256 from `r`. -/
theorem mem_oWin (r : ℕ) (h : r + 256 ≤ 16384) (x : S16384x128.Idx) :
    x ∈ (oWin r h).view.set ↔ r ≤ (x 0).val ∧ (x 0).val < r + 256 := by
  have e : (oWin r h).view.set = (Rect.unit (s := S16384x128) ![r, 0] S256x128.size (owin_inb r h)).set := by
    show ((View.whole (main_v12_scv : Ref sig .scVector)).slice _).set = _
    rw [View.set_slice]; exact Finset.map_refl
  rw [e, Rect.mem_set_unit]
  refine ⟨fun H => H 0, fun H a => ?_⟩
  match a with
  | 0 => exact H
  | 1 => have h0 : (x 1).val < 128 := (x 1).isLt; exact ⟨Nat.zero_le _, by simpa using h0⟩

/-- A tile's block of the index row is its two windows. -/
theorem iBlk_eq (L : grid1.Coords) : iBlk (kOf (L 0).val (L 1).val) = (iA L).view.set ∪ (iB L).view.set := by
  ext x
  rw [Finset.mem_union, mem_iWin, mem_iWin, Finset.mem_filter, kOf_base]
  simp only [Finset.mem_univ, true_and]; omega
/-- A tile's block of the result is its two windows. -/
theorem oBlk_eq (L : grid1.Coords) : oBlk (kOf (L 0).val (L 1).val) = (oA L).view.set ∪ (oB L).view.set := by
  ext x
  rw [Finset.mem_union, mem_oWin, mem_oWin, Finset.mem_filter, kOf_base]
  simp only [Finset.mem_univ, true_and]; omega
/-- A tile's two windows of the index row share no element. -/
theorem iAB_disjoint (L : grid1.Coords) : Disjoint (iA L).view.set (iB L).view.set :=
  Finset.disjoint_left.mpr fun x h1 h2 => by rw [mem_iWin] at h1 h2; omega
/-- A tile's two windows of the result share no element. -/
theorem oAB_disjoint (L : grid1.Coords) : Disjoint (oA L).view.set (oB L).view.set :=
  Finset.disjoint_left.mpr fun x h1 h2 => by rw [mem_oWin] at h1 h2; omega

/-- The blocks of the index row are pairwise disjoint. -/
theorem iBlk_disjoint : ∀ i ∈ (Finset.univ : Finset (Fin 32)), ∀ j ∈ (Finset.univ : Finset (Fin 32)), i ≠ j → Disjoint (iBlk i) (iBlk j) := by
  intro i _ j _ h
  refine Finset.disjoint_left.mpr fun x h1 h2 => h (Fin.ext ?_)
  have a := (Finset.mem_filter.mp h1).2; have b := (Finset.mem_filter.mp h2).2
  omega
/-- The blocks of the result are pairwise disjoint. -/
theorem oBlk_disjoint : ∀ i ∈ (Finset.univ : Finset (Fin 32)), ∀ j ∈ (Finset.univ : Finset (Fin 32)), i ≠ j → Disjoint (oBlk i) (oBlk j) := by
  intro i _ j _ h
  refine Finset.disjoint_left.mpr fun x h1 h2 => h (Fin.ext ?_)
  have a := (Finset.mem_filter.mp h1).2; have b := (Finset.mem_filter.mp h2).2
  omega
/-- The 32 blocks cover the index row. -/
theorem iBlk_cover : (Finset.univ : Finset (Fin 32)).biUnion iBlk = Finset.univ := by
  refine Finset.eq_univ_of_forall fun x => ?_
  have h : (x 1).val < 16384 := (x 1).isLt
  refine Finset.mem_biUnion.mpr ⟨⟨(x 1).val / 512, by omega⟩, Finset.mem_univ _, Finset.mem_filter.mpr ⟨Finset.mem_univ _, ?_⟩⟩
  show 512 * ((x 1).val / 512) ≤ (x 1).val ∧ (x 1).val < 512 * ((x 1).val / 512) + 512
  omega
/-- The 32 blocks cover the result. -/
theorem oBlk_cover : (Finset.univ : Finset (Fin 32)).biUnion oBlk = Finset.univ := by
  refine Finset.eq_univ_of_forall fun x => ?_
  have h : (x 0).val < 16384 := (x 0).isLt
  refine Finset.mem_biUnion.mpr ⟨⟨(x 0).val / 512, by omega⟩, Finset.mem_univ _, Finset.mem_filter.mpr ⟨Finset.mem_univ _, ?_⟩⟩
  show 512 * ((x 0).val / 512) ≤ (x 0).val ∧ (x 0).val < 512 * ((x 0).val / 512) + 512
  omega

/-- The index row, held whole, is its 32 blocks held one by one. -/
theorem iPts_blocks (d : Dev nD) (f : Buf (Elt F) (iLoc d)) :
    (iLoc d ↦{fullShare} f : sProp 𝕄) = bigSep Finset.univ fun k : Fin 32 => iLoc d ↦[iBlk k]{fullShare} f := by
  rw [← pointsTo_biUnion Finset.univ (ℓ := iLoc d) iBlk iBlk_disjoint, iBlk_cover]; try rfl
/-- The result, held whole, is its 32 blocks held one by one. -/
theorem oPts_blocks (d : Dev nD) (f : Buf (Elt F) (oLoc d)) :
    (oLoc d ↦{fullShare} f : sProp 𝕄) = bigSep Finset.univ fun k : Fin 32 => oLoc d ↦[oBlk k]{fullShare} f := by
  rw [← pointsTo_biUnion Finset.univ (ℓ := oLoc d) oBlk oBlk_disjoint, oBlk_cover]; try rfl

/-- Block `k`'s share of the table. -/
abbrev xq (k : Fin 32) : PosShare TreeShare := ShareLeaves.leaf 5 fullShare k
/-- The table, held whole, is 32 read shares of the table. -/
theorem xPts_shares (d : Dev nD) (f : Buf (Elt F) (xLoc d)) :
    (xLoc d ↦{fullShare} f : sProp 𝕄) = bigSep Finset.univ fun k : Fin 32 => xLoc d ↦{xq k} f :=
  ShareLeaves.pointsTo_leaves Finset.univ f 5 fullShare

section

variable (d : Dev nD) (L : grid1.Coords)

/-- A tile's block of the index row, held, is its two windows held. -/
theorem iPts_windows (f : Buf (Elt F) (iLoc d)) :
    (iLoc d ↦[iBlk (kOf (L 0).val (L 1).val)]{fullShare} f : sProp 𝕄) = iprop(pts d L (iA L) fullShare f ∗ pts d L (iB L) fullShare f) := by
  rw [iBlk_eq]; exact BI.Entails.antisymm (pointsTo_union (iAB_disjoint L)).1 (pointsTo_union (iAB_disjoint L)).2
/-- A tile's block of the result, held, is its two windows held. -/
theorem oPts_windows (f : Buf (Elt F) (oLoc d)) :
    (oLoc d ↦[oBlk (kOf (L 0).val (L 1).val)]{fullShare} f : sProp 𝕄) = iprop(pts d L (oA L) fullShare f ∗ pts d L (oB L) fullShare f) := by
  rw [oBlk_eq]; exact BI.Entails.antisymm (pointsTo_union (oAB_disjoint L)).1 (pointsTo_union (oAB_disjoint L)).2
/-- A share of the table is the same share of the view that the gather reads. -/
theorem xPts_all (q : PosShare TreeShare) (f : Buf (Elt F) (xLoc d)) : (xLoc d ↦{q} f : sProp 𝕄) = pts d L xAll q f := by
  show _ = (xLoc d ↦[xAll.view.set]{q} f : sProp 𝕄)
  rw [set_xAll]

/-! ## The subcore's two double buffers, cut into their slots -/

/-- An element of the index buffer lies in slot `s` exactly when its first coordinate is `s`. -/
theorem mem_slotI (s : Fin 2) (h) (x : S2x1x256.Idx) : x ∈ (Rect.unit (s := S2x1x256) ![s.val, 0, 0] S1x1x256.size h).set ↔ (x 0).val = s.val := by
  rw [Rect.mem_set_unit]
  refine ⟨fun H => ?_, fun H a => ?_⟩
  · have h0 : s.val ≤ (x 0).val ∧ (x 0).val < s.val + 1 := H 0
    omega
  · match a with
    | 0 => show s.val ≤ (x 0).val ∧ (x 0).val < s.val + 1; omega
    | 1 => have h0 : (x 1).val < 1 := (x 1).isLt; show 0 ≤ (x 1).val ∧ (x 1).val < 0 + 1; omega
    | 2 => have h0 : (x 2).val < 256 := (x 2).isLt; show 0 ≤ (x 2).val ∧ (x 2).val < 0 + 256; omega
/-- An element of the row buffer lies in slot `s` exactly when its first coordinate is `s`. -/
theorem mem_slotR (s : Fin 2) (h) (x : S2x256x128.Idx) : x ∈ (Rect.unit (s := S2x256x128) ![s.val, 0, 0] S1x256x128.size h).set ↔ (x 0).val = s.val := by
  rw [Rect.mem_set_unit]
  refine ⟨fun H => ?_, fun H a => ?_⟩
  · have h0 : s.val ≤ (x 0).val ∧ (x 0).val < s.val + 1 := H 0
    omega
  · match a with
    | 0 => show s.val ≤ (x 0).val ∧ (x 0).val < s.val + 1; omega
    | 1 => have h0 : (x 1).val < 256 := (x 1).isLt; show 0 ≤ (x 1).val ∧ (x 1).val < 0 + 256; omega
    | 2 => have h0 : (x 2).val < 128 := (x 2).isLt; show 0 ≤ (x 2).val ∧ (x 2).val < 0 + 128; omega

/-- Slot 0 of the index buffer, by the first coordinate. -/
theorem mem_iSlot0 (x : S2x1x256.Idx) : x ∈ (iSlot0).view.set ↔ (x 0).val = 0 := by
  have e : (iSlot0).view.set = (Rect.unit (s := S2x1x256) ![(0 : Fin 2).val, 0, 0] S1x1x256.size (islot_inb 0)).set := by
    show (((View.whole (cc1_scoped0 : Ref sig .scVector)).slice _).reshape _ _).set = _
    rw [View.set_reshape, View.set_slice]; exact Finset.map_refl
  rw [e]; exact mem_slotI 0 _ x
/-- Slot 1 of the index buffer, by the first coordinate. -/
theorem mem_iSlot1 (x : S2x1x256.Idx) : x ∈ (iSlot1).view.set ↔ (x 0).val = 1 := by
  have e : (iSlot1).view.set = (Rect.unit (s := S2x1x256) ![(1 : Fin 2).val, 0, 0] S1x1x256.size (islot_inb 1)).set := by
    show (((View.whole (cc1_scoped0 : Ref sig .scVector)).slice _).reshape _ _).set = _
    rw [View.set_reshape, View.set_slice]; exact Finset.map_refl
  rw [e]; exact mem_slotI 1 _ x
/-- The two slots are the whole index buffer. -/
theorem islots_union : (iSlot0).view.set ∪ (iSlot1).view.set = (Finset.univ : Finset S2x1x256.Idx) := by
  refine Finset.eq_univ_of_forall fun (x : S2x1x256.Idx) => Finset.mem_union.mpr ?_
  have h : (x 0).val < 2 := (x 0).isLt
  rcases (show (x 0).val = 0 ∨ (x 0).val = 1 by omega) with e | e
  · exact .inl ((mem_iSlot0 x).mpr e)
  · exact .inr ((mem_iSlot1 x).mpr e)
/-- The two slots of the index buffer share no element. -/
theorem islots_disjoint : Disjoint (iSlot0).view.set (iSlot1).view.set :=
  Finset.disjoint_left.mpr fun (x : S2x1x256.Idx) h1 h2 => by
    have e := ((mem_iSlot0 x).mp h1).symm.trans ((mem_iSlot1 x).mp h2)
    exact absurd e (by decide)
/-- Slot 0 of the row buffer, by the first coordinate. -/
theorem mem_rSlot0 (x : S2x256x128.Idx) : x ∈ (rSlot0).view.set ↔ (x 0).val = 0 := by
  have e : (rSlot0).view.set = (Rect.unit (s := S2x256x128) ![(0 : Fin 2).val, 0, 0] S1x256x128.size (rslot_inb 0)).set := by
    show (((View.whole (cc1_scoped2 : Ref sig .scVector)).slice _).reshape _ _).set = _
    rw [View.set_reshape, View.set_slice]; exact Finset.map_refl
  rw [e]; exact mem_slotR 0 _ x
/-- Slot 1 of the row buffer, by the first coordinate. -/
theorem mem_rSlot1 (x : S2x256x128.Idx) : x ∈ (rSlot1).view.set ↔ (x 0).val = 1 := by
  have e : (rSlot1).view.set = (Rect.unit (s := S2x256x128) ![(1 : Fin 2).val, 0, 0] S1x256x128.size (rslot_inb 1)).set := by
    show (((View.whole (cc1_scoped2 : Ref sig .scVector)).slice _).reshape _ _).set = _
    rw [View.set_reshape, View.set_slice]; exact Finset.map_refl
  rw [e]; exact mem_slotR 1 _ x
/-- The two slots are the whole row buffer. -/
theorem rslots_union : (rSlot0).view.set ∪ (rSlot1).view.set = (Finset.univ : Finset S2x256x128.Idx) := by
  refine Finset.eq_univ_of_forall fun (x : S2x256x128.Idx) => Finset.mem_union.mpr ?_
  have h : (x 0).val < 2 := (x 0).isLt
  rcases (show (x 0).val = 0 ∨ (x 0).val = 1 by omega) with e | e
  · exact .inl ((mem_rSlot0 x).mpr e)
  · exact .inr ((mem_rSlot1 x).mpr e)
/-- The two slots of the row buffer share no element. -/
theorem rslots_disjoint : Disjoint (rSlot0).view.set (rSlot1).view.set :=
  Finset.disjoint_left.mpr fun (x : S2x256x128.Idx) h1 h2 => by
    have e := ((mem_rSlot0 x).mp h1).symm.trans ((mem_rSlot1 x).mp h2)
    exact absurd e (by decide)

/-- A tile's double buffer of indices. -/
abbrev sLoc : Loc nD τ sig := (V d (cV L) (jV L)).loc cc1_scoped0
/-- A tile's double buffer of rows. -/
abbrev rLoc : Loc nD τ sig := (V d (cV L) (jV L)).loc cc1_scoped2

/-- The index buffer, held whole, gives its two slots. -/
theorem sPts_split (f : Buf (Elt F) (sLoc d L)) :
    (sLoc d L ↦{fullShare} f : sProp 𝕄) ⊢ iprop(pts d L iSlot0 fullShare f ∗ pts d L iSlot1 fullShare f) := by
  show (sLoc d L ↦[(Finset.univ : Finset S2x1x256.Idx)]{fullShare} f : sProp 𝕄) ⊢ _
  rw [← islots_union]; exact (pointsTo_union islots_disjoint).1
/-- The row buffer, held whole, gives its two slots. -/
theorem rPts_split (f : Buf (Elt F) (rLoc d L)) :
    (rLoc d L ↦{fullShare} f : sProp 𝕄) ⊢ iprop(pts d L rSlot0 fullShare f ∗ pts d L rSlot1 fullShare f) := by
  show (rLoc d L ↦[(Finset.univ : Finset S2x256x128.Idx)]{fullShare} f : sProp 𝕄) ⊢ _
  rw [← rslots_union]; exact (pointsTo_union rslots_disjoint).1
/-- The two slots of the index buffer, with any contents, give the buffer back. -/
theorem sPts_join :
    iprop((∃ f, pts d L iSlot0 fullShare f) ∗ ∃ f, pts d L iSlot1 fullShare f) ⊢ (iprop(∃ f, sLoc d L ↦{fullShare} f) : sProp 𝕄) := by
  iintro ⟨⟨%f, Hf⟩, %g, Hg⟩
  ihave H := (pointsTo_join (ℓ := sLoc d L) (q := fullShare) (f := f) (g := g) islots_disjoint) $$ [Hf Hg]
  · isplitl [Hf] <;> iassumption
  rw [islots_union]
  iexists _; iexact H
/-- The two slots of the row buffer, with any contents, give the buffer back. -/
theorem rPts_join :
    iprop((∃ f, pts d L rSlot0 fullShare f) ∗ ∃ f, pts d L rSlot1 fullShare f) ⊢ (iprop(∃ f, rLoc d L ↦{fullShare} f) : sProp 𝕄) := by
  iintro ⟨⟨%f, Hf⟩, %g, Hg⟩
  ihave H := (pointsTo_join (ℓ := rLoc d L) (q := fullShare) (f := f) (g := g) rslots_disjoint) $$ [Hf Hg]
  · isplitl [Hf] <;> iassumption
  rw [rslots_union]
  iexists _; iexact H

end

end Cert.Proof.Whole

end
-- ==== Proof.Whole.Launch.lean ====
module

public import proofs.«01_k».proof.Proof.Whole.Blocks

@[expose] public section

noncomputable section

namespace Cert.Proof.Whole

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! # The call, launched on its 32 subcores -/

/-- What the handshakes of the call need of the program's counters. -/
theorem facts : (K (F := F)).Facts :=
  ⟨show sc_start ≠ sc_taskDone by decide,
   show (SemLoc.reg sc_start : SemLoc sig).isScoped .scScalar = false by decide,
   show (SemLoc.reg sc_taskDone : SemLoc sig).isScoped .scScalar = false by decide,
   show (SemLoc.reg sc_go : SemLoc sig).isScoped .scVector = false by decide,
   show (SemLoc.reg sc_done : SemLoc sig).isScoped .tc = false by decide,
   show ∀ (b : DevRef τ sig) (c : Fin τ.nSC), b.owner = .sc c → sig.taskShared b.table b.idx = false by decide,
   fun _ => rfl⟩

/-- Where the handshakes' rounds live in the ghost state. -/
abbrev EH : Emb UH (MT nD τ sig (HIx 1) (Elt F) ℕ UU ℕ) := embL

-- The contents, on each device, of the table, of the index array and of the result before the call.
variable (T : ∀ d, Buf (Elt F) (xLoc d)) (I : ∀ d, Buf (Elt F) (iLoc d)) (O₀ : ∀ d, Buf (Elt F) (oLoc d))

/-- What block `k` is given: its indices, a share of the table, its rows of the result. -/
abbrev tIn (d : Dev nD) (k : Fin 32) : sProp 𝕄 :=
  iprop((iLoc d ↦[iBlk k]{fullShare} I d) ∗ (xLoc d ↦{xq k} T d) ∗ oLoc d ↦[oBlk k]{fullShare} O₀ d)
/-- What block `k` gives back: the same, its rows of the result being the gathered ones. -/
abbrev tOut (d : Dev nD) (k : Fin 32) : sProp 𝕄 :=
  iprop((iLoc d ↦[iBlk k]{fullShare} I d) ∗ (xLoc d ↦{xq k} T d) ∗ oLoc d ↦[oBlk k]{fullShare} G (F := F) (T d) (I d))

/-- The pieces that change hands in the call. -/
def P : (K (F := F)).Pay (nD := nD) (Val := Elt F) (Name := ℕ) (U := UU) where
  st := fun _ d c => bigSep Finset.univ fun i : Fin 16 => tIn T I O₀ d (kOf c.val i.val)
  go := fun _ d c i => tIn T I O₀ d (kOf c.val i.val)
  td := fun _ d c i => tOut T I d (kOf c.val i.val)
  dn := fun _ d c => bigSep Finset.univ fun i : Fin 16 => tOut T I d (kOf c.val i.val)
  x := fun _ _ => iprop(emp)

/-- What the handshakes carry can be stored in an invariant. -/
instance P_storable : (P T I O₀).IsStorable where
  st := fun _ _ _ => by unfold P; infer_instance
  dn := fun _ _ _ => by unfold P; infer_instance
  go := fun _ _ _ _ => by unfold P; infer_instance
  td := fun _ _ _ _ => by unfold P; infer_instance

/-! ## A subcore's own semaphores and buffers -/

section Tile

variable (d : Dev nD) (L : grid1.Coords)

/-- A tile's counter, by the semaphore that names it. -/
abbrev cell (s : DmaSem sig) : GSem nD τ sig := (V d (cV L) (jV L), .dma s)

/-- Different semaphores of a tile are different counters. -/
theorem cell_ne {s s' : DmaSem sig} (h : s ≠ s') : cell d L s ≠ cell d L s' := by
  intro e; exact h (SemLoc.dma.inj (Prod.mk.inj e).2)

/-- A scoped semaphore's counter is one of the tile's own. -/
theorem cell_mem {s : DmaSem sig} (h : (SemLoc.dma s : SemLoc sig).isScoped .scVector = true) :
    cell d L s ∈ ownCells (V d (cV L) (jV L)) := (mem_ownCells (g := cell d L s)).mpr ⟨rfl, h⟩

/-- A tile's own counters, all at zero: the five that the pipeline uses, and the rest. -/
theorem ownSems0_V :
    (ownSems0 (V d (cV L) (jV L)) : sProp 𝕄)
      = iprop(semVal (cell d L semI0) 0 ∗ semVal (cell d L semI1) 0 ∗ semVal (cell d L semO0) 0 ∗ semVal (cell d L semO1) 0 ∗ semVal (cell d L semG) 0
          ∗ bigSep ((((((ownCells (V d (cV L) (jV L))).erase (cell d L semI0)).erase (cell d L semI1)).erase (cell d L semO0)).erase (cell d L semO1)).erase (cell d L semG))
              fun g => semVal g 0) := by
  unfold SparseCore.Cfg.ownSems0
  rw [SparseCore.bigSep_erase' (cell_mem d L (s := semI0) (by decide)),
    SparseCore.bigSep_erase' (Finset.mem_erase.mpr ⟨cell_ne d L (s := semI1) (s' := semI0) (by decide), cell_mem d L (s := semI1) (by decide)⟩),
    SparseCore.bigSep_erase' (Finset.mem_erase.mpr ⟨cell_ne d L (s := semO0) (s' := semI1) (by decide), Finset.mem_erase.mpr ⟨cell_ne d L (s := semO0) (s' := semI0) (by decide),
      cell_mem d L (s := semO0) (by decide)⟩⟩),
    SparseCore.bigSep_erase' (Finset.mem_erase.mpr ⟨cell_ne d L (s := semO1) (s' := semO0) (by decide), Finset.mem_erase.mpr ⟨cell_ne d L (s := semO1) (s' := semI1) (by decide),
      Finset.mem_erase.mpr ⟨cell_ne d L (s := semO1) (s' := semI0) (by decide), cell_mem d L (s := semO1) (by decide)⟩⟩⟩),
    SparseCore.bigSep_erase' (Finset.mem_erase.mpr ⟨cell_ne d L (s := semG) (s' := semO1) (by decide), Finset.mem_erase.mpr ⟨cell_ne d L (s := semG) (s' := semO0) (by decide),
      Finset.mem_erase.mpr ⟨cell_ne d L (s := semG) (s' := semI1) (by decide), Finset.mem_erase.mpr ⟨cell_ne d L (s := semG) (s' := semI0) (by decide),
        cell_mem d L (s := semG) (by decide)⟩⟩⟩⟩)]

/-- A tile's own buffers: the two double buffers, and the rest. -/
theorem ownBufs_V :
    (ownBufs (V d (cV L) (jV L)) : sProp 𝕄)
      = iprop((∃ f, sLoc d L ↦{fullShare} f) ∗ (∃ f, rLoc d L ↦{fullShare} f)
          ∗ bigSep (((ownRefs (τ := τ) (.scVector (cV L) (jV L))).erase ((Proc.scVector (cV L) (jV L)).devRef cc1_scoped0)).erase
              ((Proc.scVector (cV L) (jV L)).devRef cc1_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scoped0) rfl)).trans ?_
  rw [SparseCore.bigSep_erase' (Finset.mem_erase.mpr ⟨fun e => absurd (Proc.devRef_injective _ e) (show (cc1_scoped2 : Ref sig .scVector) ≠ cc1_scoped0 by decide),
    SparseCore.Cfg.mem_ownRefs_of_owner (p := Proc.scVector (cV L) (jV L)) (b := (Proc.scVector (cV L) (jV L)).devRef cc1_scoped2) rfl⟩)]

variable [FloatOps F]

set_option maxHeartbeats 1000000 in
/-- A subcore's run: from its block's pieces and its own scratch, the block's rows are gathered. -/
theorem tile_body (hF : (K (F := F)).Facts) (hI : ∀ d x, (I d x : BitVec 32).toNat < 1024) (O : CellTallies nD τ sig (HIx 1)) (W : Waits sig (HIx 1))
    (hO : ∀ g, O g none = 0) :
    iprop(levAts (K (F := F)).L (K (F := F)).lev ∗ emp ∗ tIn T I O₀ d (kOf (L 0).val (L 1).val)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_gather_kernel (F := F) L xV (Memref.isWhole_whole _) iV (Memref.isWhole_whole _) oV (Memref.isWhole_whole _)
            sV (Memref.isWhole_whole _) cc1_scoped1 rV (Memref.isWhole_whole _) cc1_scoped3 cc1_scoped4)
          fun _ => iprop(tOut T I d (kOf (L 0).val (L 1).val) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  unfold tIn tOut
  rw [iPts_windows, oPts_windows, oPts_windows, xPts_all]
  iintro ⟨#Hlv, -, ⟨⟨HiA, HiB⟩, Hx, HoA, HoB⟩, ⟨⟨%fs, Hs⟩, ⟨%fr, Hr⟩, Hbufs⟩, ⟨Hs0, Hs1, Hs2, Hs3, Hs4, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hss := (sPts_split (F := F) d L fs) $$ Hs
  icases Hss with ⟨Hi0, Hi1⟩
  ihave Hrr := (rPts_split (F := F) d L fr) $$ Hr
  icases Hrr with ⟨Hr0, Hr1⟩
  ihave Hw := (kernel_body d L O W fullShare (xq (kOf (L 0).val (L 1).val)) (I d) (T d) (O₀ d) fs fs fr fr (hI d))
    $$ [Hmw HiA HiB Hx HoA HoB Hi0 Hi1 Hr0 Hr1 Hs0 Hs1 Hs2 Hs3 Hs4 HO]
  · isplitl [Hmw]; · iexact Hmw
    isplitl [HiA]; · iexact HiA
    isplitl [HiB]; · iexact HiB
    isplitl [Hx]; · iexact Hx
    isplitl [HoA]; · iexact HoA
    isplitl [HoB]; · iexact HoB
    isplitl [Hi0]; · iexact Hi0
    isplitl [Hi1]; · iexact Hi1
    isplitl [Hr0]; · iexact Hr0
    isplitl [Hr1]; · iexact Hr1
    isplitl [Hs0]; · iexact Hs0
    isplitl [Hs1]; · iexact Hs1
    isplitl [Hs2]; · iexact Hs2
    isplitl [Hs3]; · iexact Hs3
    isplitl [Hs4]; · iexact Hs4
    iexists W; isplitr
    · ipureintro; exact fun p hp => .inl hp
    · iexact HO
  iapply (wp_wand _ _ _) $$ Hw
  iintro %_ ⟨HiA, HiB, Hx, HoA, HoB, Hi0, Hi1, Hr0, Hr1, Hs0, Hs1, Hs2, Hs3, Hs4, HO⟩
  isplitl [HiA HiB Hx HoA HoB]
  · isplitl [HiA HiB]
    · isplitl [HiA] <;> iassumption
    isplitl [Hx]; · iexact Hx
    isplitl [HoA] <;> iassumption
  isplitl [Hi0 Hi1 Hr0 Hr1 Hbufs]
  · isplitl [Hi0 Hi1]
    · iapply (sPts_join (F := F) d L); isplitl [Hi0] <;> iassumption
    isplitl [Hr0 Hr1]
    · iapply (rPts_join (F := F) d L); isplitl [Hr0] <;> iassumption
    iexact Hbufs
  isplitl [Hs0 Hs1 Hs2 Hs3 Hs4 Hsems]
  · isplitl [Hs0]; · iexact Hs0
    isplitl [Hs1]; · iexact Hs1
    isplitl [Hs2]; · iexact Hs2
    isplitl [Hs3]; · iexact Hs3
    isplitl [Hs4]; · iexact Hs4
    iexact Hsems
  iexact HO

/-! ## The obligation of the call -/

/-- A tile's grid coordinates, from its SparseCore and its number. -/
def coordsV (c : Fin (grid1.bound 0)) (s : Fin (grid1.bound 1)) : grid1.Coords :=
  fun | 0 => c | 1 => s | ⟨_ + 2, h⟩ => absurd h (Nat.not_lt.2 (Nat.le_add_left _ _))

/-- What a vector subcore runs of the call: the kernel's body at the tile's coordinates. -/
theorem defs₀_vector (c : Fin τ.nSC) (s : Fin τ.nSub) :
    defs₀ (F := F) (.scVector c s) 1 ()
      = SparseCore.onTile hcore1 hsub1 (fun c s => cc1_gather_kernel (F := F) (coordsV c s) xV (Memref.isWhole_whole _) iV (Memref.isWhole_whole _) oV (Memref.isWhole_whole _)
            sV (Memref.isWhole_whole _) cc1_scoped1 rV (Memref.isWhole_whole _) cc1_scoped3 cc1_scoped4) ⟨⟩ c s := rfl

omit [FloatOps F] in
/-- A tile's waits at the end are among those that the call allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Each tile, given its block, its share of the table and indices inside the table, leaves its block of the result gathered. -/
theorem tileObl (hF : (K (F := F)).Facts) (hI : ∀ d x, (I d x : BitVec 32).toNat < 1024) :
    (K (F := F)).TileObl (D (F := F)) 𝒱 (P T I O₀) v₀ 0 := by
  intro d c i O W hO _ _
  simp only [show (P T I O₀).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body T I O₀ d (coordsV ⟨_, hci.1⟩ ⟨_, hci.2⟩) hF hI O W hO).trans (wp_mono frame _ _ fun _ => obl_post)

end Tile

/-- The call's operands split among the 32 tiles, and the tiles' results join again. -/
theorem vecSplit : (K (F := F)).VecSplit' (P T I O₀) 0 := by
  intro d c
  show (bigSep Finset.univ fun i : Fin 16 => tIn T I O₀ d (kOf c.val i.val)) ⊢ |={Set.univ}=> iprop(
      (bigSep Finset.univ fun i : Fin 16 => tIn T I O₀ d (kOf c.val i.val))
      ∗ ((bigSep Finset.univ fun i : Fin 16 => tOut T I d (kOf c.val i.val)) -∗ bigSep Finset.univ fun i : Fin 16 => tOut T I d (kOf c.val i.val)))
  iintro H; imodintro
  isplitl [H]; · iexact H
  iintro H; iexact H

/-- Over the 2 cores and the 16 subcores of each is over the 32 blocks. -/
theorem bigSep_cores (Φ : Fin 32 → sProp 𝕄) :
    (bigSep Finset.univ fun c : Fin 2 => bigSep Finset.univ fun i : Fin 16 => Φ (kOf c.val i.val)) = bigSep Finset.univ Φ := by
  rw [bigSep_univ_equiv (finProdFinEquiv (m := 2) (n := 16)) Φ, bigSep_univ_prod]
  refine bigSep_congr fun c _ => bigSep_congr fun i _ => congrArg Φ (Fin.ext ?_)
  have h0 := c.isLt; have h1 := i.isLt
  show (Fin.ofNat 32 (16 * c.val + i.val)).val = i.val + 16 * c.val
  rw [Fin.val_ofNat, Nat.mod_eq_of_lt (by omega)]; omega

/-- What the call takes: the index array, the table and the result, whole. -/
theorem st0_eq (d : Dev nD) : (bigSep Finset.univ fun c : Fin ((K (F := F)).nCore 0) => (P T I O₀).st 0 d c)
    = iprop((iLoc d ↦{fullShare} I d) ∗ (xLoc d ↦{fullShare} T d) ∗ oLoc d ↦{fullShare} O₀ d) := by
  refine (bigSep_cores fun k => tIn T I O₀ d k).trans ?_
  rw [bigSep_sep', bigSep_sep', ← iPts_blocks, ← xPts_shares, ← oPts_blocks]
/-- What the call gives back: the same, the result holding the gathered rows. -/
theorem dn0_eq (d : Dev nD) : (bigSep Finset.univ fun c : Fin ((K (F := F)).nCore 0) => (P T I O₀).dn 0 d c)
    = iprop((iLoc d ↦{fullShare} I d) ∗ (xLoc d ↦{fullShare} T d) ∗ oLoc d ↦{fullShare} G (F := F) (T d) (I d)) := by
  refine (bigSep_cores fun k => tOut T I d k).trans ?_
  rw [bigSep_sep', bigSep_sep', ← iPts_blocks, ← xPts_shares, ← oPts_blocks]

end Cert.Proof.Whole

end
-- ==== Proof.Whole.Nearest.lean ====
/-
  The TensorCore kernel's body at one grid point: what it leaves in the two output blocks, as functions of its four
  input blocks and of the running loss.
-/
module

public import proofs.«01_k».proof.Defs
public import proofs.«01_k».proof.Proof.Whole.Views
public import proofs.«01_k».proof.Proof.Gen.KernelIdeal.Launch
public import proofs.«01_k».proof.Proof.Gen.KernelIdeal.Points
public import Idealize.ShloMosaic.Lib.Pipeline.Frame
public import Idealize.ShloMosaic.Lib.Pipeline.FrameBody
public import Idealize.ShloMosaic.Lib.ValueIdxCore
public import Idealize.ShloMosaic.Lib.VecWindow
public import Idealize.ShloMosaic.Lib.WritesUnit

@[expose] public section

set_option maxRecDepth 16384

noncomputable section

namespace Cert.Proof.Whole

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- One batch of the block of inputs. -/
def zRow (x : Vec F S2x64x1024 .f32) (k : Fin 2) : Vec F S1x64x1024 .f32 := fun j => x (ValueIdx.ix3 k (j 1) (j 2))
/-- One batch of the block of squared norms. -/
def sRow (x : Vec F S2x1x1024 .f32) (k : Fin 2) : Vec F S1x1x1024 .f32 := fun j => x (ValueIdx.ix3 k (j 1) (j 2))

/-- The indices of the nearest codes, for the two batches of a block. -/
def idxBlk (x0 : Vec F S2x64x1024 .f32) (x1 : Vec F S1024x64 .f32) (x2 : Vec F S2x1x1024 .f32) (x3 : Vec F S1024x1 .f32) : Vec F S2x1x1024 .i32 :=
  fun j => k0_pay5 x1 (zRow x0 (j 0)) (sRow x2 (j 0)) x3 (ValueIdx.ix3 (0 : Fin 1) (j 1) (j 2))

/-- A block's contribution to the loss. -/
def lossPart (x0 : Vec F S2x64x1024 .f32) (x1 : Vec F S1024x64 .f32) (x2 : Vec F S2x1x1024 .f32) (x3 : Vec F S1024x1 .f32) : FVec F S1x1 .f32 :=
  k0_pay10 x1 (k0_pay6 x1 (zRow x0 0) (sRow x2 0) x3) (zRow x0 1) (sRow x2 1) x3

/-- The grid point is the first. -/
abbrev isFirst (i : grid0.Coords) : Prop := (Scalar.cmpi .ne (Scalar.extui (Scalar.cmpi .eq (BitVec.ofNat 32 (i 0).val) 0#32)) 0#32) = 1#1
/-- The grid point is the last. -/
abbrev isLast (i : grid0.Coords) : Prop := (Scalar.cmpi .ne (Scalar.extui (Scalar.cmpi .eq (BitVec.ofNat 32 (i 0).val) 7#32)) 0#32) = 1#1

/-- The running loss after a point, from the block's contribution and the running loss before it. -/
def lossNext (i : grid0.Coords) (p : FVec F S1x1 .f32) (prev : Vec F S1x1 .f32) : Vec F S1x1 .f32 :=
  if isLast i then k0_pay2 (k0_pay1 p (if isFirst i then k0_pay11 else prev)) else k0_pay1 p (if isFirst i then k0_pay11 else prev)

/-- A load of one batch of the block of inputs. -/
theorem load_z (m : Memref sig .tc .vmem S2x64x1024 .f32) (f : m.view.ty.Contents (Elt F)) (k : Fin 2) (inb : ∀ a, (![k.val, 0, 0] : Fin 3 → ℕ) a + S1x64x1024.size a ≤ S2x64x1024.size a) :
    m.view.readAt (Elt F) (Rect.unit (s := S2x64x1024) ![k.val, 0, 0] S1x64x1024.size inb).toLoadRect f = zRow (m.view.read (Elt F) f) k := by
  funext y
  refine congrArg (m.view.read (Elt F) f) (funext fun a => Fin.ext ?_)
  have h0 : (y 0).val = 0 := by have := (y 0).isLt; change (y 0).val < 1 at this; omega
  match a with
  | 0 => show k.val + 1 * (y 0).val = k.val; omega
  | 1 => show 0 + 1 * (y 1).val = (y 1).val; omega
  | 2 => show 0 + 1 * (y 2).val = (y 2).val; omega

/-- A load of one batch of the block of squared norms. -/
theorem load_s (m : Memref sig .tc .vmem S2x1x1024 .f32) (f : m.view.ty.Contents (Elt F)) (k : Fin 2) (inb : ∀ a, (![k.val, 0, 0] : Fin 3 → ℕ) a + S1x1x1024.size a ≤ S2x1x1024.size a) :
    m.view.readAt (Elt F) (Rect.unit (s := S2x1x1024) ![k.val, 0, 0] S1x1x1024.size inb).toLoadRect f = sRow (m.view.read (Elt F) f) k := by
  funext y
  refine congrArg (m.view.read (Elt F) f) (funext fun a => Fin.ext ?_)
  have h0 : (y 0).val = 0 := by have := (y 0).isLt; change (y 0).val < 1 at this; omega
  match a with
  | 0 => show k.val + 1 * (y 0).val = k.val; omega
  | 1 => show 0 + 1 * (y 1).val = (y 1).val; omega
  | 2 => show 0 + 1 * (y 2).val = (y 2).val; omega

/-- Two stores, one to each batch of the block of indices, leave the block whose batches they are. -/
theorem read_two (m : Memref sig .tc .vmem S2x1x1024 .i32) (f : m.view.ty.Contents (Elt F)) (w0 w1 : Vec F S1x1x1024 .i32) (g : Vec F S2x1x1024 .i32)
    (inb0 : ∀ a, (![0, 0, 0] : Fin 3 → ℕ) a + S1x1x1024.size a ≤ S2x1x1024.size a) (inb1 : ∀ a, (![1, 0, 0] : Fin 3 → ℕ) a + S1x1x1024.size a ≤ S2x1x1024.size a)
    (h0 : ∀ (a : Fin 1) (b : Fin 1024), w0 (ValueIdx.ix3 (0 : Fin 1) a b) = g (ValueIdx.ix3 (0 : Fin 2) a b))
    (h1 : ∀ (a : Fin 1) (b : Fin 1024), w1 (ValueIdx.ix3 (0 : Fin 1) a b) = g (ValueIdx.ix3 (1 : Fin 2) a b)) :
    m.view.read (Elt F) (m.view.writes (Elt F) f [⟨Rect.unit (s := S2x1x1024) ![1, 0, 0] S1x1x1024.size inb1, w1⟩, ⟨Rect.unit (s := S2x1x1024) ![0, 0, 0] S1x1x1024.size inb0, w0⟩]) = g := by
  funext y
  obtain ⟨k, a, b, rfl⟩ : ∃ (k : Fin 2) (a : Fin 1) (b : Fin 1024), y = ValueIdx.ix3 k a b := ⟨y 0, y 1, y 2, ValueIdx.eq_ix3 y⟩
  fin_cases k
  · refine (View.read_writes_cons_unit_of_not_mem m.view f inb1 w1 _ _ rfl (0 : Fin 3) (Or.inl (Nat.zero_lt_one))).trans ?_
    refine (View.read_writes_cons_unit_of_mem m.view f inb0 w0 [] _ (ValueIdx.ix3 (0 : Fin 1) a b) rfl fun t => ?_).trans (h0 a b)
    match t with
    | 0 => rfl
    | 1 => show a.val = 0 + a.val; omega
    | 2 => show b.val = 0 + b.val; omega
  · refine (View.read_writes_cons_unit_of_mem m.view f inb1 w1 _ _ (ValueIdx.ix3 (0 : Fin 1) a b) rfl fun t => ?_).trans (h1 a b)
    match t with
    | 0 => rfl
    | 1 => show a.val = 0 + a.val; omega
    | 2 => show b.val = 0 + b.val; omega

/-- A block's contribution to the loss, as the body spells it over its loads. -/
theorem part_eq (arg1 : Memref sig .tc .vmem S2x64x1024 .f32) (harg1 : arg1.IsWhole) (arg2 : Memref sig .tc .vmem S1024x64 .f32) (harg2 : arg2.IsWhole)
    (arg3 : Memref sig .tc .vmem S2x1x1024 .f32) (harg3 : arg3.IsWhole) (arg4 : Memref sig .tc .vmem S1024x1 .f32) (harg4 : arg4.IsWhole)
    (x0 : Vec F S2x64x1024 .f32) (x1 : Vec F S1024x64 .f32) (x2 : Vec F S2x1x1024 .f32) (x3 : Vec F S1024x1 .f32) :
    k0_pay10 (View.readAt (Elt F) arg2.view (Rect.unit ![0, 0] S1024x64.size inb_S1024x64_S1024x64_0_0).toLoadRect (harg2.unread x1))
              (k0_pay6 (View.readAt (Elt F) arg2.view (Rect.unit ![0, 0] S1024x64.size inb_S1024x64_S1024x64_0_0).toLoadRect (harg2.unread x1))
                (View.readAt (Elt F) arg1.view (Rect.unit (s := S2x64x1024) ![0, 0, 0] S1x64x1024.size inb_S2x64x1024_S1x64x1024_0_0_0).toLoadRect (harg1.unread x0))
                (View.readAt (Elt F) arg3.view (Rect.unit (s := S2x1x1024) ![0, 0, 0] S1x1x1024.size inb_S2x1x1024_S1x1x1024_0_0_0).toLoadRect (harg3.unread x2))
                (View.readAt (Elt F) arg4.view (Rect.unit ![0, 0] S1024x1.size inb_S1024x1_S1024x1_0_0).toLoadRect (harg4.unread x3)))
              (View.readAt (Elt F) arg1.view (Rect.unit (s := S2x64x1024) ![1, 0, 0] S1x64x1024.size inb_S2x64x1024_S1x64x1024_1_0_0).toLoadRect (harg1.unread x0))
              (View.readAt (Elt F) arg3.view (Rect.unit (s := S2x1x1024) ![1, 0, 0] S1x1x1024.size inb_S2x1x1024_S1x1x1024_1_0_0).toLoadRect (harg3.unread x2))
              (View.readAt (Elt F) arg4.view (Rect.unit ![0, 0] S1024x1.size inb_S1024x1_S1024x1_0_0).toLoadRect (harg4.unread x3)) = lossPart x0 x1 x2 x3 := by
  have hf0 := harg1.read_unread (Val := Elt F) x0
  have hf1 := harg2.read_unread (Val := Elt F) x1
  have hf2 := harg3.read_unread (Val := Elt F) x2
  have hf3 := harg4.read_unread (Val := Elt F) x3
  have hz0 := (load_z arg1 (harg1.unread x0) 0 inb_S2x64x1024_S1x64x1024_0_0_0).trans (congrArg (zRow · 0) hf0)
  have hz1 := (load_z arg1 (harg1.unread x0) 1 inb_S2x64x1024_S1x64x1024_1_0_0).trans (congrArg (zRow · 1) hf0)
  have hs0 := (load_s arg3 (harg3.unread x2) 0 inb_S2x1x1024_S1x1x1024_0_0_0).trans (congrArg (sRow · 0) hf2)
  have hs1 := (load_s arg3 (harg3.unread x2) 1 inb_S2x1x1024_S1x1x1024_1_0_0).trans (congrArg (sRow · 1) hf2)
  rw [View.readAt_full, View.readAt_full, hf1, hf3]
  exact congrFun (congr (congr (congrArg (k0_pay10 x1) (congrFun (congr (congrArg (k0_pay6 x1) hz0) hs0) x3)) hz1) hs1) x3

set_option maxHeartbeats 1000000 in
/-- The body at one grid point, on whole blocks: the inputs are kept, the index block holds the nearest codes' indices
and the loss block the running loss. -/
theorem body_wp (c : Dev nD) (i : grid0.Coords) (arg1 : Memref sig .tc .vmem S2x64x1024 .f32) (harg1 : arg1.IsWhole) (arg2 : Memref sig .tc .vmem S1024x64 .f32) (harg2 : arg2.IsWhole)
    (arg3 : Memref sig .tc .vmem S2x1x1024 .f32) (harg3 : arg3.IsWhole) (arg4 : Memref sig .tc .vmem S1024x1 .f32) (harg4 : arg4.IsWhole)
    (arg5 : Memref sig .tc .vmem S2x1x1024 .i32) (harg5 : arg5.IsWhole) (arg6 : Memref sig .tc .vmem S1x1 .f32) (harg6 : arg6.IsWhole)
    (x0 : Vec F S2x64x1024 .f32) (x1 : Vec F S1024x64 .f32) (x2 : Vec F S2x1x1024 .f32) (x3 : Vec F S1024x1 .f32) (prev : Vec F S1x1 .f32) (E : Set ℕ) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare prev
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (idxBlk x0 x1 x2 x3) ∗ owns (c : Thread nD τ) arg6 fullShare (lossNext i (lossPart x0 x1 x2 x3) prev)) -∗ Q ⟨⟩))
      ⊢ wp frame (wpE (defs₀ (F := F)) Variants.none c none) E (cc0__vq_tc_body i arg1 harg1 arg2 harg2 arg3 harg3 arg4 harg4 arg5 harg5 arg6 harg6) Q := by
  by_cases hc0 : isFirst i <;> by_cases hc1 : isLast i
  all_goals
    simp only [cc0__vq_tc_body_eq_skeleton]; unfold cc0__vq_tc_body_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
    obtain rfl := harg1.eq_unread hf0; obtain rfl := harg2.eq_unread hf1; obtain rfl := harg3.eq_unread hf2; obtain rfl := harg4.eq_unread hf3; obtain rfl := harg6.eq_unread hf5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    sl_unfold_words
    isplitl [H4]
    · iexists _; isplitr [H4]
      rotate_left
      · iexact H4
      · ipureintro
        refine (read_two arg5 f4 _ _ (idxBlk x0 x1 x2 x3) _ _ (fun a b => ?_) fun a b => ?_)
        · rw [View.readAt_full, View.readAt_full, hf1, hf3]
          refine congrFun (congrArg₂ (fun u v => k0_pay5 x1 u v x3) ((load_z arg1 _ 0 _).trans (congrArg (zRow · 0) hf0)) ((load_s arg3 _ 0 _).trans (congrArg (sRow · 0) hf2))) _
        · rw [View.readAt_full, View.readAt_full, hf1, hf3]
          refine congrFun (congrArg₂ (fun u v => k0_pay9 x1 u v x3) ((load_z arg1 _ 1 _).trans (congrArg (zRow · 1) hf0)) ((load_s arg3 _ 1 _).trans (congrArg (sRow · 1) hf2))) _
    · iexists _; isplitr [H5]
      rotate_left
      · iexact H5
      · ipureintro
        have hp := part_eq arg1 harg1 arg2 harg2 arg3 harg3 arg4 harg4 x0 x1 x2 x3
        refine (View.read_writes_full arg6.view _ _ _ _).trans ?_
        unfold lossNext
        first | rw [if_pos hc1] | rw [if_neg hc1]
        first | rw [if_pos hc0] | rw [if_neg hc0]
        first
          | refine congrArg₂ k0_pay1 hp ?_
            first | exact (View.readAt_full _ _ _).trans hf5 | exact View.readCov_full _ _ _ _ _
          | refine congrArg k0_pay2 ?_
            refine (View.readCov_full _ _ _ _ _).trans ?_
            refine congrArg₂ k0_pay1 hp ?_
            first | exact (View.readAt_full _ _ _).trans hf5 | exact View.readCov_full _ _ _ _ _

end Cert.Proof.Whole

end
-- ==== Proof.Whole.Points.lean ====
/-
  The TensorCore kernel's grid, point by point: the proof data of its pipeline over the contents the region is entered
  at, and the body's obligation at every point. The core already owes what it will signal to the SparseCores, so the
  data carries that debt through unchanged.
-/
module

public import proofs.«01_k».proof.Proof.Whole.Launch
public import proofs.«01_k».proof.Proof.Whole.Nearest
public import Idealize.ShloMosaic.Lib.WordCmp

@[expose] public section

set_option maxRecDepth 16384

noncomputable section

namespace Cert.Proof.Whole

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The branch taken at the first point. -/
theorem isFirst_iff : ∀ t : Fin cfg0.N, isFirst (grid0.coords t) ↔ t.val = 0 :=
  (fun t => by
    have ht : t.val < 8 := Nat.lt_of_lt_of_eq t.isLt N_0
    have e0 : (grid0.coords t 0).val = t.val / 1 % 8 := Pipeline.Grid.coords_val t 0 (by decide) rfl
    simp only [isFirst, e0]
    word_cmp
   : ∀ t : Fin grid0.N, isFirst (grid0.coords t) ↔ t.val = 0)

/-- The branch taken at the last point. -/
theorem isLast_iff : ∀ t : Fin cfg0.N, isLast (grid0.coords t) ↔ t.val = 7 :=
  (fun t => by
    have ht : t.val < 8 := Nat.lt_of_lt_of_eq t.isLt N_0
    have e0 : (grid0.coords t 0).val = t.val / 1 % 8 := Pipeline.Grid.coords_val t 0 (by decide) rfl
    simp only [isLast, e0]
    word_cmp
   : ∀ t : Fin grid0.N, isLast (grid0.coords t) ↔ t.val = 7)

/-- At the first point the running loss before it is not read. -/
theorem lossNext_first {i : grid0.Coords} (h : isFirst i) (p : FVec F S1x1 .f32) (a b : Vec F S1x1 .f32) : lossNext i p a = lossNext i p b := by
  unfold lossNext; rw [if_pos h, if_pos h]

section Data

variable (W : Valuation τ sig (Elt F))

/-- The block of window `w`'s array at point `t`, of the contents the region is entered at. -/
def iblk (w : Fin cfg0.W) (t : Fin cfg0.N) : ((cfg0.win w).xblock (cfg0.grid.coords t)).Idx → Elt F (cfg0.win w).elt :=
  ((cfg0.win w).blk t).view.read (Elt F) (W (Proc.devRef .tc (Pipeline.arrRef spec0 w)))

/-- The contribution of point `t` to the loss. -/
def partAt (t : Fin cfg0.N) : FVec F S1x1 .f32 := lossPart (iblk W 0 t) (iblk W 1 t) (iblk W 2 t) (iblk W 3 t)

/-- The running loss after point `n`. -/
def lossAt : (n : ℕ) → n < cfg0.N → Vec F S1x1 .f32
  | 0, h => lossNext (grid0.coords ⟨0, h⟩) (partAt W ⟨0, h⟩) k0_pay11
  | n + 1, h => lossNext (grid0.coords ⟨n + 1, h⟩) (partAt W ⟨n + 1, h⟩) (lossAt n (Nat.lt_of_succ_lt h))

/-- The running loss after a point that is not the first, from the one before. -/
theorem lossAt_pos (t : Fin cfg0.N) (h : t.val ≠ 0) :
    lossAt W t.val t.isLt = lossNext (grid0.coords t) (partAt W t) (lossAt W (t.val - 1) (Nat.lt_of_le_of_lt (Nat.sub_le _ _) t.isLt)) := by
  obtain ⟨n, hn⟩ := t
  cases n with
  | zero => exact absurd rfl h
  | succ n => rfl

/-- The pipeline's proof data: each input's buffer keeps its block, the outputs' hold the nearest codes' indices and the
running loss; the core owes the SparseCores' start throughout. -/
def dat0 (d : Dev nD) : Dat τ (Elt F) (HIx 1) ℕ UU ℕ cfg0 d where
  A w := W (Proc.devRef .tc (Pipeline.arrRef spec0 w))
  after w t := match w with
    | ⟨0, _⟩ => iblk W 0 t
    | ⟨1, _⟩ => iblk W 1 t
    | ⟨2, _⟩ => iblk W 2 t
    | ⟨3, _⟩ => iblk W 3 t
    | ⟨4, _⟩ => idxBlk (iblk W 0 t) (iblk W 1 t) (iblk W 2 t) (iblk W 3 t)
    | ⟨5, _⟩ => lossAt W t.val t.isLt
  Φ _ := iprop(Pipeline.scopedRest spec0 d ∗ ∃ r, prngReg d r)
  q _ := fullShare
  owed _ := (K (F := F)).Otc d 0
  recorded _ := {p | (K (F := F)).lev (T d, p.1) p.2 ≤ 8 * (inferInstance : SparseCore.Cfg.Blocks 1 1).fst 0}

/-- The arrays that the call starts with are the program's. -/
theorem A_eq (d : Dev nD) (w : Fin cfg0.W) : (dat0 W d).A w = W (Proc.devRef .tc (Pipeline.arrRef spec0 w)) := by dsimp only [dat0]
/-- A step leaves its part of the transposed input as it was. -/
theorem after_0 (d : Dev nD) (t : Fin cfg0.N) : (dat0 W d).after 0 t = iblk W 0 t := by dsimp only [dat0]
/-- A step leaves the codebook as it was. -/
theorem after_1 (d : Dev nD) (t : Fin cfg0.N) : (dat0 W d).after 1 t = iblk W 1 t := by dsimp only [dat0]
/-- A step leaves its part of the positions' squared norms as it was. -/
theorem after_2 (d : Dev nD) (t : Fin cfg0.N) : (dat0 W d).after 2 t = iblk W 2 t := by dsimp only [dat0]
/-- A step leaves the codes' squared norms as they were. -/
theorem after_3 (d : Dev nD) (t : Fin cfg0.N) : (dat0 W d).after 3 t = iblk W 3 t := by dsimp only [dat0]
/-- A step leaves the indices of the nearest codes of its two batches. -/
theorem after_4 (d : Dev nD) (t : Fin cfg0.N) : (dat0 W d).after 4 t = idxBlk (iblk W 0 t) (iblk W 1 t) (iblk W 2 t) (iblk W 3 t) := by dsimp only [dat0]
/-- A step leaves the running loss. -/
theorem after_5 (d : Dev nD) (t : Fin cfg0.N) : (dat0 W d).after 5 t = lossAt W t.val t.isLt := by dsimp only [dat0]

/-- Each input's buffer holds its block at every point, whether fetched there or kept. -/
theorem before_0 (d : Dev nD) (t : Fin cfg0.N) (x) : (dat0 W d).before 0 t x = iblk W 0 t :=
  ((dat0 W d).before_in_eq_fetched 0 rfl (fun _ => rfl) (fun _ _ _ => rfl) (fun t => by rw [after_0]; unfold Dat.blockOf iblk; rw [A_eq]; try rfl) t x).trans
    (by unfold Dat.fetched Dat.blockOf iblk; rw [A_eq]; try rfl)
/-- A step finds the codebook. -/
theorem before_1 (d : Dev nD) (t : Fin cfg0.N) (x) : (dat0 W d).before 1 t x = iblk W 1 t :=
  ((dat0 W d).before_in_eq_fetched 1 rfl (fun _ => rfl) (fun _ _ _ => rfl) (fun t => by rw [after_1]; unfold Dat.blockOf iblk; rw [A_eq]; try rfl) t x).trans
    (by unfold Dat.fetched Dat.blockOf iblk; rw [A_eq]; try rfl)
/-- A step finds its part of the positions' squared norms. -/
theorem before_2 (d : Dev nD) (t : Fin cfg0.N) (x) : (dat0 W d).before 2 t x = iblk W 2 t :=
  ((dat0 W d).before_in_eq_fetched 2 rfl (fun _ => rfl) (fun _ _ _ => rfl) (fun t => by rw [after_2]; unfold Dat.blockOf iblk; rw [A_eq]; try rfl) t x).trans
    (by unfold Dat.fetched Dat.blockOf iblk; rw [A_eq]; try rfl)
/-- A step finds the codes' squared norms. -/
theorem before_3 (d : Dev nD) (t : Fin cfg0.N) (x) : (dat0 W d).before 3 t x = iblk W 3 t :=
  ((dat0 W d).before_in_eq_fetched 3 rfl (fun _ => rfl) (fun _ _ _ => rfl) (fun t => by rw [after_3]; unfold Dat.blockOf iblk; rw [A_eq]; try rfl) t x).trans
    (by unfold Dat.fetched Dat.blockOf iblk; rw [A_eq]; try rfl)

/-- The loss's buffer keeps the running loss from one point to the next. -/
theorem before_5 (d : Dev nD) (t : Fin cfg0.N) (h : t.val ≠ 0) (x) :
    (dat0 W d).before 5 t x = lossAt W (t.val - 1) (Nat.lt_of_le_of_lt (Nat.sub_le _ _) t.isLt) := by
  have hN : t.val < 8 := lt_of_lt_of_eq t.isLt (show cfg0.N = 8 from N_0)
  rw [Dat.before_out_kept _ 5 rfl t h (Bool.eq_false_iff.mpr fun h => by have := (flush0_5 _).mp h; dsimp only at this; omega)
    (fun _ => rfl) (fun _ _ => rfl)]
  dsimp only [dat0]

/-- What the body is called with at a point, window by window. -/
def bodyPre (d : Dev nD) (t : Fin cfg0.N) : sProp 𝕄 :=
  iprop((dat0 W d).Φ t.castSucc ∗ (dat0 W d).owesAt none t.castSucc
    ∗ (∃ x, owns (d : Thread nD τ) (st0_0 t) fullShare ((dat0 W d).before 0 t x))
    ∗ (∃ x, owns (d : Thread nD τ) (st0_1 t) fullShare ((dat0 W d).before 1 t x))
    ∗ (∃ x, owns (d : Thread nD τ) (st0_2 t) fullShare ((dat0 W d).before 2 t x))
    ∗ (∃ x, owns (d : Thread nD τ) (st0_3 t) fullShare ((dat0 W d).before 3 t x))
    ∗ (∃ x, owns (d : Thread nD τ) (st0_4 t) fullShare ((dat0 W d).before 4 t x))
    ∗ (∃ x, owns (d : Thread nD τ) (st0_5 t) fullShare ((dat0 W d).before 5 t x)))

/-- What the body returns at a point. -/
def bodyPost (d : Dev nD) (t : Fin cfg0.N) : sProp 𝕄 :=
  iprop((dat0 W d).Φ t.succ ∗ (dat0 W d).owesAt none t.succ
    ∗ owns (d : Thread nD τ) (st0_0 t) fullShare ((dat0 W d).after 0 t)
    ∗ owns (d : Thread nD τ) (st0_1 t) fullShare ((dat0 W d).after 1 t)
    ∗ owns (d : Thread nD τ) (st0_2 t) fullShare ((dat0 W d).after 2 t)
    ∗ owns (d : Thread nD τ) (st0_3 t) fullShare ((dat0 W d).after 3 t)
    ∗ owns (d : Thread nD τ) (st0_4 t) fullShare ((dat0 W d).after 4 t)
    ∗ owns (d : Thread nD τ) (st0_5 t) fullShare ((dat0 W d).after 5 t))

/-- Whatever the loss's buffer holds before a point, the body leaves the running loss there. -/
theorem loss_step (d : Dev nD) (t : Fin cfg0.N) (x) :
    lossNext (grid0.coords t) (lossPart (iblk W 0 t) (iblk W 1 t) (iblk W 2 t) (iblk W 3 t)) ((dat0 W d).before 5 t x) = lossAt W t.val t.isLt := by
  by_cases h : t.val = 0
  · obtain ⟨n, hn⟩ := t
    cases n with
    | zero => exact lossNext_first ((isFirst_iff _).mpr rfl) _ _ _
    | succ n => exact absurd h (Nat.succ_ne_zero n)
  · rw [before_5 W d t h, lossAt_pos W t h]; rfl

/-- The body at any point. -/
theorem sound_body (d : Dev nD) (t : Fin cfg0.N) :
    bodyPre W d t ⊢ wp frame (wpE (defs₀ (F := F)) Variants.none d none) Set.univ (bodyAt0 t) (fun _ => bodyPost W d t) := by
  unfold bodyPre bodyPost bodyAt0
  simp only [before_0, before_1, before_2, before_3]
  rw [show (dat0 W d).Φ t.succ = (dat0 W d).Φ t.castSucc from rfl,
    show (dat0 W d).owesAt none t.succ = (dat0 W d).owesAt none t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (body_wp d (grid0.coords t) _ _ _ _ _ _ _ _ _ _ _ _ (iblk W 0 t) (iblk W 1 t) (iblk W 2 t) (iblk W 3 t) ((dat0 W d).before 5 t d5) Set.univ _)
  isplitl [H0]; · iexact H0
  isplitl [H1]; · iexact H1
  isplitl [H2]; · iexact H2
  isplitl [H3]; · iexact H3
  isplitl [H4]; · iexists _; iexact H4
  isplitl [H5]; · iexact H5
  rw [loss_step]
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at a point is the body as printed, on that point's staging buffers. -/
theorem defs₀_row (t : Fin cfg0.N) : defs₀ (F := F) .tc cfg0.body (cfg0.bodyArgs t (cfg0.slots t)) = bodyAt0 t := rfl

/-- The body's obligation, at every point. -/
theorem body_obligation (d : Dev nD) : BodyObligation (dat0 W d) (defs₀ (F := F)) Variants.none none Set.univ := fun t => by
  rw [bigSep_W0, bigSep_W0, defs₀_row]
  exact triple_restated (sound_body W d t) rfl .rfl fun _ => .rfl

end Data

end Cert.Proof.Whole

end
-- ==== Proof.First.lean ====
/-
  The first index of a least value of a finite family of extended reals, computed two ways: as the least of the
  positions holding the least value (a signed minimum over words), and as a fold over (value, position) pairs.
-/
module

public import proofs.«01_k».proof.Proof.Gen.ReferenceIdeal
public import Idealize.ShloMosaic.PureOps.Ideal.Laws
public import Idealize.ShloMosaic.PureOps.Reduce

@[expose] public section

noncomputable section

namespace Cert.Proof.First

open Idealize.ShloMosaic

/-- `j` is the first position of a least value of `f`. -/
structure IsFirst {n : ℕ} (f : Fin n → EReal) (j : Fin n) : Prop where
  le : ∀ i, f j ≤ f i
  lt : ∀ i, i < j → f j < f i

/-- There is only one first index at the least value. -/
theorem IsFirst.unique {n : ℕ} {f : Fin n → EReal} {i j : Fin n} (hi : IsFirst f i) (hj : IsFirst f j) : i = j := by
  rcases lt_trichotomy i j with h | h | h
  · exact absurd (hj.lt i h) (not_lt.mpr (hi.le j))
  · exact h
  · exact absurd (hi.lt j h) (not_lt.mpr (hj.le i))

/-- There is a first position. -/
theorem exists_first {n : ℕ} (hn : 0 < n) (f : Fin n → EReal) : ∃ j, IsFirst f j := by
  classical
  let s : Finset (Fin n) := Finset.univ.filter fun j => ∀ i, f j ≤ f i
  have hs : s.Nonempty := by
    obtain ⟨j, -, hj⟩ := Finset.exists_min_image Finset.univ f ⟨⟨0, hn⟩, Finset.mem_univ _⟩
    exact ⟨j, Finset.mem_filter.mpr ⟨Finset.mem_univ _, fun i => hj i (Finset.mem_univ _)⟩⟩
  have hm : ∀ i, f (s.min' hs) ≤ f i := (Finset.mem_filter.mp (s.min'_mem hs)).2
  refine ⟨s.min' hs, hm, fun i hi => lt_of_le_of_ne (hm i) fun e => ?_⟩
  refine absurd (s.min'_le i (Finset.mem_filter.mpr ⟨Finset.mem_univ _, fun k => e ▸ hm k⟩)) (not_le.mpr hi)

/-- The first position of a least value. -/
def first (f : Fin 1024 → EReal) : Fin 1024 := (exists_first (by decide) f).choose

/-- `first f` is the first index at the least value of `f`. -/
theorem first_spec (f : Fin 1024 → EReal) : IsFirst f (first f) := (exists_first (by decide) f).choose_spec

/-- The minimum of the family, from plus infinity, is the value at the first position. -/
theorem fold_min {n : ℕ} (f : Fin n → EReal) (j : Fin n) (hj : IsFirst f j) : (Finset.univ : Finset (Fin n)).fold min ⊤ f = f j := by
  apply le_antisymm
  · exact (Finset.fold_min_le _).mpr (Or.inr ⟨j, Finset.mem_univ _, le_rfl⟩)
  · exact (Finset.le_fold_min _).mpr ⟨le_top, fun i _ => hj.le i⟩

/-- A fold of the signed minimum is one of its terms or its start. -/
theorem fold_minsi_mem {ι : Type} (s : Finset ι) (b : BitVec 32) (g : ι → BitVec 32) :
    s.fold IntOp.minsi b g = b ∨ ∃ i ∈ s, s.fold IntOp.minsi b g = g i := by
  classical
  induction s using Finset.induction with
  | empty => exact Or.inl rfl
  | insert i s hi ih =>
    rw [Finset.fold_insert hi]
    unfold IntOp.minsi
    split
    · exact Or.inr ⟨i, Finset.mem_insert_self _ _, rfl⟩
    · rcases ih with h | ⟨k, hk, h⟩
      · exact Or.inl h
      · exact Or.inr ⟨k, Finset.mem_insert_of_mem hk, h⟩

/-- A fold of the signed minimum is at most each of its terms. -/
theorem fold_minsi_le {ι : Type} (s : Finset ι) (b : BitVec 32) (g : ι → BitVec 32) : ∀ i ∈ s, (s.fold IntOp.minsi b g).toInt ≤ (g i).toInt := by
  classical
  induction s using Finset.induction with
  | empty => exact fun i hi => absurd hi (Finset.notMem_empty i)
  | insert i s hi ih =>
    intro k hk
    rw [Finset.fold_insert hi]
    unfold IntOp.minsi
    rcases Finset.mem_insert.mp hk with e | hk
    · rw [e]; split
      · exact le_rfl
      · rename_i h; exact not_lt.mp fun h' => h (decide_eq_true h')
    · split
      · rename_i h; exact (le_of_lt (of_decide_eq_true h)).trans (ih k hk)
      · exact ih k hk

/-- A number up to 1024 reads the same as a signed word. -/
theorem toInt_small (n : ℕ) (h : n ≤ 1024) : (BitVec.ofNat 32 n).toInt = n := by
  rw [BitVec.toInt_eq_toNat_cond, BitVec.toNat_ofNat, Nat.mod_eq_of_lt (by omega)]; split <;> omega

/-- The least of the positions whose value equals the least value, every other position counted as 1024. -/
theorem fold_minsi_first (f : Fin 1024 → EReal) (j : Fin 1024) (hj : IsFirst f j) :
    (Finset.univ : Finset (Fin 1024)).fold IntOp.minsi 2147483647#32
      (fun i => Scalar.select (Ideal.cmp .oeq (f i) (f j)) (BitVec.ofNat 32 i.val) 1024#32) = BitVec.ofNat 32 j.val := by
  set g : Fin 1024 → BitVec 32 := fun i => Scalar.select (Ideal.cmp .oeq (f i) (f j)) (BitVec.ofNat 32 i.val) 1024#32 with hg
  have hsel : ∀ i, g i = if f i = f j then BitVec.ofNat 32 i.val else 1024#32 := by
    intro i
    by_cases h : f i = f j
    · rw [if_pos h]; simp [hg, Ideal.cmp, h, Scalar.select]
    · rw [if_neg h]; simp [hg, Ideal.cmp, h, Scalar.select]
  have hle := fold_minsi_le Finset.univ 2147483647#32 g j (Finset.mem_univ _)
  rw [hsel j, if_pos rfl, toInt_small _ j.isLt.le] at hle
  have hj' := j.isLt
  rcases fold_minsi_mem Finset.univ 2147483647#32 g with h | ⟨i, -, h⟩
  · rw [h] at hle
    have : (2147483647#32 : BitVec 32).toInt = 2147483647 := by decide
    omega
  · rw [h, hsel i] at hle
    rw [h, hsel i]
    by_cases he : f i = f j
    · rw [if_pos he] at hle ⊢
      rw [toInt_small _ i.isLt.le] at hle
      rcases lt_or_eq_of_le (show i.val ≤ j.val by omega) with h' | h'
      · exact absurd (hj.lt i h') (by rw [he]; exact lt_irrefl _)
      · rw [h']
    · rw [if_neg he] at hle
      have : (1024#32 : BitVec 32).toInt = 1024 := by decide
      omega

/-- The order of (value, position) pairs: by value, then by position. -/
def PairLe (a b : EReal × BitVec 32) : Prop := a.1 < b.1 ∨ a.1 = b.1 ∧ a.2.toInt ≤ b.2.toInt

/-- The order on pairs of a value and an index is reflexive. -/
theorem PairLe.refl (a : EReal × BitVec 32) : PairLe a a := Or.inr ⟨rfl, le_rfl⟩
/-- The order on pairs of a value and an index is transitive. -/
theorem PairLe.trans {a b c : EReal × BitVec 32} (h : PairLe a b) (h' : PairLe b c) : PairLe a c := by
  rcases h with h | ⟨h, k⟩ <;> rcases h' with h' | ⟨h', k'⟩
  · exact Or.inl (h.trans h')
  · exact Or.inl (h' ▸ h)
  · exact Or.inl (h ▸ h')
  · exact Or.inr ⟨h.trans h', k.trans k'⟩

/-- The reducer keeps the lesser of two pairs. -/
theorem red_spec (a b : EReal × BitVec 32) :
    (Cert.ReferenceIdeal.reducer_argmin_f32_i32 (F := Ideal) a b = a ∨ Cert.ReferenceIdeal.reducer_argmin_f32_i32 (F := Ideal) a b = b)
      ∧ PairLe (Cert.ReferenceIdeal.reducer_argmin_f32_i32 (F := Ideal) a b) a ∧ PairLe (Cert.ReferenceIdeal.reducer_argmin_f32_i32 (F := Ideal) a b) b := by
  have key : Cert.ReferenceIdeal.reducer_argmin_f32_i32 (F := Ideal) a b = if a.1 < b.1 ∨ a.1 = b.1 ∧ a.2.toInt < b.2.toInt then a else b := by
    obtain ⟨x, i⟩ := a
    obtain ⟨y, k⟩ := b
    have hs : ∀ c : Bool, IntOp.cmpi .slt i k = BitVec.ofBool (decide (i.toInt < k.toInt)) := fun _ => rfl
    unfold Cert.ReferenceIdeal.reducer_argmin_f32_i32
    simp only [Ideal.cmpf_def, hs true]
    rcases lt_trichotomy x y with h | h | h
    · simp [Ideal.cmp, h, h.ne, IntOp.ori, IntOp.andi, Scalar.select]
    · subst h
      by_cases hk : i.toInt < k.toInt <;> simp [Ideal.cmp, hk, IntOp.ori, IntOp.andi, Scalar.select]
    · simp [Ideal.cmp, h.not_gt, h.ne', IntOp.ori, IntOp.andi, Scalar.select]
  rw [key]
  split
  · rename_i h
    exact ⟨Or.inl rfl, .refl a, h.imp id fun h => ⟨h.1, h.2.le⟩⟩
  · rename_i h
    push Not at h
    refine ⟨Or.inr rfl, ?_, .refl b⟩
    rcases lt_or_eq_of_le h.1 with h' | h'
    · exact Or.inl h'
    · exact Or.inr ⟨h', h.2 h'.symm⟩

/-- A fold of the reducer is its start or one of its terms, and at most each of them. -/
theorem foldl_spec (l : List (EReal × BitVec 32)) : ∀ b : EReal × BitVec 32,
    (l.foldl (Cert.ReferenceIdeal.reducer_argmin_f32_i32 (F := Ideal)) b = b ∨ l.foldl (Cert.ReferenceIdeal.reducer_argmin_f32_i32 (F := Ideal)) b ∈ l)
      ∧ PairLe (l.foldl (Cert.ReferenceIdeal.reducer_argmin_f32_i32 (F := Ideal)) b) b
      ∧ ∀ p ∈ l, PairLe (l.foldl (Cert.ReferenceIdeal.reducer_argmin_f32_i32 (F := Ideal)) b) p := by
  induction l with
  | nil => exact fun b => ⟨Or.inl rfl, .refl b, fun p hp => absurd hp List.not_mem_nil⟩
  | cons a l ih =>
    intro b
    rw [List.foldl_cons]
    obtain ⟨hm, hb, hl⟩ := ih (Cert.ReferenceIdeal.reducer_argmin_f32_i32 (F := Ideal) b a)
    obtain ⟨rm, rb, ra⟩ := red_spec b a
    refine ⟨?_, hb.trans rb, fun p hp => ?_⟩
    · rcases hm with h | h
      · rcases rm with h' | h'
        · exact Or.inl (h.trans h')
        · exact Or.inr (List.mem_cons.mpr (Or.inl (h.trans h')))
      · exact Or.inr (List.mem_cons_of_mem _ h)
    · rcases List.mem_cons.mp hp with e | hp
      · exact e ▸ hb.trans ra
      · exact hl p hp

/-- The reducer folded over the family's (value, position) pairs, in any order, from (plus infinity, 0): the first position. -/
theorem foldl_first (f : Fin 1024 → EReal) (j : Fin 1024) (hj : IsFirst f j) (l : List (EReal × BitVec 32))
    (hl : ∀ p ∈ l, ∃ i : Fin 1024, p = (f i, BitVec.ofNat 32 i.val)) (hm : ∀ i : Fin 1024, (f i, BitVec.ofNat 32 i.val) ∈ l) :
    (l.foldl (Cert.ReferenceIdeal.reducer_argmin_f32_i32 (F := Ideal)) (⊤, 0#32)).2 = BitVec.ofNat 32 j.val := by
  obtain ⟨h, -, hle⟩ := foldl_spec l (⊤, 0#32)
  have hj' := hle _ (hm j)
  rcases h with h | h
  · rw [h] at hj' ⊢
    have htop : f j = ⊤ := by
      rcases hj' with h' | ⟨h', -⟩
      · exact absurd h' not_top_lt
      · exact h'.symm
    have h0 : j = ⟨0, by decide⟩ := by
      by_contra hne
      have := hj.lt ⟨0, by decide⟩ (Nat.pos_of_ne_zero fun e => hne (Fin.ext e))
      rw [htop] at this
      exact absurd this not_top_lt
    rw [h0]
  · obtain ⟨i, hi⟩ := hl _ h
    rw [hi] at hj' ⊢
    rcases hj' with h' | ⟨h', k⟩
    · exact absurd (hj.le i) (not_le.mpr h')
    · rw [toInt_small _ i.isLt.le, toInt_small _ j.isLt.le] at k
      rcases lt_or_eq_of_le (show i.val ≤ j.val by omega) with h2 | h2
      · exact absurd (hj.lt i h2) (by rw [show f i = f j from h']; exact lt_irrefl _)
      · rw [h2]

end Cert.Proof.First

end
-- ==== Proof.Whole.Pay.lean ====
/-
  What the TensorCore body computes, read over the extended reals at an index: the distances, their least, its first
  position, and the contribution to the loss.
-/
module

public import proofs.«01_k».proof.Proof.Whole.Nearest
public import proofs.«01_k».proof.Proof.First
public import Idealize.ShloMosaic.Lib.MatmulPlain
public import Idealize.ShloMosaic.Lib.ValueIdx
public import Idealize.ShloMosaic.Lib.Pipeline.Value

@[expose] public section

set_option maxRecDepth 16384

noncomputable section

namespace Cert.Proof.Whole

open Cert.KernelIdeal Cert.KernelIdeal.Gen Cert.Proof.First
open Idealize.ShloMosaic

/-- The distance from code `j` to position `p` of a slice, as the body computes it. -/
def dist (c : Vec Ideal S1024x64 .f32) (z : Vec Ideal S1x64x1024 .f32) (zq : Vec Ideal S1x1x1024 .f32) (cq : Vec Ideal S1024x1 .f32) (p : Fin 1024) (j : Fin 1024) : EReal :=
  Ideal.sqrt (max 0 ((zq (ValueIdx.ix3 (0 : Fin 1) (0 : Fin 1) p) + cq (ValueIdx.ix2 j (0 : Fin 1))) - Ideal.ofBits .f32 0x40000000#32 * ∑ k : Fin 64, c (ValueIdx.ix2 j k) * z (ValueIdx.ix3 (0 : Fin 1) k p)))

variable (c : Vec Ideal S1024x64 .f32) (z : Vec Ideal S1x64x1024 .f32) (zq : Vec Ideal S1x1x1024 .f32) (cq : Vec Ideal S1024x1 .f32)

/-- The body's distances. -/
theorem pay3_apply (j p : Fin 1024) : k0_pay3 (F := Ideal) c z zq cq (ValueIdx.ix2 j p) = dist c z zq cq p j := by
  unfold k0_pay3 dist
  show Ideal.sqrt (max (Ideal.ofBits .f32 0x00000000#32) ((broadcastTo S1024x1024 (shapeCast S1x1024 zq shapeCasts_S1x1x1024_S1x1024) broadcasts_S1x1024_S1024x1024 (ValueIdx.ix2 j p)
      + broadcastTo S1024x1024 (shapeCast S1024x1 cq shapeCasts_S1024x1_S1024x1) broadcasts_S1024x1_S1024x1024 (ValueIdx.ix2 j p))
    - Ideal.ofBits .f32 0x40000000#32 * FloatOps.matmul (F := Ideal) (DotDims.plain 1024 64 1024) none c (shapeCast S64x1024 z shapeCasts_S1x64x1024_S64x1024) (constant S1024x1024 .f32 0x00000000#32) (ValueIdx.ix2 j p))) = _
  rw [Ideal.matmul_plain_apply, Ideal.ofBits_zero_f32]
  have h0 : (constant (F := Ideal) S1024x1024 .f32 0x00000000#32 (ValueIdx.ix2 j p) : EReal) = 0 := Ideal.ofBits_zero_f32
  have h1 : broadcastTo S1024x1024 (shapeCast S1x1024 zq shapeCasts_S1x1x1024_S1x1024) broadcasts_S1x1024_S1024x1024 (ValueIdx.ix2 j p) = zq (ValueIdx.ix3 (0 : Fin 1) (0 : Fin 1) p) := by
    rw [broadcastTo_apply _ _ _ (ValueIdx.ix2 (0 : Fin 1) p) (by intro a; match a with | ⟨0, _⟩ => rfl | ⟨1, _⟩ => rfl)]
    exact shapeCast_apply _ _ _ _ (by rw [Shape.rowMajor_val_three, Shape.rowMajor_val_two]; rfl)
  have h2 : broadcastTo S1024x1024 (shapeCast S1024x1 cq shapeCasts_S1024x1_S1024x1) broadcasts_S1024x1_S1024x1024 (ValueIdx.ix2 j p) = cq (ValueIdx.ix2 j (0 : Fin 1)) := by
    rw [broadcastTo_apply _ _ _ (ValueIdx.ix2 j (0 : Fin 1)) (by intro a; match a with | ⟨0, _⟩ => rfl | ⟨1, _⟩ => rfl)]
    exact shapeCast_apply _ _ _ _ rfl
  have h3 : ∀ k : Fin 64, shapeCast S64x1024 z shapeCasts_S1x64x1024_S64x1024 (ValueIdx.ix2 k p) = z (ValueIdx.ix3 (0 : Fin 1) k p) := fun k =>
    shapeCast_apply _ _ _ _ (by rw [Shape.rowMajor_val_three, Shape.rowMajor_val_two]; show (0 * 64 + k.val) * 1024 + p.val = k.val * 1024 + p.val; omega)
  rw [h0, zero_add, h1, h2]
  exact congrArg (fun s => Ideal.sqrt (max 0 ((zq (ValueIdx.ix3 (0 : Fin 1) (0 : Fin 1) p) + cq (ValueIdx.ix2 j (0 : Fin 1))) - Ideal.ofBits .f32 0x40000000#32 * s))) (Finset.sum_congr rfl fun k _ => by rw [h3])

/-- The word of +∞ reads as the greatest extended real. -/
theorem ofBits_inf : Ideal.ofBits .f32 0x7F800000#32 = ⊤ := by simp [Ideal.ofBits, Ideal.ieee]

/-- The index that puts `j` back on the dropped axis. -/
theorem lift_eq (j p : Fin 1024) : reduces_S1024x1024_S1024.lift (ValueIdx.ix1 p) j = (ValueIdx.ix2 j p : S1024x1024.Idx) := by
  funext a; match a with | ⟨0, _⟩ => rfl | ⟨1, _⟩ => rfl

/-- The least value of a column. -/
theorem col_min (x : FVec Ideal S1024x1024 .f32) (p : Fin 1024) :
    multiReduction .minimumf [0] S1024 x 0x7F800000#32 reduces_S1024x1024_S1024 (.inl rfl) rfl (ValueIdx.ix1 p)
      = (Finset.univ : Finset (Fin 1024)).fold min ⊤ (fun j => x (ValueIdx.ix2 j p)) := by
  refine (multiReduction_minimumf_eq_fold _ _ _ _ _ _).trans ((Shape.Reduces.fold_filter_drop_single _ _ _ _ _).trans ?_)
  have e : (x ∘ reduces_S1024x1024_S1024.lift (ValueIdx.ix1 p) : Fin 1024 → EReal) = fun j => x (ValueIdx.ix2 j p) :=
    funext fun j => congrArg x (lift_eq j p)
  rw [← ofBits_inf]
  exact congrArg (fun g : Fin 1024 → EReal => (Finset.univ : Finset (Fin 1024)).fold min (Ideal.ofBits .f32 0x7F800000#32) g) e

/-- The least word of a column, signed. -/
theorem col_minsi (x : IVec S1024x1024 32) (p : Fin 1024) :
    multiReductionI .minsi [0] S1024 x 2147483647#32 reduces_S1024x1024_S1024 rfl (ValueIdx.ix1 p)
      = (Finset.univ : Finset (Fin 1024)).fold IntOp.minsi 2147483647#32 (fun j => x (ValueIdx.ix2 j p)) := by
  refine (multiReductionI_eq_fold _ _ _ _ _ _).trans ((Shape.Reduces.fold_filter_drop_single _ _ _ _ _).trans ?_)
  have e : (x ∘ reduces_S1024x1024_S1024.lift (ValueIdx.ix1 p) : Fin 1024 → BitVec 32) = fun j => x (ValueIdx.ix2 j p) :=
    funext fun j => congrArg x (lift_eq j p)
  exact congrArg (fun g : Fin 1024 → BitVec 32 => (Finset.univ : Finset (Fin 1024)).fold IntOp.minsi 2147483647#32 g) e

/-- The first nearest code of a position of a slice. -/
def near (p : Fin 1024) : Fin 1024 := first (dist c z zq cq p)

/-- A row read as a one-row matrix. -/
theorem oneRow {α : Type} (x : S1024.Idx → α) (p : Fin 1024) : shapeCast S1x1024 x shapeCasts_S1024_S1x1024 (ValueIdx.ix2 (0 : Fin 1) p) = x (ValueIdx.ix1 p) :=
  shapeCast_apply _ _ _ _ (by rw [Shape.rowMajor_val_one, Shape.rowMajor_val_two]; show p.val = 0 * 1024 + p.val; omega)
/-- A one-row matrix read with one more unit axis. -/
theorem oneRow3 {α : Type} (x : S1x1024.Idx → α) (p : Fin 1024) : shapeCast S1x1x1024 x shapeCasts_S1x1024_S1x1x1024 (ValueIdx.ix3 (0 : Fin 1) (0 : Fin 1) p) = x (ValueIdx.ix2 (0 : Fin 1) p) :=
  shapeCast_apply _ _ _ _ (by rw [Shape.rowMajor_val_three, Shape.rowMajor_val_two]; rfl)

/-- The body's least distances. -/
theorem pay4_apply (p : Fin 1024) : k0_pay4 (F := Ideal) c z zq cq (ValueIdx.ix2 (0 : Fin 1) p) = dist c z zq cq p (near c z zq cq p) := by
  unfold k0_pay4
  refine Eq.trans (oneRow (multiReduction .minimumf [0] S1024 (k0_pay3 (F := Ideal) c z zq cq) 0x7F800000#32 reduces_S1024x1024_S1024 (.inl rfl) rfl) p)
    ((col_min (k0_pay3 (F := Ideal) c z zq cq) p).trans ?_)
  rw [show (fun j => k0_pay3 (F := Ideal) c z zq cq (ValueIdx.ix2 j p)) = dist c z zq cq p from funext fun j => pay3_apply c z zq cq j p]
  exact fold_min _ _ (first_spec (dist c z zq cq p))

/-- The body's indices. -/
theorem pay5_apply (p : Fin 1024) : k0_pay5 (F := Ideal) c z zq cq (ValueIdx.ix3 (0 : Fin 1) (0 : Fin 1) p) = BitVec.ofNat 32 (near c z zq cq p).val := by
  unfold k0_pay5
  generalize hx : select (cmpf .oeq (k0_pay3 (F := Ideal) c z zq cq) (broadcastTo S1024x1024 (k0_pay4 (F := Ideal) c z zq cq) broadcasts_S1x1024_S1024x1024))
    (iota .tc S1024x1024 32 [0] iota_S1024x1024_d0_w32) (broadcast S1024x1024 1024#32) = x
  refine Eq.trans (oneRow3 (shapeCast S1x1024 (multiReductionI .minsi [0] S1024 x 2147483647#32 reduces_S1024x1024_S1024 rfl) shapeCasts_S1024_S1x1024) p)
    (Eq.trans (oneRow (multiReductionI .minsi [0] S1024 x 2147483647#32 reduces_S1024x1024_S1024 rfl) p) ((col_minsi x p).trans ?_))
  subst hx
  refine Eq.trans ?_ (fold_minsi_first _ _ (first_spec (dist c z zq cq p)))
  refine congrArg (fun g : Fin 1024 → BitVec 32 => (Finset.univ : Finset (Fin 1024)).fold IntOp.minsi 2147483647#32 g) (funext fun j => ?_)
  have h : broadcastTo S1024x1024 (k0_pay4 (F := Ideal) c z zq cq) broadcasts_S1x1024_S1024x1024 (ValueIdx.ix2 j p) = dist c z zq cq p (near c z zq cq p) := by
    rw [broadcastTo_apply _ _ _ (ValueIdx.ix2 (0 : Fin 1) p) (by intro a; match a with | ⟨0, _⟩ => rfl | ⟨1, _⟩ => rfl), pay4_apply]
  show Scalar.select (Ideal.cmp .oeq (k0_pay3 (F := Ideal) c z zq cq (ValueIdx.ix2 j p))
    (broadcastTo S1024x1024 (k0_pay4 (F := Ideal) c z zq cq) broadcasts_S1x1024_S1024x1024 (ValueIdx.ix2 j p)))
    (iota .tc S1024x1024 32 [0] iota_S1024x1024_d0_w32 (ValueIdx.ix2 j p)) 1024#32 = _
  rw [h, pay3_apply]
  have hi : iota .tc S1024x1024 32 [0] iota_S1024x1024_d0_w32 (ValueIdx.ix2 j p) = BitVec.ofNat 32 j.val := by
    unfold iota
    exact congrArg (BitVec.ofNat 32) (by show 0 * 1024 + j.val = j.val; omega)
  rw [hi]

/-- The sum of a slice's squared least distances, as the body adds it. -/
theorem sum_sq (x : FVec Ideal S1x1024 .f32) (i : S1x1.Idx) :
    broadcast S1x1 (extractAt ![0, 0, 0] (shapeCast S1x1x1 (multiReduction .add [1, 2] S1 (shapeCast S1x1x1024 (mulf x x) shapeCasts_S1x1024_S1x1x1024) 0x00000000#32 reduces_S1x1x1024_S1 (.inl rfl) rfl) shapeCasts_S1_S1x1x1) inpos_S1x1x1_p0_0_0) i
      = ∑ p : Fin 1024, x (ValueIdx.ix2 (0 : Fin 1) p) * x (ValueIdx.ix2 (0 : Fin 1) p) := by
  show multiReduction .add [1, 2] S1 (shapeCast S1x1x1024 (mulf x x) shapeCasts_S1x1024_S1x1x1024) 0x00000000#32 reduces_S1x1x1024_S1 (.inl rfl) rfl _ = _
  refine (Ideal.multiReduction_add_total _ _ _ (by decide) _ _ _).trans ?_
  let e : Fin 1024 ≃ S1x1x1024.Idx :=
    { toFun := fun p => ValueIdx.ix3 (0 : Fin 1) (0 : Fin 1) p
      invFun := fun i => i 2
      left_inv := fun p => rfl
      right_inv := fun i => by
        funext a
        match a with
        | ⟨0, _⟩ => exact (Fin.eq_zero _).symm
        | ⟨1, _⟩ => exact (Fin.eq_zero _).symm
        | ⟨2, _⟩ => rfl }
  rw [← Equiv.sum_comp e]
  exact Finset.sum_congr rfl fun p _ => oneRow3 (mulf x x) p

/-- The first slice's contribution. -/
theorem pay6_apply (i : S1x1.Idx) : k0_pay6 (F := Ideal) c z zq cq i
    = ∑ p : Fin 1024, dist c z zq cq p (near c z zq cq p) * dist c z zq cq p (near c z zq cq p) := by
  refine Eq.trans (sum_sq _ i) (Finset.sum_congr rfl fun p _ => by rw [pay4_apply])

/-- The second slice's contribution, added to the first's. -/
theorem pay10_apply (v : FVec Ideal S1x1 .f32) (i : S1x1.Idx) : k0_pay10 (F := Ideal) c v z zq cq i
    = v i + ∑ p : Fin 1024, dist c z zq cq p (near c z zq cq p) * dist c z zq cq p (near c z zq cq p) := by
  refine congrArg (v i + ·) (Eq.trans (sum_sq (k0_pay4 (F := Ideal) c z zq cq) i) (Finset.sum_congr rfl fun p _ => by rw [pay4_apply]))

end Cert.Proof.Whole

end
-- ==== Proof.Whole.Arrays.lean ====
/-
  What the TensorCore call leaves in its two array of positions, over the extended reals: the position of the first
  nearest code for every row; and what each point adds to the loss.
-/
module

public import proofs.«01_k».proof.Proof.Whole.Points
public import proofs.«01_k».proof.Proof.Whole.Pay
public import Idealize.ShloMosaic.Lib.Pipeline.ValueKit

@[expose] public section

set_option maxRecDepth 16384

noncomputable section

namespace Cert.Proof.Whole

open Cert.KernelIdeal Cert.KernelIdeal.Gen Cert.Proof.First
open Idealize.ShloMosaic Idealize.ShloMosaic.TcCoe
open Idealize.ShloMosaic.Pipeline (Dat)

/-- Step `t` reads batches `2 t` and `2 t + 1` of the transposed input. -/
theorem e0_0 : ∀ t : Fin cfg0.N, win0_0.index t = ![t.val, 0, 0] := (by decide +kernel : ∀ t : Fin grid0.N, win0_0.index t = ![t.val, 0, 0])
/-- Every step reads the whole codebook. -/
theorem e0_1 : ∀ t : Fin cfg0.N, win0_1.index t = ![0, 0] := (by decide +kernel : ∀ t : Fin grid0.N, win0_1.index t = ![0, 0])
/-- Step `t` reads batches `2 t` and `2 t + 1` of the squared norms of the positions. -/
theorem e0_2 : ∀ t : Fin cfg0.N, win0_2.index t = ![t.val, 0, 0] := (by decide +kernel : ∀ t : Fin grid0.N, win0_2.index t = ![t.val, 0, 0])
/-- Every step reads all the squared norms of the codes. -/
theorem e0_3 : ∀ t : Fin cfg0.N, win0_3.index t = ![0, 0] := (by decide +kernel : ∀ t : Fin grid0.N, win0_3.index t = ![0, 0])
/-- Step `t` writes batches `2 t` and `2 t + 1` of the indices. -/
theorem e0_4 : ∀ t : Fin cfg0.N, win0_4.index t = ![t.val, 0, 0] := (by decide +kernel : ∀ t : Fin grid0.N, win0_4.index t = ![t.val, 0, 0])

/-- The batch that a point's block holds at place `b`. -/
def batch (t : Fin cfg0.N) (b : Fin 2) : Fin 16 := ⟨2 * t.val + b.val, by have h := lt_of_lt_of_eq t.isLt (show cfg0.N = 8 from N_0); omega⟩

variable (W : Valuation τ sig (Elt Ideal))

/-- One batch of the transposed inputs. -/
def zAt (b : Fin 16) : Vec Ideal S1x64x1024 .f32 := fun j => W (Proc.devRef .tc main_v0) (ValueIdx.ix3 b (j 1) (j 2) : S16x64x1024.Idx)
/-- One batch of the inputs' squared norms. -/
def qAt (b : Fin 16) : Vec Ideal S1x1x1024 .f32 := fun j => W (Proc.devRef .tc main_v5) (ValueIdx.ix3 b (j 1) (j 2) : S16x1x1024.Idx)
/-- The codes. -/
def cAt : Vec Ideal S1024x64 .f32 := W (Proc.devRef .tc main_arg1)
/-- The codes' squared norms. -/
def nAt : Vec Ideal S1024x1 .f32 := W (Proc.devRef .tc main_v8)

/-- A step's part of the transposed input is that batch of the array. -/
theorem zRow_iblk (t : Fin cfg0.N) (b : Fin 2) : zRow (iblk W 0 t) b = zAt W (batch t b) := by
  funext j
  unfold zRow zAt batch
  blk_simp [iblk]
  refine congrArg (W (Proc.devRef .tc main_v0)) (funext fun a => Fin.ext ?_)
  match a with
  | ⟨0, _⟩ => blk_simp [e0_0]; show t.val * 2 + b.val = 2 * t.val + b.val; omega
  | ⟨1, _⟩ => blk_simp [e0_0]
  | ⟨2, _⟩ => blk_simp [e0_0]

/-- A step's part of the positions' squared norms is that batch of the array. -/
theorem sRow_iblk (t : Fin cfg0.N) (b : Fin 2) : sRow (iblk W 2 t) b = qAt W (batch t b) := by
  funext j
  unfold sRow qAt batch
  blk_simp [iblk]
  refine congrArg (W (Proc.devRef .tc main_v5)) (funext fun a => Fin.ext ?_)
  match a with
  | ⟨0, _⟩ => blk_simp [e0_2]; show t.val * 2 + b.val = 2 * t.val + b.val; omega
  | ⟨1, _⟩ => blk_simp [e0_2]
  | ⟨2, _⟩ => blk_simp [e0_2]

/-- A step's codebook is the whole codebook. -/
theorem c_iblk (t : Fin cfg0.N) : iblk W 1 t = cAt W := by
  funext j
  unfold cAt
  blk_simp [iblk]
  refine congrArg (W (Proc.devRef .tc main_arg1)) (funext fun a => Fin.ext ?_)
  match a with
  | ⟨0, _⟩ => blk_simp [e0_1]
  | ⟨1, _⟩ => blk_simp [e0_1]

/-- A step's squared norms of the codes are all of them. -/
theorem n_iblk (t : Fin cfg0.N) : iblk W 3 t = nAt W := by
  funext j
  unfold nAt
  blk_simp [iblk]
  refine congrArg (W (Proc.devRef .tc main_v8)) (funext fun a => Fin.ext ?_)
  match a with
  | ⟨0, _⟩ => blk_simp [e0_3]
  | ⟨1, _⟩ => blk_simp [e0_3]

/-- The first nearest code of position `p` of batch `b`. -/
def nearAt (b : Fin 16) (p : Fin 1024) : Fin 1024 := near (cAt W) (zAt W b) (qAt W b) (nAt W) p
/-- Its distance. -/
def leastAt (b : Fin 16) (p : Fin 1024) : EReal := dist (cAt W) (zAt W b) (qAt W b) (nAt W) p (nearAt W b p)

/-- One entry of the positions that a point writes. -/
theorem idxBlk_apply (t : Fin cfg0.N) (b : Fin 2) (q : Fin 1) (p : Fin 1024) :
    idxBlk (F := Ideal) (iblk W 0 t) (iblk W 1 t) (iblk W 2 t) (iblk W 3 t) (ValueIdx.ix3 b q p) = BitVec.ofNat 32 (nearAt W (batch t b) p).val := by
  obtain rfl : q = 0 := Subsingleton.elim _ _
  show k0_pay5 (iblk W 1 t) (zRow (iblk W 0 t) b) (sRow (iblk W 2 t) b) (iblk W 3 t) (ValueIdx.ix3 (0 : Fin 1) (0 : Fin 1) p) = _
  rw [zRow_iblk, sRow_iblk, c_iblk, n_iblk, pay5_apply]
  rfl

/-- The array of positions after the call. -/
theorem arr_idx (d : Dev nD) : (dat0 W d).arrAt 4 cfg0.N = fun i : S16x1x1024.Idx => BitVec.ofNat 32 (nearAt W (i 0) (i 2)).val := by
  refine (dat0 W d).arrAt_eq_of_covers 4 _ (by decide +kernel) fun t hf y => ?_
  blk_simp
  rw [after_4]
  refine (congrArg (idxBlk (F := Ideal) (iblk W 0 t) (iblk W 1 t) (iblk W 2 t) (iblk W 3 t)) (ValueIdx.eq_ix3 (y : S2x1x1024.Idx))).trans ((idxBlk_apply W t _ _ _).trans ?_)
  refine congrArg₂ (fun b p => BitVec.ofNat 32 (nearAt W b p).val) (Fin.ext ?_) (Fin.ext ?_)
  · blk_simp [e0_4, batch]
    show 2 * t.val + (y 0).val = t.val * 2 + (y 0).val
    omega
  · blk_simp [e0_4]

/-- The sum of the squared least distances of a batch. -/
def sumAt (b : Fin 16) : EReal := ∑ p : Fin 1024, leastAt W b p * leastAt W b p

/-- What a step adds to the loss is the sum over its two batches. -/
theorem partAt_apply (t : Fin cfg0.N) (i : S1x1.Idx) : partAt W t i = sumAt W (batch t 0) + sumAt W (batch t 1) := by
  unfold partAt lossPart
  rw [zRow_iblk, zRow_iblk, sRow_iblk, sRow_iblk, c_iblk, n_iblk, pay10_apply, pay6_apply]
  rfl

end Cert.Proof.Whole

end
-- ==== Proof.Whole.Loss.lean ====
/-
  What the TensorCore call leaves in its loss, over the extended reals: the scaled sum of the squared least distances.
-/
module

public import proofs.«01_k».proof.Proof.Whole.Arrays

@[expose] public section

set_option maxRecDepth 16384

noncomputable section

namespace Cert.Proof.Whole

open Cert.KernelIdeal Cert.KernelIdeal.Gen Cert.Proof.First
open Idealize.ShloMosaic Idealize.ShloMosaic.TcCoe
open Idealize.ShloMosaic.Pipeline (Dat)

variable (W : Valuation τ sig (Elt Ideal))

/-- The scale that the last point applies. -/
def scale : EReal := Ideal.ofBits .f32 0x35A00000#32

/-- The running loss is what was there plus the step's part. -/
theorem pay1_apply (a b : Vec Ideal S1x1 .f32) (i : S1x1.Idx) : k0_pay1 (F := Ideal) a b i = (b i + a i : EReal) := by
  unfold k0_pay1
  exact congrArg (fun x : EReal => x + a i) (shapeCast_apply b _ i i rfl)

/-- The last step multiplies the running loss by the scale. -/
theorem pay2_apply (a : Vec Ideal S1x1 .f32) (i : S1x1.Idx) : k0_pay2 (F := Ideal) a i = (a i * scale : EReal) := by
  unfold k0_pay2
  exact congrArg (fun x : EReal => x * scale) (shapeCast_apply a _ i i rfl)

/-- The running loss starts at zero. -/
theorem pay11_apply (i : S1x1.Idx) : (k0_pay11 (F := Ideal)) i = (0 : EReal) := Ideal.ofBits_zero_f32

/-- After the first step the running loss is the step's part. -/
theorem next_first (i : grid0.Coords) (p prev : Vec Ideal S1x1 .f32) (x : S1x1.Idx) (hf : isFirst i) (hl : ¬ isLast i) :
    lossNext (F := Ideal) i p prev x = (p x : EReal) := by
  unfold lossNext
  rw [if_neg hl, if_pos hf, pay1_apply, pay11_apply]
  exact zero_add (p x : EReal)

/-- A step between adds its part. -/
theorem next_mid (i : grid0.Coords) (p prev : Vec Ideal S1x1 .f32) (x : S1x1.Idx) (hf : ¬ isFirst i) (hl : ¬ isLast i) :
    lossNext (F := Ideal) i p prev x = (prev x + p x : EReal) := by
  unfold lossNext
  rw [if_neg hl, if_neg hf, pay1_apply]

/-- The last step adds its part and scales. -/
theorem next_last (i : grid0.Coords) (p prev : Vec Ideal S1x1 .f32) (x : S1x1.Idx) (hf : ¬ isFirst i) (hl : isLast i) :
    lossNext (F := Ideal) i p prev x = ((prev x + p x) * scale : EReal) := by
  unfold lossNext
  rw [if_pos hl, if_neg hf, pay2_apply, pay1_apply]

/-- The sum of a batch, by its number. -/
def sumN (n : ℕ) : EReal := if h : n < 16 then sumAt W ⟨n, h⟩ else 0

/-- A step's part, by the numbers of its two batches. -/
theorem partAt_sumN (n : ℕ) (h : n < cfg0.N) (i : S1x1.Idx) : (partAt W ⟨n, h⟩ i : EReal) = sumN W (2 * n) + sumN W (2 * n + 1) := by
  have hn : n < 8 := lt_of_lt_of_eq h (show cfg0.N = 8 from N_0)
  rw [partAt_apply, sumN, sumN, dif_pos (by omega), dif_pos (by omega)]
  rfl

/-- The running loss after the first step. -/
theorem lossAt_zero (i : S1x1.Idx) (h : 0 < cfg0.N) : (lossAt W 0 h i : EReal) = partAt W ⟨0, h⟩ i :=
  next_first _ _ _ _ ((isFirst_iff ⟨0, h⟩).2 rfl) (fun hl => by have := (isLast_iff ⟨0, h⟩).1 hl; simp at this)

/-- The running loss after a step between. -/
theorem lossAt_succ (i : S1x1.Idx) (n : ℕ) (h : n + 1 < cfg0.N) (hn : n + 1 < 7) :
    (lossAt W (n + 1) h i : EReal) = lossAt W n (Nat.lt_of_succ_lt h) i + partAt W ⟨n + 1, h⟩ i :=
  next_mid _ _ _ _ (fun hf => by have := (isFirst_iff ⟨n + 1, h⟩).1 hf; simp at this) (fun hl => by have := (isLast_iff ⟨n + 1, h⟩).1 hl; simp only at this; omega)

/-- The running loss after the last step. -/
theorem lossAt_seven (i : S1x1.Idx) (h : 6 + 1 < cfg0.N) :
    (lossAt W (6 + 1) h i : EReal) = (lossAt W 6 (Nat.lt_of_succ_lt h) i + partAt W ⟨6 + 1, h⟩ i) * scale :=
  next_last _ _ _ _ (fun hf => by have := (isFirst_iff ⟨6 + 1, h⟩).1 hf; simp at this) ((isLast_iff ⟨6 + 1, h⟩).2 rfl)

/-- Before the last point the running loss is the sum of what the points so far add. -/
theorem lossAt_sum (i : S1x1.Idx) (n : ℕ) (h : n < cfg0.N) (hn : n < 7) :
    (lossAt W n h i : EReal) = ∑ k ∈ Finset.range (n + 1), (sumN W (2 * k) + sumN W (2 * k + 1)) := by
  induction n with
  | zero => rw [lossAt_zero, partAt_sumN, Finset.sum_range_one]
  | succ n ih => rw [lossAt_succ W i n h hn, ih _ (by omega), partAt_sumN, Finset.sum_range_succ _ (n + 1)]

/-- Pairs of consecutive terms. -/
theorem sum_pairs (g : ℕ → EReal) : ∑ k ∈ Finset.range 8, (g (2 * k) + g (2 * k + 1)) = ∑ k ∈ Finset.range 16, g k := by
  simp only [Finset.sum_range_succ, Finset.sum_range_zero, zero_add, add_assoc, Nat.mul_zero, Nat.reduceMul, Nat.reduceAdd]

/-- The loss: the sum over the batches, scaled. -/
def lossTotal : EReal := (∑ b : Fin 16, sumAt W b) * scale

/-- After the last point the running loss is the sum over the batches, scaled. -/
theorem lossAt_last (i : S1x1.Idx) (n : ℕ) (hn : n = 6 + 1) (h : n < cfg0.N) : (lossAt W n h i : EReal) = lossTotal W := by
  subst hn
  rw [lossAt_seven, lossAt_sum W i 6 _ (by decide), partAt_sumN, ← Finset.sum_range_succ _ (6 + 1), sum_pairs, Finset.sum_range, lossTotal]
  refine congrArg (fun x : EReal => x * scale) (Finset.sum_congr rfl fun b _ => ?_)
  rw [sumN, dif_pos b.isLt]

/-- What the last point leaves. -/
theorem after_last (d : Dev nD) : (dat0 W d).after 5 t0_7 = fun _ : S1x1.Idx => lossTotal W :=
  (after_5 W d t0_7).trans (funext fun i => lossAt_last W i _ rfl _)

/-- The loss after the call. -/
theorem arr_loss (d : Dev nD) : (dat0 W d).arrAt 5 cfg0.N = fun _ : S1x1.Idx => lossTotal W := by
  have h := after_last W d
  generalize lossTotal W = L at h ⊢
  generalize dat0 W d = D at h ⊢
  refine D.arrAt_eq_of_after_last 5 t0_7 (by decide +kernel) _ fun j => ?_
  rw [h]
  rfl

end Cert.Proof.Whole

end
-- ==== Proof.Whole.Region.lean ====
/-
  The TensorCore call as one step of @main: from every array at given contents to the same arrays with the call's two
  results at what its grid leaves in them.
-/
module

public import proofs.«01_k».proof.Proof.Whole.Points
public import Idealize.ShloMosaic.Lib.Pipeline.FrameTail

@[expose] public section

set_option maxRecDepth 16384

noncomputable section

namespace Cert.Proof.Whole

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx)
open Idealize.ShloMosaic.Pipeline (Dat afterRegion pin cellsGhost toksInit)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The pipeline's configuration takes no table. -/
abbrev adm : (p : Fin 1) → (pcfgs (F := F) p).Adm := fun q => (cfgs q).toPCfg_adm
/-- The pipelines of @main, pinned. -/
abbrev pins : Fin 1 → Pipeline.Cfg sig Λ₀ := pin (pcfgs (F := F)) adm

/-- The layout of the call's buffers and semaphores. -/
theorem kitP : Pipeline.PLaunchFacts (nD := nD) (τ := τ) (pcfgs (F := F)) 0 := launch0.toP

/-- No two staging buffers complete on one semaphore. -/
theorem pins_inj : Function.Injective (Pipeline.cellOf (nD := nD) (τ := τ) (pins (F := F))) := (kitP (F := F)).cellOf_inj adm

/-- Where the pipeline's rounds live in the ghost state. -/
def EP : Emb (URounds (GSem nD τ sig) Unit) (MT nD τ sig (HIx 1) (Elt F) ℕ UU ℕ) :=
  ((Emb.inl : Emb (URounds (GSem nD τ sig) Unit) (URounds (GSem nD τ sig) Unit × Counters)).trans
    (Emb.inr : Emb (URounds (GSem nD τ sig) Unit × Counters) UU)).trans
    (uEmb (nD := nD) (τ := τ) (sig := sig) (Ix := HIx 1) (Val := Elt F) (Name := ℕ) (U := UU) (Lvl := ℕ)).toEmb

/-- The call's ghost state is part of the whole one. -/
instance EP_landsIn : (EP : Emb (URounds (GSem nD τ sig) Unit) 𝕄).LandsIn (upEmb : UEmb _ 𝕄) := by unfold EP; infer_instance

/-- What the TensorCore owes, its waits' records bounded. -/
def owesTc (d : Dev nD) : sProp 𝕄 :=
  iprop(∃ R, ⌜(K (F := F)).WBelow (T d) R (8 * (inferInstance : SparseCore.Cfg.Blocks 1 1).fst 0)⌝ ∗ owes (T d) ((K (F := F)).Otc d 0) R)

/-- What it owes is owed at no kernel's own index. -/
theorem Otc_none (d : Dev nD) (g : GSem nD τ sig) : (K (F := F)).Otc (nD := nD) d 0 g none = 0 := by
  by_contra h
  exact absurd ((K (F := F)).lev_of_Otc_pos (Nat.pos_of_ne_zero h)) (Nat.not_succ_le_zero _)

/-- A bound on the records the region may add to. -/
theorem wait_level (d : Dev nD) (t : Fin (cfg0.N + 1)) (W : Valuation τ sig (Elt F)) :
    (dat0 W d).bound none t ⊆ {p | (K (F := F)).lev (T d, p.1) p.2 ≤ 8 * (inferInstance : SparseCore.Cfg.Blocks 1 1).fst 0} := by
  rintro p (h | ⟨w, s, rfl⟩)
  · exact h
  · exact Nat.zero_le _

variable [∀ e, Nonempty (Elt F e)] (W : Dev nD → Valuation τ sig (Elt F))

/-- The proof data of every pipeline (there is one). -/
abbrev dats (p : Fin 1) (d : Dev nD) : Dat τ (Elt F) (HIx 1) ℕ UU ℕ (pins (F := F) p) d := dat0 (W d) d

/-- What the arrays hold when the call has ended. -/
def W2 (d : Dev nD) : Valuation τ sig (Elt F) := afterRegion (dat0 (W d) d) (W d)

set_option backward.isDefEq.respectTransparency.types false in
/-- The TensorCore call as a step of @main. -/
def reg : Pipeline.RegionSeg (pcfgs (F := F)) adm (dats W) none defs₀ 𝒱₀ (K (F := F)).L (K (F := F)).lev 0 :=
  { win := (kitP (F := F)).win.to₀
    block_pos := (kitP (F := F)).block_pos
    stage_whole := (kitP (F := F)).stage_whole
    K := PEmpty
    osem := fun k => k.elim
    ho := Pipeline.OwnSemFacts.none _
    hbody := fun c => (body_obligation (W c) c).loose
    hwaits := fun c => Pipeline.cellsWaits_intro (pins (F := F)) (dats W) none 0 c fun w s t =>
      (K (F := F)).mayWait_none _ (Otc_none c)
    pre := fun c => iprop(StableHlo.held (c.tc : Thread nD τ) (Pipeline.ucRefs τ sig) (W c) ∗ (∃ r, prngReg c r) ∗ owesTc c)
    post := fun c => iprop(StableHlo.held (c.tc : Thread nD τ) (Pipeline.ucRefs τ sig) (W2 W c) ∗ (∃ r, prngReg c r) ∗ owesTc c)
    X := fun c => iprop(∃ r, prngReg c r)
    Y := fun c => iprop(∃ r, prngReg c r)
    Z := fun c => Pipeline.unscopedRest (Ix := HIx 1) (Name := ℕ) (U := UU) (Lvl := ℕ) spec0 c (fun b => W c (Proc.devRef .tc b))
    hentry := fun c => by
      rw [Pipeline.ownSems0_none,
        show StableHlo.held (c.tc : Thread nD τ) (Pipeline.ucRefs τ sig) (W c) = unscopedBufs c (fun b => W c (Proc.devRef .tc b))
          from (Pipeline.unscopedBufs_held (Ix := HIx 1) (Name := ℕ) (U := UU) (Lvl := ℕ) c (W c)).symm]
      have hsplit := Pipeline.arrays_of_unscopedBufs (p := 0) (pcfgs (F := F)) adm (dats W) (kitP (F := F)).win (kitP (F := F)).arr_whole c ((dats W 0 c).share_full fun _ => rfl)
        (fun b => W c (Proc.devRef .tc b)) (fun w => A_eq (W c) c w)
      iintro ⟨⟨Hub, Hp, HO⟩, -, -⟩
      ihave H := hsplit $$ Hub
      icases H with ⟨Ha, Hrest⟩
      imodintro
      isplitl [Ha]; · iexact Ha
      isplitr
      · unfold Pipeline.prefHeld
        iapply (show (BI.emp : sProp 𝕄) ⊢ bigSep (Finset.univ : Finset (Fin 0)) _ from by
          rw [show (Finset.univ : Finset (Fin 0)) = ∅ from rfl, BI.bigSep_empty])
        iempintro
      isplitl [HO]
      · unfold Dat.owesAt Pipeline.owesWithin owesTc
        icases HO with ⟨%R, %hR, HO⟩
        iexists R; isplitr
        · ipureintro; exact fun p hp => Or.inl (hR p hp)
        iexact HO
      isplitl [Hp]; · iexact Hp
      iexact Hrest
    hin := fun c => (show _ ⊢ iprop(Pipeline.scopedRest spec0 c ∗ ∃ r, prngReg c r) from by
      iintro ⟨Hp, -, Hr⟩
      isplitl [Hr] <;> iassumption)
    hout := fun c => (show iprop(Pipeline.scopedRest spec0 c ∗ ∃ r, prngReg c r) ⊢ _ from by
      rw [Pipeline.ownSems0_none]
      iintro ⟨Hr, Hp⟩
      isplitl [Hp]; · iexact Hp
      isplitr; · iempintro
      iexact Hr)
    hexit := fun c => by
      have hjoin := Pipeline.unscopedBufs_of_arrays (p := 0) (pcfgs (F := F)) adm (Ix := HIx 1) (Name := ℕ) (U := UU) (Lvl := ℕ)
        (kitP (F := F)).win (kitP (F := F)).arr_whole c (dats W) ((dats W 0 c).share_full fun _ => rfl)
        (fun b => W c (Proc.devRef .tc b)) (fun b => W2 W c (Proc.devRef .tc b)) ((dats W 0 c).arrAt · cfg0.N)
        (fun w => (Pipeline.afterRegion_arr (dats W 0 c) (W c) launch0.win.arr_inj w).symm)
        (fun b hb => Pipeline.afterRegion_of_not_arr (dats W 0 c) (W c)
          fun w h => hb (h ▸ Finset.mem_image.mpr ⟨w, Finset.mem_univ _, rfl⟩))
      rw [show StableHlo.held (c.tc : Thread nD τ) (Pipeline.ucRefs τ sig) (W2 W c) = unscopedBufs c (fun b => W2 W c (Proc.devRef .tc b))
          from (Pipeline.unscopedBufs_held (Ix := HIx 1) (Name := ℕ) (U := UU) (Lvl := ℕ) c (W2 W c)).symm]
      iintro ⟨Ha, HO, Hp, Hrest⟩
      imodintro
      isplitl [Ha Hrest]
      · iapply hjoin; isplitl [Ha] <;> iassumption
      isplitl [Hp]; · iexact Hp
      unfold Dat.owesAt Pipeline.owesWithin owesTc
      icases HO with ⟨%R, %hR, HO⟩; iexists R
      isplitr
      · ipureintro; exact fun p hp => wait_level c _ (W c) (hR hp)
      iexact HO }

end Cert.Proof.Whole

end
-- ==== Proof.Whole.Run.lean ====
module

public import proofs.«01_k».proof.Proof.Whole.Region
public import Idealize.ShloMosaic.Lib.Pipeline.Frame

@[expose] public section

noncomputable section

namespace Cert.Proof.Whole

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.StableHlo (held held_sub_split held_congr after after_cons after_nil seq)

/-! # The two calls with their host code -/

section

variable [FloatOps F]

set_option backward.isDefEq.respectTransparency.types false in
/-- The TensorCore call under the program's own procedures: from the boundary, what the call takes, the launch's level
facts and the pipeline's ghost state, to the boundary and what the call gives back. -/
theorem wp_entry [∀ e, Nonempty (Elt F e)] (W : Dev nD → Valuation τ sig (Elt F)) (d : Dev nD) (Q : PUnit → sProp 𝕄) :
    iprop((iprop(boundary (T d) ∗ (reg W).post d) -∗ wp frame (wpE (D (F := F)) 𝒱 (T d) none) Set.univ (Prog.ret ⟨⟩) Q)
        ∗ boundary (T d) ∗ (reg W).pre d ∗ levAts (K (F := F)).L (K (F := F)).lev
        ∗ Pipeline.cellsGhost (pins (F := F)) EP 0 d ∗ Pipeline.toksInit (pins (F := F)) EP 0 d)
      ⊢ wp frame (wpE (D (F := F)) 𝒱 (T d) none) Set.univ (.op (.customCall (Pipeline.entry 0) ()) Prog.ret) Q :=
  Pipeline.RegionSeg.wp (pcfgs (F := F)) adm (dats W) none pins_inj (EP (F := F)) defs₀ 𝒱₀ (K (F := F)).L (K (F := F)).lev (reg W) d none
    (fun u hu => absurd hu (Option.not_mem_none u)) Prog.ret Q

/-- The program that calls the pipeline, in the certificate's labels. -/
abbrev entryProg : Prog (TpuEff nD τ sig (Elt F) (ΛP (F := F)) .tc) PUnit := .op (.customCall (Pipeline.entry 0) ()) Prog.ret

/-- The statement of @main is that program lifted. -/
theorem lift_entry : (Prog.lift (.customCall (SparseCore.inner (Pipeline.entry 0)) ()) : Prog (TpuEff nD τ sig (Elt F) (SparseCore.Sig (ΛP (F := F)) 1) .tc) PUnit)
    = SparseCore.liftProg (entryProg (F := F)) := rfl

/-- The same as a statement of @main, with what the call takes and gives back named. -/
theorem wp_region [∀ e, Nonempty (Elt F e)] (W : Dev nD → Valuation τ sig (Elt F)) (d : Dev nD) (Q : PUnit → sProp 𝕄) :
    iprop((iprop(boundary (T d) ∗ held (T d) (Pipeline.ucRefs τ sig) (W2 W d) ∗ (∃ r, prngReg d r) ∗ owesTc d) -∗ Q ⟨⟩)
        ∗ boundary (T d) ∗ iprop(held (T d) (Pipeline.ucRefs τ sig) (W d) ∗ (∃ r, prngReg d r) ∗ owesTc d)
        ∗ levAts (K (F := F)).L (K (F := F)).lev
        ∗ Pipeline.cellsGhost (pins (F := F)) EP 0 d ∗ Pipeline.toksInit (pins (F := F)) EP 0 d)
      ⊢ wp frame (wpE ((K (F := F)).defs (D (F := F))) 𝒱 (T d) none) Set.univ
          (Prog.lift (.customCall (SparseCore.inner (Pipeline.entry 0)) ())) Q := by
  rw [lift_entry]
  refine BI.Entails.trans ?_ ((K (F := F)).wp_liftProg (D (F := F)) 𝒱 (T d) Set.univ none (entryProg (F := F)) Q)
  refine BI.Entails.trans ?_ (wp_entry W d Q)
  show (_ : sProp 𝕄) ⊢ _
  iintro ⟨Hk, H⟩
  isplitl [Hk]
  · iintro Hb
    rw [wp_ret]; imodintro
    iapply Hk; iexact Hb
  iexact H

variable (m : (ℓ : Loc nD τ sig) → Buf (Elt F) ℓ) (ρ : Dev nD → PrngReg)

/-- The host operations before the TensorCore call: the input's transpose, the squared norms. -/
abbrev preOps : List (HloOp τ sig (Elt F)) :=
  [StableHlo.unary main_arg0 main_v0 ((transpose S16x64x1024 [0, 2, 1] · transposes_S16x1024x64_S16x64x1024_0_2_1) : (⟨S16x1024x64, .f32⟩ : BufTy).Contents (Elt F) → (⟨S16x64x1024, .f32⟩ : BufTy).Contents (Elt F)),
   StableHlo.reshape main_arg0 main_v1 (rfl : (.f32 : EltTy) = .f32) shapeCasts_S16x1024x64_S16384x64,
   StableHlo.binary main_v1 main_v1 main_v2 (mulf : (⟨S16384x64, .f32⟩ : BufTy).Contents (Elt F) → (⟨S16384x64, .f32⟩ : BufTy).Contents (Elt F) → (⟨S16384x64, .f32⟩ : BufTy).Contents (Elt F)),
   StableHlo.nullary main_cst (constant S_ .f32 0x00000000#32),
   StableHlo.binary main_v2 main_cst main_v3 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
   StableHlo.unary main_v3 main_v4 (broadcastInDim S16384x1 ![0] bcast_S16384_S16384x1_0 : (⟨S16384, .f32⟩ : BufTy).Contents (Elt F) → (⟨S16384x1, .f32⟩ : BufTy).Contents (Elt F)),
   StableHlo.reshape main_v4 main_v5 (rfl : (.f32 : EltTy) = .f32) shapeCasts_S16384x1_S16x1x1024,
   StableHlo.binary main_arg1 main_arg1 main_v6 (mulf : (⟨S1024x64, .f32⟩ : BufTy).Contents (Elt F) → (⟨S1024x64, .f32⟩ : BufTy).Contents (Elt F) → (⟨S1024x64, .f32⟩ : BufTy).Contents (Elt F)),
   StableHlo.nullary main_cst_0 (constant S_ .f32 0x00000000#32),
   StableHlo.binary main_v6 main_cst_0 main_v7 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
   StableHlo.unary main_v7 main_v8 (broadcastInDim S1024x1 ![0] bcast_S1024_S1024x1_0 : (⟨S1024, .f32⟩ : BufTy).Contents (Elt F) → (⟨S1024x1, .f32⟩ : BufTy).Contents (Elt F))]
/-- The host operations between the two calls: the table padded to 128 columns, the indices in one row. -/
abbrev midOps : List (HloOp τ sig (Elt F)) :=
  [StableHlo.nullary main_c (constantI S_ 32 0#32),
   StableHlo.TRef.unary (.of main_c : StableHlo.TRef sig ⟨S_, .i32⟩) main_call0.v0 (sitofp .f32),
   StableHlo.TRef.binary (.of main_arg1 : StableHlo.TRef sig ⟨S1024x64, .f32⟩) main_call0.v0 main_call0.v1 (fun x v => pad S1024x128 ![0, 0] ![0, 64] ![0, 0] x v pads_S1024x64_S1024x128_000_0640 h_S_),
   StableHlo.reshape main_v9_0 main_v11 (rfl : (.i32 : EltTy) = .i32) shapeCasts_S16x1x1024_S1x16384]
/-- The host operations after the SparseCore call: the results, in their shapes. -/
abbrev postOps : List (HloOp τ sig (Elt F)) :=
  [StableHlo.reshape main_v9_0 main_v13 (rfl : (.i32 : EltTy) = .i32) shapeCasts_S16x1x1024_S16384,
   StableHlo.unary main_v12 main_v14 ((extractStridedSlice S16384x64 ![0, 0] · slices_S16384x128_S16384x64_0_0) : (⟨S16384x128, .f32⟩ : BufTy).Contents (Elt F) → (⟨S16384x64, .f32⟩ : BufTy).Contents (Elt F)),
   StableHlo.reshape main_v14 main_v15 (rfl : (.f32 : EltTy) = .f32) shapeCasts_S16384x64_S16x1024x64,
   StableHlo.reshape main_v9_1 main_v16 (rfl : (.f32 : EltTy) = .f32) shapeCasts_S1x1_S_]

/-- The program is its host code and its calls, one after the other. -/
theorem main_eq (d : Dev nD) : main (F := F) d = (seq preOps >>= fun _ => Prog.lift (.customCall (SparseCore.inner (Pipeline.entry 0)) ()) >>= fun _ => seq midOps >>= fun _ => (sc (F := F)).run d 0 >>= fun _ => seq postOps >>= fun _ => pure ⟨⟩) := rfl

/-- The host code before the calls touches the TensorCore's arrays only. -/
theorem preOps_tc : (preOps : List (HloOp τ sig (Elt F))).Forall fun op => op.bufs ⊆ StableHlo.tcRefs τ sig :=
  ⟨StableHlo.unary_bufs_sub .., StableHlo.reshape_bufs_sub .., StableHlo.binary_bufs_sub .., StableHlo.nullary_bufs_sub .., StableHlo.binary_bufs_sub .., StableHlo.unary_bufs_sub .., StableHlo.reshape_bufs_sub .., StableHlo.binary_bufs_sub .., StableHlo.nullary_bufs_sub .., StableHlo.binary_bufs_sub .., StableHlo.unary_bufs_sub ..⟩
/-- The host code between the calls touches the TensorCore's arrays only. -/
theorem midOps_tc : (midOps : List (HloOp τ sig (Elt F))).Forall fun op => op.bufs ⊆ StableHlo.tcRefs τ sig :=
  ⟨StableHlo.nullary_bufs_sub .., StableHlo.unary_bufs_sub .., StableHlo.binary_bufs_sub .., StableHlo.reshape_bufs_sub ..⟩
/-- The host code after the calls touches the TensorCore's arrays only. -/
theorem postOps_tc : (postOps : List (HloOp τ sig (Elt F))).Forall fun op => op.bufs ⊆ StableHlo.tcRefs τ sig :=
  ⟨StableHlo.reshape_bufs_sub .., StableHlo.unary_bufs_sub .., StableHlo.reshape_bufs_sub .., StableHlo.reshape_bufs_sub ..⟩
/-- The host code before the calls allocates nothing. -/
theorem preOps_noAlloc : (preOps : List (HloOp τ sig (Elt F))).Forall fun op => op.fresh = ∅ := ⟨rfl, rfl, rfl, rfl, rfl, rfl, rfl, rfl, rfl, rfl, rfl⟩
/-- The host code between the calls allocates nothing. -/
theorem midOps_noAlloc : (midOps : List (HloOp τ sig (Elt F))).Forall fun op => op.fresh = ∅ := ⟨rfl, rfl, rfl, rfl⟩
/-- The host code after the calls allocates nothing. -/
theorem postOps_noAlloc : (postOps : List (HloOp τ sig (Elt F))).Forall fun op => op.fresh = ∅ := ⟨rfl, rfl, rfl, rfl⟩
/-- Operations on the TensorCore's arrays touch only arrays that are held. -/
theorem sub_of {l : List (HloOp τ sig (Elt F))} (h : l.Forall fun op => op.bufs ⊆ StableHlo.tcRefs τ sig) : ∀ op ∈ l, op.bufs ⊆ Pipeline.ucRefs τ sig :=
  fun op hm => Pipeline.sub_ucRefs op (List.forall_iff_forall_mem.mp h op hm)
/-- Of a list that allocates nothing, no operation makes a fresh array. -/
theorem fresh_of {l : List (HloOp τ sig (Elt F))} (h : l.Forall fun op => op.fresh = ∅) : ∀ op ∈ l, op.fresh = ∅ := List.forall_iff_forall_mem.mp h

/-- The padded table among the program's arrays. -/
abbrev x' : DevRef τ sig := Proc.devRef .tc (main_v10 : Ref sig .tc)
/-- The index row among the program's arrays. -/
abbrev i' : DevRef τ sig := Proc.devRef .tc (main_v11 : Ref sig .tc)
/-- The gathered rows among the program's arrays. -/
abbrev o' : DevRef τ sig := Proc.devRef .tc (main_v12 : Ref sig .tc)

/-- What the arrays hold at the launch; -/
def V0 (d : Dev nD) : Valuation τ sig (Elt F) := fun b => m (d, b)
/-- when the TensorCore call begins; -/
def W1 (d : Dev nD) : Valuation τ sig (Elt F) := after preOps (V0 m d)
/-- when the SparseCore call begins; -/
def V1 (d : Dev nD) : Valuation τ sig (Elt F) := after midOps (W2 (W1 m) d)
/-- The padded table's contents when the SparseCore call starts. -/
def T1 (d : Dev nD) : Buf (Elt F) (xLoc d) := V1 m d x'
/-- The index row's contents when the SparseCore call starts. -/
def I1 (d : Dev nD) : Buf (Elt F) (iLoc d) := V1 m d i'
/-- The result's contents when the SparseCore call starts. -/
def O1 (d : Dev nD) : Buf (Elt F) (oLoc d) := V1 m d o'
/-- when the SparseCore call has ended; -/
def V2 (d : Dev nD) : Valuation τ sig (Elt F) := Function.update (V1 m d) o' (G (F := F) (T1 m d) (I1 m d))
/-- at the end. -/
def V3 (d : Dev nD) : Valuation τ sig (Elt F) := after postOps (V2 m d)

/-- The three arrays of the SparseCore call. -/
abbrev SC3 : Finset (DevRef τ sig) := {i', x', o'}

omit [FloatOps F] in
/-- The three arrays held together are the three held one by one. -/
theorem held_SC3 (d : Dev nD) (W : Valuation τ sig (Elt F)) :
    (held (SparseCore.T d) SC3 W : sProp 𝕄) = iprop((iLoc d ↦{fullShare} W i') ∗ (xLoc d ↦{fullShare} W x') ∗ oLoc d ↦{fullShare} W o') := by
  unfold held SC3
  rw [SparseCore.bigSep_insert' (by decide), SparseCore.bigSep_insert' (by decide), bigSep_singleton]

/-- The three arrays are among those held. -/
theorem SC3_sub : SC3 ⊆ Pipeline.ucRefs τ sig := by decide

/-- What is held before the SparseCore call: its three arrays, and the rest. -/
theorem held_V1 (d : Dev nD) : (held (SparseCore.T d) (Pipeline.ucRefs τ sig) (V1 m d) : sProp 𝕄)
    = iprop(((iLoc d ↦{fullShare} I1 m d) ∗ (xLoc d ↦{fullShare} T1 m d) ∗ oLoc d ↦{fullShare} O1 m d) ∗ held (SparseCore.T d) (Pipeline.ucRefs τ sig \ SC3) (V1 m d)) := by
  rw [held_sub_split _ SC3_sub, held_SC3]; rfl
/-- What is held after the SparseCore call: its three arrays, the result gathered, and the rest. -/
theorem held_V2 (d : Dev nD) : (held (SparseCore.T d) (Pipeline.ucRefs τ sig) (V2 m d) : sProp 𝕄)
    = iprop(((iLoc d ↦{fullShare} I1 m d) ∗ (xLoc d ↦{fullShare} T1 m d) ∗ oLoc d ↦{fullShare} G (F := F) (T1 m d) (I1 m d))
        ∗ held (SparseCore.T d) (Pipeline.ucRefs τ sig \ SC3) (V1 m d)) := by
  rw [held_sub_split _ SC3_sub, held_SC3]
  refine congrArg₂ (fun a b : sProp 𝕄 => iprop(a ∗ b)) ?_ ?_
  · rw [show V2 m d i' = I1 m d from Function.update_of_ne (show i' ≠ o' by decide) _ _,
      show V2 m d x' = T1 m d from Function.update_of_ne (show x' ≠ o' by decide) _ _,
      show V2 m d o' = G (F := F) (T1 m d) (I1 m d) from Function.update_self _ _ _]
  · exact held_congr _ fun b hb => Function.update_of_ne (fun e => (Finset.mem_sdiff.mp hb).2 (by rw [e]; decide)) _ _

/-- What @main leaves: every array at its contents at the end. -/
abbrev FIN (d : Dev nD) : sProp 𝕄 := held (SparseCore.T d) (Pipeline.ucRefs τ sig) (V3 m d)

/-- What the handshakes carry, at the contents that the program has at the call. -/
abbrev P1 : (K (F := F)).Pay (nD := nD) (Val := Elt F) (Name := ℕ) (U := UU) := P (T1 m) (I1 m) (O1 m)

/-- The ghost state the launch deals to the TensorCore's pipeline. -/
abbrev GH (d : Dev nD) : sProp 𝕄 := iprop(Pipeline.cellsGhost (pins (F := F)) EP 0 d ∗ Pipeline.toksInit (pins (F := F)) EP 0 d)

/-- @main on device `d`'s TensorCore: host operations, the TensorCore call, host operations, the SparseCore call, host operations. -/
theorem hmain [∀ e, Nonempty (Elt F e)] (κ : GSem nD τ sig → ℕ) (d : Dev nD) :
    iprop((K (F := F)).ctx EH (P1 m) κ ∗ (K (F := F)).tcSt EH d 0 ∗ (K (F := F)).tcRes m ρ d ∗ GH d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) (Pipeline.ucRefs τ sig) (V0 m d) from
    Pipeline.unscopedBufs_held d (V0 m d), main_eq]
  iintro ⟨#Hctx, Hst, ⟨Hb, Hheld, Hts, Hp⟩, Hcg, Htk⟩
  iapply (StableHlo.wp_seq 𝒱 none Set.univ d (Pipeline.ucRefs τ sig) _ preOps (sub_of preOps_tc) (fresh_of preOps_noAlloc) (V0 m d)) $$ [Hb Hheld]
  · isplitl [Hb] <;> iassumption
  iintro ⟨Hb, Hheld⟩
  rw [wp_bind]
  ihave #Hlev := ((K (F := F)).ctx_levAts (EH := EH) (P := P1 m) (κ := κ)) $$ Hctx
  ihave Hst' := (show (K (F := F)).tcSt EH d 0 ⊢ iprop(owesTc d ∗ _) from .rfl) $$ Hst
  icases Hst' with ⟨Ho, Hst⟩
  iapply (wp_region (W1 m) d)
  isplitl [Hst Hts]
  rotate_left
  · isplitl [Hb]; · iexact Hb
    isplitl [Hheld Hp Ho]
    · isplitl [Hheld]; · iexact Hheld
      isplitl [Hp]; · iexists _; iexact Hp
      iexact Ho
    isplitr; · iexact Hlev
    isplitl [Hcg] <;> iassumption
  iintro ⟨Hb, Hheld, -, Ho⟩
  ihave Hst := (show iprop(owesTc d ∗ _) ⊢ (K (F := F)).tcSt EH d 0 from .rfl) $$ [Ho Hst]
  · isplitl [Ho] <;> iassumption
  iapply (StableHlo.wp_seq 𝒱 none Set.univ d (Pipeline.ucRefs τ sig) _ midOps (sub_of midOps_tc) (fresh_of midOps_noAlloc) (W2 (W1 m) d)) $$ [Hb Hheld]
  · isplitl [Hb] <;> iassumption
  iintro ⟨Hb, Hheld⟩
  ihave Hh := (show (held (SparseCore.T d) (Pipeline.ucRefs τ sig) (after midOps (W2 (W1 m) d)) : sProp 𝕄) ⊢ _ from Entails.of_eq (held_V1 m d)) $$ Hheld
  icases Hh with ⟨Hcall, Hrest⟩
  rw [wp_bind]
  iapply ((K (F := F)).wp_run (D (F := F)) 𝒱 (EH := EH) (P := P1 m) κ d 0) $$ [Hst Hcall Hb Hrest Hts]
  isplitr; · iexact Hctx
  isplitl [Hst]; · iexact Hst
  isplitl [Hcall]
  · rw [st0_eq]; iexact Hcall
  iintro ⟨Hst, Hdn⟩
  ihave Hdn' := (Entails.of_eq (dn0_eq (T1 m) (I1 m) (O1 m) d)) $$ Hdn
  ihave Hheld := (Entails.of_eq (held_V2 m d).symm) $$ [Hdn' Hrest]
  · isplitl [Hdn'] <;> iassumption
  iapply (StableHlo.wp_seq 𝒱 none Set.univ d (Pipeline.ucRefs τ sig) _ postOps (sub_of postOps_tc) (fresh_of postOps_noAlloc) (V2 m d)) $$ [Hb Hheld]
  · isplitl [Hb] <;> iassumption
  iintro ⟨Hb, Hheld⟩
  rw [wp_pure]; imodintro
  isplitl [Hst]; · iexact Hst
  isplitl [Hheld]; · iexact Hheld
  isplitl [Hb] <;> iassumption

/-- The memory of a device at the end holds the program's final contents. -/
def fq (d : Dev nD) (s' : Phys nD τ sig (Elt F)) : Prop := ∀ b ∈ Pipeline.ucRefs τ sig, s'.mem.mem (d, b) = V3 m d b

set_option maxRecDepth 16384 in
/-- What is held at the end shows the final contents of the memory. -/
theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (Pipeline.ucRefs τ sig)) $$ [HSI H]
  · isplitl [HSI]; · iexact HSI
    iexact H
  ipureintro; exact h

/-! ## The launch element of the ghost state -/

/-- The handshakes' rounds, the pipeline's rounds, and no counters yet. -/
def u₀ : UU := (initOf (K (F := F)).hsCells (K (F := F)).hsToks, (initOf (Pipeline.cells (pins (F := F)) pins_inj) (Pipeline.launchToks (pins (F := F)) pins_inj), 1))

/-- A family of empty resources is empty. -/
theorem bigSep_emp' {J : Type} (s : Finset J) : (bigSep s fun _ => iprop(emp)) = (iprop(emp) : sProp 𝕄) := bigSep_emp_const s

/-- The launch element splits in the handshakes' part and the pipeline's. -/
theorem ownU_split (a : UH) (b : URounds (GSem nD τ sig) Unit) :
    (ownU ((a, (b, 1)) : UU) : sProp 𝕄) ⊢ iprop(BI.own (EH a) ∗ BI.own (EP (F := F) b)) :=
  BI.own_op_elim ((uEmb (nD := nD) (τ := τ) (sig := sig) (Ix := HIx 1) (Val := Elt F) (Name := ℕ) (U := UU) (Lvl := ℕ)).toEmb.op_of_mem
    (Prod.mk_mem_op (URA.mem_op_one a) (URA.mem_one_op (b, (1 : Counters)))))

/-- The ghost state at the start gives what the launch asks for. -/
theorem hu₀ (m : (ℓ : Loc nD τ sig) → Buf (Elt F) ℓ) : (ownU (u₀ (F := F)) : sProp 𝕄)
    ⊢ |={Set.univ}=> iprop(BI.own (EH (initOf (K (F := F)).hsCells (K (F := F)).hsToks)) ∗ (bigSep Finset.univ fun d : Dev nD => GH d)
        ∗ bigSep Finset.univ fun thr : Thread nD τ => bigSep Finset.univ fun q : Fin 1 => (P1 m).x q thr) := by
  unfold u₀
  iintro Hu
  ihave H := (ownU_split (F := F) _ _) $$ Hu
  icases H with ⟨HH, HP⟩
  imod (Pipeline.fund_ghost (pins (F := F)) EP pins_inj) $$ HP with ⟨Hc, Ht⟩
  imodintro
  isplitl [HH]; · iexact HH
  isplitl [Hc Ht]
  · rw [bigSep_sep']
    isplitl [Hc]
    · iapply (Entails.of_eq (bigSep_congr fun d _ => bigSep_univ_of_subsingleton (0 : Fin 1))) $$ Hc
    · iapply (Entails.of_eq (bigSep_congr fun d _ => bigSep_univ_of_subsingleton (0 : Fin 1))) $$ Ht
  rw [show (bigSep Finset.univ fun thr : Thread nD τ => bigSep Finset.univ fun q : Fin 1 => (P1 m).x q thr) = bigSep Finset.univ fun _ => iprop(emp) from
    bigSep_congr fun _ _ => bigSep_univ_of_subsingleton (0 : Fin 1), bigSep_emp']
  iempintro

/-! ## The run -/

/-- What the run ends with: the final contents on every device, and every counter at zero. -/
def QC : PUnit × MemSt nD τ sig (Elt F) → Prop := fun r => (∀ c : Dev nD, ∀ b ∈ Pipeline.ucRefs τ sig, r.2.mem (c, b) = V3 m c b) ∧ r.2.sem = fun _ => 0

/-- From a launch memory whose indices are in range, the program ends, waiting for nothing, with every array at its contents at the end. -/
theorem run_main [∀ e, Nonempty (Elt F e)] (hI : ∀ d x, (I1 m d x : BitVec 32).toNat < 1024) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P1 m) (A := ∅) facts v₀
    (fun q hq => match q with | 0 => nomatch hq)
    (fun q _ => match q with | 0 => tileObl (T1 m) (I1 m) (O1 m) facts hI)
    (fun q _ => match q with | 0 => SparseCore.Cfg.VecSplit.of_plain (vecSplit (T1 m) (I1 m) (O1 m)))
    m ρ main GH (FIN m) (u₀ (F := F)) (sep_elim_left.trans (hu₀ m)) (hmain m ρ) (fq m) (hfin m) (QC m) (fun _ h hz => ⟨h, hz⟩)

end

end Cert.Proof.Whole

end
-- ==== Proof.Whole.Values.lean ====
/-
  What every array of the whole kernel holds on the way, over any numbers: each read back to the operation that wrote it.
-/
module

public import proofs.«01_k».proof.Proof.Whole.Run

@[expose] public section

set_option maxRecDepth 16384

noncomputable section

namespace Cert.Proof.Whole

open Cert.KernelIdeal Cert.KernelIdeal.Gen
open Idealize.ShloMosaic Idealize.ShloMosaic.TcCoe Idealize.ShloMosaic.StableHlo
open Idealize.ShloMosaic.Pipeline (Dat afterRegion)

variable {F : FTy → Type} [FloatOps F] [∀ e, Nonempty (Elt F e)]
variable (m : (ℓ : Loc nD τ sig) → Buf (Elt F) ℓ) (d : Dev nD)

/-- The inputs. -/
abbrev zIn : Vec F S16x1024x64 .f32 := m ((d.tc : Thread nD τ).loc main_arg0)
/-- The codes. -/
abbrev cIn : Vec F S1024x64 .f32 := m ((d.tc : Thread nD τ).loc main_arg1)

/-- The inputs' squares, row by row. -/
def zSq : Vec F S16384x64 .f32 := mulf (shapeCast S16384x64 (zIn m d) shapeCasts_S16x1024x64_S16384x64) (shapeCast S16384x64 (zIn m d) shapeCasts_S16x1024x64_S16384x64)

/-- The TensorCore call's first argument is the input, transposed. -/
theorem W1_v0 : W1 m d (Proc.devRef .tc main_v0) = transpose S16x64x1024 [0, 2, 1] (zIn m d) transposes_S16x1024x64_S16x64x1024_0_2_1 := by
  unfold W1 preOps
  after_results
  rfl

/-- The TensorCore call's third argument is the positions' squared norms. -/
theorem W1_v5 : W1 m d (Proc.devRef .tc main_v5) = shapeCast S16x1x1024 (broadcastInDim S16384x1 ![0] bcast_S16384_S16384x1_0
    (Host.reduceAdd (zSq m d) (constant S_ .f32 0x00000000#32) reducesTo_S16384x64_S16384_d1 h_S_)) shapeCasts_S16384x1_S16x1x1024 := by
  unfold W1 preOps
  after_results
  rfl

/-- The TensorCore call's fourth argument is the codes' squared norms. -/
theorem W1_v8 : W1 m d (Proc.devRef .tc main_v8) = broadcastInDim S1024x1 ![0] bcast_S1024_S1024x1_0
    (Host.reduceAdd (mulf (cIn m d) (cIn m d)) (constant S_ .f32 0x00000000#32) reducesTo_S1024x64_S1024_d1 h_S_) := by
  unfold W1 preOps
  after_results
  rfl

/-- The host code before the calls keeps the codebook. -/
theorem W1_arg1 : W1 m d (Proc.devRef .tc main_arg1) = cIn m d := by
  unfold W1 preOps
  after_results
  rfl

/-- The host code before the calls keeps the input. -/
theorem W1_arg0 : W1 m d (Proc.devRef .tc main_arg0) = zIn m d := by
  unfold W1 preOps
  after_results
  rfl

/-- After the TensorCore call its first result holds the indices of the last step. -/
theorem W2_idx (W : Dev nD → Valuation τ sig (Elt F)) : W2 W d (Proc.devRef .tc main_v9_0) = (dat0 (W d) d).arrAt 4 cfg0.N :=
  Pipeline.afterRegion_arr (dat0 (W d) d) (W d) launch0.win.arr_inj 4

/-- After the TensorCore call its second result holds the loss of the last step. -/
theorem W2_loss (W : Dev nD → Valuation τ sig (Elt F)) : W2 W d (Proc.devRef .tc main_v9_1) = (dat0 (W d) d).arrAt 5 cfg0.N :=
  Pipeline.afterRegion_arr (dat0 (W d) d) (W d) launch0.win.arr_inj 5

/-- The TensorCore call keeps the codebook. -/
theorem W2_arg1 (W : Dev nD → Valuation τ sig (Elt F)) : W2 W d (Proc.devRef .tc main_arg1) = W d (Proc.devRef .tc main_arg1) :=
  (Pipeline.afterRegion_arr (dat0 (W d) d) (W d) launch0.win.arr_inj 1).trans ((dat0 (W d) d).arrAt_in 1 rfl _)

/-- The TensorCore call keeps the input. -/
theorem W2_arg0 (W : Dev nD → Valuation τ sig (Elt F)) : W2 W d (Proc.devRef .tc main_arg0) = W d (Proc.devRef .tc main_arg0) :=
  Pipeline.afterRegion_of_not_arr (dat0 (W d) d) (W d) (by decide)

/-- The table that the SparseCore call reads is the codebook, padded to 128 lanes. -/
theorem V1_x : T1 m d = pad S1024x128 ![0, 0] ![0, 64] ![0, 0] (cIn m d) (sitofp .f32 (constantI S_ 32 0#32)) pads_S1024x64_S1024x128_000_0640 h_S_ := by
  unfold T1 V1 midOps
  after_results
  rw [W2_arg1, W1_arg1]
  rfl

/-- The positions that the TensorCore call leaves. -/
abbrev idxArr : Vec F S16x1x1024 .i32 := (dat0 (W1 m d) d).arrAt 4 cfg0.N
/-- The loss that the TensorCore call leaves. -/
abbrev lossArr : Vec F S1x1 .f32 := (dat0 (W1 m d) d).arrAt 5 cfg0.N

/-- The index row that the SparseCore call reads is the TensorCore call's indices, in one row. -/
theorem V1_i : I1 m d = shapeCast S1x16384 (idxArr m d) shapeCasts_S16x1x1024_S1x16384 := by
  unfold I1 V1 midOps
  after_results
  rw [W2_idx]
  rfl

/-- The program's third result is the TensorCore call's indices, in one row. -/
theorem V3_idx : V3 m d (Proc.devRef .tc main_v13) = shapeCast S16384 (idxArr m d) shapeCasts_S16x1x1024_S16384 := by
  unfold V3 postOps
  after_results
  unfold V2
  rw [Function.update_of_ne (by decide)]
  unfold V1 midOps
  after_results
  rw [W2_idx]
  rfl

/-- The program's second result is the TensorCore call's loss. -/
theorem V3_loss : V3 m d (Proc.devRef .tc main_v16) = shapeCast S_ (lossArr m d) shapeCasts_S1x1_S_ := by
  unfold V3 postOps
  after_results
  unfold V2
  rw [Function.update_of_ne (by decide)]
  unfold V1 midOps
  after_results
  rw [W2_loss]
  rfl

/-- The program's first result is the gathered rows, cut to 64 lanes. -/
theorem V3_rows : V3 m d (Proc.devRef .tc main_v15) = shapeCast S16x1024x64 (extractStridedSlice S16384x64 ![0, 0] (G (T1 m d) (I1 m d)) slices_S16384x128_S16384x64_0_0) shapeCasts_S16384x64_S16x1024x64 := by
  unfold V3 postOps
  after_results
  unfold V2
  rw [Function.update_self]
  rfl

/-- The program leaves its first argument as it was. -/
theorem V3_arg0 : V3 m d (Proc.devRef .tc main_arg0) = zIn m d := by
  unfold V3 postOps
  after_results
  unfold V2
  rw [Function.update_of_ne (by decide)]
  unfold V1 midOps
  after_results
  rw [W2_arg0, W1_arg0]

/-- The program leaves its second argument as it was. -/
theorem V3_arg1 : V3 m d (Proc.devRef .tc main_arg1) = cIn m d := by
  unfold V3 postOps
  after_results
  unfold V2
  rw [Function.update_of_ne (by decide)]
  unfold V1 midOps
  after_results
  rw [W2_arg1, W1_arg1]

end Cert.Proof.Whole

end
-- ==== Proof.Plain.lean ====
/-
  The mathematics of vector quantization over the extended reals: distances, the first nearest code, the sum of squares.
-/
module

public import proofs.«01_k».proof.Proof.First
public import Idealize.ShloMosaic.Lib.ValueIdxRank1
public import Idealize.ShloMosaic.Lib.IdealHost
public import Idealize.ShloMosaic.Lib.Pipeline.Value

@[expose] public section

noncomputable section

namespace Cert.Proof.Plain

open Idealize.ShloMosaic Cert.Proof.First

/-- Inputs: 16 batches of 1024 rows of 64 numbers. -/
abbrev SZ : Shape := ⟨3, ![16, 1024, 64]⟩
/-- Codes: 1024 rows of 64 numbers. -/
abbrev SC : Shape := ⟨2, ![1024, 64]⟩

variable (z : SZ.Idx → EReal) (c : SC.Idx → EReal)

/-- The squared norm of an input row. -/
def zNorm (b : Fin 16) (p : Fin 1024) : EReal := ∑ k : Fin 64, z (ValueIdx.ix3 b p k) * z (ValueIdx.ix3 b p k)
/-- The squared norm of a code. -/
def cNorm (j : Fin 1024) : EReal := ∑ k : Fin 64, c (ValueIdx.ix2 j k) * c (ValueIdx.ix2 j k)
/-- The inner product of a code and an input row. -/
def inner (b : Fin 16) (p : Fin 1024) (j : Fin 1024) : EReal := ∑ k : Fin 64, c (ValueIdx.ix2 j k) * z (ValueIdx.ix3 b p k)
/-- The squared distance, not below zero. -/
def gap (b : Fin 16) (p : Fin 1024) (j : Fin 1024) : EReal :=
  max 0 ((zNorm z b p + cNorm c j) - Ideal.ofBits .f32 0x40000000#32 * inner z c b p j)
/-- The distance. -/
def far (b : Fin 16) (p : Fin 1024) (j : Fin 1024) : EReal := Ideal.sqrt (gap z c b p j)
/-- The first nearest code of a row. -/
def nearest (b : Fin 16) (p : Fin 1024) : Fin 1024 := first (far z c b p)

/-- The row of the flattened inputs that holds position `p` of batch `b`. -/
def flat (b : Fin 16) (p : Fin 1024) : Fin 16384 := ⟨b.val * 1024 + p.val, by omega⟩

/-- Every row number is that of a batch and a position. -/
theorem exists_flat (n : Fin 16384) : ∃ b p, n = flat b p :=
  ⟨⟨n.val / 1024, by omega⟩, ⟨n.val % 1024, by omega⟩, Fin.ext (by show n.val = n.val / 1024 * 1024 + n.val % 1024; omega)⟩

/-- The entry of a matrix at a row and a column. -/
theorem lift_row {n k : ℕ} (h : (⟨2, ![n, k]⟩ : Shape).Reduces [1] ⟨1, ![n]⟩) (i : Fin n) (j : Fin k) :
    h.lift (ValueIdx.ix1 i) j = ValueIdx.ix2 i j := by
  funext a
  refine Fin.ext ((h.lift_val _ _ _).trans ?_)
  match a with
  | ⟨0, _⟩ => rfl
  | ⟨1, _⟩ => rfl

/-- A matrix summed along its rows, from zero. -/
theorem rowSum {n k : ℕ} (x : (⟨2, ![n, k]⟩ : Shape).Idx → EReal) (h' : (⟨2, ![n, k]⟩ : Shape).ReducesTo [1] ⟨1, ![n]⟩)
    (h : (⟨2, ![n, k]⟩ : Shape).Reduces [1] ⟨1, ![n]⟩) {u : Shape} (hu : 0 < u.numel) (i : Fin n) :
    Host.reduceAdd (F := Ideal) (φ := .f32) x (constant (F := Ideal) u .f32 0x00000000#32) h' hu (ValueIdx.ix1 i) = (∑ j : Fin k, x (ValueIdx.ix2 i j) : EReal) := by
  refine (Ideal.hostReduceAdd_single h' h x _ _).trans ?_
  exact (congrArg (fun e : EReal => e + _) Ideal.ofBits_zero_f32).trans ((zero_add _).trans (Finset.sum_congr rfl fun j _ => congrArg x (lift_row h i j)))

/-- A row's entries of two matrices, paired, in the order in which the row is reduced. -/
theorem mem_rowPairs {α β : Type} {n k : ℕ} (x : (⟨2, ![n, k]⟩ : Shape).Idx → α) (y : (⟨2, ![n, k]⟩ : Shape).Idx → β)
    (h' : (⟨2, ![n, k]⟩ : Shape).ReducesTo [1] ⟨1, ![n]⟩) (h : (⟨2, ![n, k]⟩ : Shape).Reduces [1] ⟨1, ![n]⟩) (i : Fin n) (q : α × β) :
    q ∈ Host.argReduceFiber x y h' (ValueIdx.ix1 i) ↔ ∃ j : Fin k, q = (x (ValueIdx.ix2 i j), y (ValueIdx.ix2 i j)) := by
  unfold Host.argReduceFiber
  rw [Shape.ReducesTo.drop_eq_drop h' h, List.mem_map]
  constructor
  · rintro ⟨t, ht, rfl⟩
    have hd := of_decide_eq_true (List.mem_filter.1 ht).2
    generalize (⟨2, ![n, k]⟩ : Shape).rowMajor.symm t = e at hd ⊢
    have he := h.lift_drop e
    rw [hd] at he
    have he' : e = ValueIdx.ix2 i (e 1 : Fin k) := he.symm.trans (lift_row h i (e 1))
    exact ⟨(e 1 : Fin k), congrArg (fun e => (x e, y e)) he'⟩
  · rintro ⟨j, rfl⟩
    refine ⟨(⟨2, ![n, k]⟩ : Shape).rowMajor (ValueIdx.ix2 i j), List.mem_filter.2 ⟨List.mem_finRange _, decide_eq_true ?_⟩, ?_⟩
    · rw [Equiv.symm_apply_apply]
      exact (congrArg h.drop (lift_row h i j)).symm.trans (h.drop_lift _ _)
    · rw [Equiv.symm_apply_apply]

end Cert.Proof.Plain

end
-- ==== Proof.Whole.Meaning.lean ====
/-
  What the TensorCore call computes, in terms of the kernel's own arguments, over the extended reals.
-/
module

public import proofs.«01_k».proof.Proof.Whole.Loss
public import proofs.«01_k».proof.Proof.Whole.Values
public import proofs.«01_k».proof.Proof.Plain

@[expose] public section

set_option maxRecDepth 16384

noncomputable section

namespace Cert.Proof.Whole

open Cert.KernelIdeal Cert.KernelIdeal.Gen Cert.Proof.First
open Idealize.ShloMosaic Idealize.ShloMosaic.TcCoe

variable (m : (ℓ : Loc nD τ sig) → Buf (Elt Ideal) ℓ) (d : Dev nD)

/-- The TensorCore call's codebook is the program's argument. -/
theorem cAt_eq : cAt (W1 m d) = cIn m d := W1_arg1 m d

/-- The transposed input at a batch, a coordinate and a position. -/
theorem zAt_apply (b : Fin 16) (q : Fin 1) (k : Fin 64) (p : Fin 1024) : zAt (W1 m d) b (ValueIdx.ix3 q k p) = zIn m d (ValueIdx.ix3 b p k) := by
  unfold zAt
  rw [W1_v0]
  refine transpose_apply _ _ _ _ _ fun a => ?_
  fin_cases a <;> rfl

/-- The flattened squares at a position and a coordinate. -/
theorem zSq_apply (b : Fin 16) (p : Fin 1024) (k : Fin 64) :
    zSq m d (ValueIdx.ix2 (Plain.flat b p) k) = (zIn m d (ValueIdx.ix3 b p k) * zIn m d (ValueIdx.ix3 b p k) : EReal) := by
  have e : shapeCast S16384x64 (zIn m d) shapeCasts_S16x1024x64_S16384x64 (ValueIdx.ix2 (Plain.flat b p) k) = zIn m d (ValueIdx.ix3 b p k) :=
    shapeCast_apply _ _ _ _ (by rw [Shape.rowMajor_val_three, Shape.rowMajor_val_two]; rfl)
  unfold zSq
  exact congrArg (fun x : EReal => x * x) e

/-- The squared norm of a position, as the call gets it. -/
theorem qAt_apply (b : Fin 16) (q r : Fin 1) (p : Fin 1024) : qAt (W1 m d) b (ValueIdx.ix3 q r p) = Plain.zNorm (zIn m d) b p := by
  unfold qAt
  rw [W1_v5]
  refine (shapeCast_apply _ _ _ (ValueIdx.ix2 (Plain.flat b p) (0 : Fin 1)) ?_).trans ?_
  · rw [Shape.rowMajor_val_three, Shape.rowMajor_val_two]
    show (b.val * 1024 + p.val) * 1 + 0 = (b.val * 1 + r.val) * 1024 + p.val
    omega
  refine (broadcastInDim_apply _ _ _ _ (ValueIdx.ix1 (Plain.flat b p)) fun a => by fin_cases a; rfl).trans ?_
  refine (Plain.rowSum _ _ (by decide) _ _).trans ?_
  exact Finset.sum_congr rfl fun k _ => zSq_apply m d b p k

/-- The squared norm of a code, as the call gets it. -/
theorem nAt_apply (j : Fin 1024) (q : Fin 1) : nAt (W1 m d) (ValueIdx.ix2 j q) = Plain.cNorm (cIn m d) j := by
  unfold nAt
  rw [W1_v8]
  refine (broadcastInDim_apply _ _ _ _ (ValueIdx.ix1 j) fun a => by fin_cases a; rfl).trans ?_
  exact Plain.rowSum _ _ (by decide) _ _

/-- The call's distances are the problem's. -/
theorem dist_eq (b : Fin 16) (p : Fin 1024) :
    dist (cAt (W1 m d)) (zAt (W1 m d) b) (qAt (W1 m d) b) (nAt (W1 m d)) p = Plain.far (zIn m d) (cIn m d) b p := by
  funext j
  unfold dist Plain.far Plain.gap Plain.inner
  rw [qAt_apply, nAt_apply, cAt_eq]
  simp only [zAt_apply]

/-- The first nearest code that the call finds. -/
theorem nearAt_eq (b : Fin 16) (p : Fin 1024) : nearAt (W1 m d) b p = Plain.nearest (zIn m d) (cIn m d) b p := by
  unfold nearAt near Plain.nearest
  rw [dist_eq]

/-- Its distance. -/
theorem leastAt_eq (b : Fin 16) (p : Fin 1024) :
    leastAt (W1 m d) b p = Plain.far (zIn m d) (cIn m d) b p (Plain.nearest (zIn m d) (cIn m d) b p) := by
  unfold leastAt
  rw [dist_eq, nearAt_eq]

/-- The positions that the call leaves. -/
theorem idxArr_eq : idxArr m d = fun i : S16x1x1024.Idx => BitVec.ofNat 32 (Plain.nearest (zIn m d) (cIn m d) (i 0) (i 2)).val := by
  refine (arr_idx (W1 m d) d).trans (funext fun i => ?_)
  exact congrArg (fun k : Fin 1024 => BitVec.ofNat 32 k.val) (nearAt_eq m d (i 0) (i 2))

/-- The loss that the call leaves. -/
theorem lossArr_eq : lossArr m d = fun _ : S1x1.Idx => ((∑ b : Fin 16, ∑ p : Fin 1024,
    Plain.far (zIn m d) (cIn m d) b p (Plain.nearest (zIn m d) (cIn m d) b p) * Plain.far (zIn m d) (cIn m d) b p (Plain.nearest (zIn m d) (cIn m d) b p)) * scale : EReal) := by
  refine (arr_loss (W1 m d) d).trans (funext fun i => ?_)
  unfold lossTotal sumAt
  simp only [leastAt_eq]

/-- The positions lie in the table. -/
theorem idx_lt (x : S1x16384.Idx) : (I1 m d x : BitVec 32).toNat < 1024 := by
  rw [V1_i, idxArr_eq]
  unfold shapeCast
  exact lt_of_eq_of_lt (BitVec.toNat_ofNat _ _) (lt_of_le_of_lt (Nat.mod_le _ _) (Fin.isLt _))

end Cert.Proof.Whole

end
-- ==== Proof.Whole.Frame.lean ====
/-
  The whole kernel runs over the extended reals: its arguments stay, every counter ends at zero, and the results are those
  that were read back.
-/
module

public import proofs.«01_k».proof.Proof.Whole.Meaning

@[expose] public section

set_option maxRecDepth 16384

noncomputable section

namespace Cert.Proof.Whole

open Cert.KernelIdeal Cert.KernelIdeal.Gen
open Idealize.ShloMosaic Idealize.ShloMosaic.TcCoe

variable (m : (ℓ : Loc nD τ sig) → Buf (Elt Ideal) ℓ) (ρ : Dev nD → PrngReg)

/-- The run, with the results' values and the arguments' at the end. -/
theorem run_values : θ_run (defs (F := Ideal)) (threads (F := Ideal)) ⟨m, fun _ => 0, ρ⟩ (fun r => (∀ c : Dev nD,
    r.2.mem ((c.tc : Thread nD τ).loc main_v15) = V3 m c (Proc.devRef .tc main_v15) ∧
    r.2.mem ((c.tc : Thread nD τ).loc main_v16) = V3 m c (Proc.devRef .tc main_v16) ∧
    r.2.mem ((c.tc : Thread nD τ).loc main_v13) = V3 m c (Proc.devRef .tc main_v13) ∧
    r.2.mem ((c.tc : Thread nD τ).loc main_arg0) = m ((c.tc : Thread nD τ).loc main_arg0) ∧
    r.2.mem ((c.tc : Thread nD τ).loc main_arg1) = m ((c.tc : Thread nD τ).loc main_arg1)) ∧ r.2.sem = fun _ => 0) :=
  (θ_run defs _ _).mono (fun _ h => ⟨fun c => ⟨h.1 c (Proc.devRef .tc main_v15) (by decide), h.1 c (Proc.devRef .tc main_v16) (by decide), h.1 c (Proc.devRef .tc main_v13) (by decide),
    (h.1 c (Proc.devRef .tc main_arg0) (by decide)).trans (V3_arg0 m c), (h.1 c (Proc.devRef .tc main_arg1) (by decide)).trans (V3_arg1 m c)⟩, h.2⟩)
    (run_main m ρ fun d x => idx_lt m d x)

end Cert.Proof.Whole

end
-- ==== Proof.Reference.lean ====
/-
  The reference: what its operations compute, over the extended reals, and that it runs.
-/
module

public import proofs.«01_k».proof.Proof.Gen.ReferenceIdeal
public import Idealize.ShloMosaic.Lib.Claim
public import proofs.«01_k».proof.Proof.Take
public import proofs.«01_k».proof.Proof.Plain

@[expose] public section

set_option maxRecDepth 16384

noncomputable section

namespace Cert.Proof.Reference

open Cert.ReferenceIdeal Cert.ReferenceIdeal.Gen Cert.Proof.First
open Idealize.ShloMosaic Idealize.ShloMosaic.TcCoe

variable (z : FVec Ideal S16x1024x64 .f32) (c : FVec Ideal S1024x64 .f32)

/-- The inputs, row by row. -/
def rows : FVec Ideal S16384x64 .f32 := shapeCast S16384x64 z shapeCasts_S16x1024x64_S16384x64
/-- The sums of squared norms. -/
def norms : FVec Ideal S16384x1024 .f32 :=
  addf
    (broadcastInDim S16384x1024 ![0, 1] bcast_S16384x1_S16384x1024_0_1 (broadcastInDim S16384x1 ![0] bcast_S16384_S16384x1_0
      (Host.reduceAdd (mulf (rows z) (rows z)) (constant S_ .f32 0x00000000#32) reducesTo_S16384x64_S16384_d1 h_S_)))
    (broadcastInDim S16384x1024 ![0, 1] bcast_S1x1024_S16384x1024_0_1 (broadcastInDim S1x1024 ![1] bcast_S1024_S1x1024_1
      (Host.reduceAdd (mulf c c) (constant S_ .f32 0x00000000#32) reducesTo_S1024x64_S1024_d1 h_S_)))
/-- Twice the inner products. -/
def twice : FVec Ideal S16384x1024 .f32 :=
  mulf (broadcastInDim S16384x1024 ![] bcast_S_S16384x1024 (constant S_ .f32 0x40000000#32))
    (Host.dotGeneral dot_S16384x64_S64x1024_S16384x1024_1_0_0_1_n_n none (rows z) (transpose S64x1024 [1, 0] c transposes_S1024x64_S64x1024_1_0))
/-- The distances. -/
def dists : FVec Ideal S16384x1024 .f32 :=
  Host.sqrt (maximumf (broadcastInDim S16384x1024 ![] bcast_S_S16384x1024 (constant S_ .f32 0x00000000#32)) (subf (norms z c) (twice z c)))
/-- The first smallest entry of every row. -/
def argmin (x : FVec Ideal S16384x1024 .f32) : IVec S16384 32 := fun j =>
  (Host.argReduce (reducer_argmin_f32_i32 (F := Ideal)) x (iotaInDim S16384x1024 32 1) (constant S_ .f32 0x7F800000#32) (constantI S_ 32 0#32)
    reducesTo_S16384x1024_S16384_d1 h_S_ j).2
/-- The nearest codes. -/
def idx : IVec S16384 32 := argmin (dists z c)
/-- The nearest codes' rows. -/
def near : FVec Ideal S16x1024x64 .f32 := shapeCast S16x1024x64 (Take.take c (idx z c)) shapeCasts_S16384x64_S16x1024x64
/-- The mean of the squared differences. -/
def mean : FVec Ideal S_ .f32 :=
  Host.divf (Host.reduceAdd (mulf (subf (near z c) z) (subf (near z c) z)) (constant S_ .f32 0x00000000#32) reducesTo_S16x1024x64_S_d0_1_2 h_S_) (constant S_ .f32 0x49800000#32)
/-- The loss. -/
def loss : FVec Ideal S_ .f32 := addf (mean z c) (mulf (constant S_ .f32 0x3E800000#32) (mean z c))
/-- The quantized inputs. -/
def out : FVec Ideal S16x1024x64 .f32 := addf z (subf (near z c) z)

/-- The reference runs and leaves these. -/
theorem run (m : (ℓ : Loc nD τ sig) → Buf (Elt Ideal) ℓ) (ρ : Dev nD → PrngReg) :
    θ_run (defs (F := Ideal)) (onTc (main (F := Ideal))) ⟨m, fun _ => 0, ρ⟩ (fun r => ∀ c : Dev nD,
      r.2.mem ((c.tc : Thread nD τ).loc main_v31) = out (m ((c.tc : Thread nD τ).loc main_arg0)) (m ((c.tc : Thread nD τ).loc main_arg1)) ∧
      r.2.mem ((c.tc : Thread nD τ).loc main_v29) = loss (m ((c.tc : Thread nD τ).loc main_arg0)) (m ((c.tc : Thread nD τ).loc main_arg1)) ∧
      r.2.mem ((c.tc : Thread nD τ).loc main_v17) = idx (m ((c.tc : Thread nD τ).loc main_arg0)) (m ((c.tc : Thread nD τ).loc main_arg1)) ∧
      r.2.mem ((c.tc : Thread nD τ).loc main_arg0) = m ((c.tc : Thread nD τ).loc main_arg0) ∧
      r.2.mem ((c.tc : Thread nD τ).loc main_arg1) = m ((c.tc : Thread nD τ).loc main_arg1)) := by
  hlo_run
  · simp only [StableHlo.TRef.ofBuf_toBuf]
    set_option maxRecDepth 100000 in rfl
  · simp only [StableHlo.TRef.ofBuf_toBuf]
    set_option maxRecDepth 100000 in rfl
  · set_option maxRecDepth 100000 in rfl

end Cert.Proof.Reference

end
-- ==== Proof.RefValue.lean ====
/-
  The reference's distances, nearest codes and rows, read at an index.
-/
module

public import proofs.«01_k».proof.Proof.Reference
public import Idealize.ShloMosaic.Lib.StackMember

@[expose] public section

noncomputable section

namespace Cert.Proof.Reference

open Cert.ReferenceIdeal Cert.ReferenceIdeal.Gen Cert.Proof.First
open Idealize.ShloMosaic Idealize.ShloMosaic.TcCoe

variable (z : FVec Ideal S16x1024x64 .f32) (c : FVec Ideal S1024x64 .f32)

/-- The flattened array at a row number is the array at its batch and position. -/
theorem rows_apply (b : Fin 16) (p : Fin 1024) (k : Fin 64) : rows z (ValueIdx.ix2 (Plain.flat b p) k) = z (ValueIdx.ix3 b p k) :=
  shapeCast_apply _ _ _ _ (by rw [Shape.rowMajor_val_three, Shape.rowMajor_val_two]; rfl)

/-- The squared norm of a position, read out of the flattened array. -/
theorem zNorm_apply (b : Fin 16) (p : Fin 1024) :
    Host.reduceAdd (mulf (rows z) (rows z)) (constant (F := Ideal) S_ .f32 0x00000000#32) reducesTo_S16384x64_S16384_d1 h_S_ (ValueIdx.ix1 (Plain.flat b p))
      = Plain.zNorm z b p := by
  refine (Plain.rowSum _ _ (by decide) _ _).trans ?_
  exact Finset.sum_congr rfl fun k _ => congrArg (fun x : EReal => x * x) (rows_apply z b p k)

/-- The sum of the two squared norms at a position and a code. -/
theorem norms_apply (b : Fin 16) (p : Fin 1024) (j : Fin 1024) : norms z c (ValueIdx.ix2 (Plain.flat b p) j) = (Plain.zNorm z b p + Plain.cNorm c j : EReal) := by
  unfold norms
  refine congrArg₂ (fun x y : EReal => x + y) ?_ ?_
  · refine (broadcastInDim_apply _ _ _ _ (ValueIdx.ix2 (Plain.flat b p) (0 : Fin 1)) fun a => by fin_cases a <;> rfl).trans ?_
    refine (broadcastInDim_apply _ _ _ _ (ValueIdx.ix1 (Plain.flat b p)) fun a => by fin_cases a; rfl).trans ?_
    exact zNorm_apply z b p
  · refine (broadcastInDim_apply _ _ _ _ (ValueIdx.ix2 (0 : Fin 1) j) fun a => by fin_cases a <;> rfl).trans ?_
    refine (broadcastInDim_apply _ _ _ _ (ValueIdx.ix1 j) fun a => by fin_cases a; rfl).trans ?_
    exact Plain.rowSum _ _ (by decide) _ _

/-- Twice the inner product at a position and a code. -/
theorem twice_apply (b : Fin 16) (p : Fin 1024) (j : Fin 1024) :
    twice z c (ValueIdx.ix2 (Plain.flat b p) j) = (Ideal.ofBits .f32 0x40000000#32 * Plain.inner z c b p j : EReal) := by
  unfold twice
  refine congrArg₂ (fun x y : EReal => x * y) rfl ?_
  refine (Idealize.ShloMosaic.StackMember.dotGeneral_plain_apply (m := 16384) (n := 1024) (k := 64) none (rows z) (transpose S64x1024 [1, 0] c transposes_S1024x64_S64x1024_1_0) (Plain.flat b p) j).trans ?_
  unfold Plain.inner
  refine Finset.sum_congr rfl fun k _ => ?_
  refine (mul_comm _ _).trans (congrArg₂ (fun x y : EReal => x * y) ?_ (rows_apply z b p k))
  exact transpose_apply _ _ _ _ _ fun a => by fin_cases a <;> rfl

/-- The distance's last three operations, read at an index. -/
theorem sqrt_max_sub (x y : FVec Ideal S16384x1024 .f32) (i : S16384x1024.Idx) :
    Host.sqrt (maximumf (broadcastInDim S16384x1024 ![] bcast_S_S16384x1024 (constant (F := Ideal) S_ .f32 0x00000000#32)) (subf x y)) i
      = Ideal.sqrt (max 0 (x i - y i : EReal)) :=
  congrArg (fun e : EReal => Ideal.sqrt (max e (x i - y i : EReal))) Ideal.ofBits_zero_f32

/-- The reference's distance of a position and a code. -/
theorem dists_apply (b : Fin 16) (p : Fin 1024) (j : Fin 1024) : dists z c (ValueIdx.ix2 (Plain.flat b p) j) = Plain.far z c b p j := by
  unfold dists Plain.far Plain.gap
  refine (sqrt_max_sub _ _ _).trans ?_
  rw [norms_apply, twice_apply]

/-- The word of +∞ reads as the greatest extended real. -/
theorem ofBits_inf : Ideal.ofBits .f32 0x7F800000#32 = ⊤ := by
  simp [Ideal.ofBits, Ideal.ieee]

/-- A row's entries, each with its column's number. -/
theorem mem_fiber (x : FVec Ideal S16384x1024 .f32) (n : Fin 16384) (q : EReal × BitVec 32) :
    q ∈ Host.argReduceFiber (α := EReal) x (iotaInDim S16384x1024 32 1) reducesTo_S16384x1024_S16384_d1 (ValueIdx.ix1 n)
      ↔ ∃ i : Fin 1024, q = (x (ValueIdx.ix2 n i), BitVec.ofNat 32 i.val) := by
  exact Plain.mem_rowPairs x _ _ (by decide) n q

/-- The first smallest entry of a row. -/
theorem reduce_apply (x : FVec Ideal S16384x1024 .f32) (n : Fin 16384) (f : Fin 1024 → EReal) (hx : ∀ i, x (ValueIdx.ix2 n i) = f i) :
    (Host.argReduce (reducer_argmin_f32_i32 (F := Ideal)) x (iotaInDim S16384x1024 32 1) (constant S_ .f32 0x7F800000#32) (constantI S_ 32 0#32)
      reducesTo_S16384x1024_S16384_d1 h_S_ (ValueIdx.ix1 n)).2 = BitVec.ofNat 32 (first f).val := by
  have hm := mem_fiber x n
  generalize iotaInDim S16384x1024 32 1 = io at hm ⊢
  have e : ((constant (F := Ideal) S_ .f32 0x7F800000#32) (Shape.Idx.first h_S_) : EReal) = ⊤ := ofBits_inf
  have e' : (constantI S_ 32 0#32) (Shape.Idx.first h_S_) = 0#32 := rfl
  generalize (constant (F := Ideal) S_ .f32 0x7F800000#32) = u at e ⊢
  generalize (constantI S_ 32 0#32) = v at e' ⊢
  refine (congrArg Prod.snd (congrFun (Ideal.argReduce_eq_reduce2 _ x io u v _ _) _)).trans ?_
  refine (congrArg Prod.snd (Host.reduce2_eq_foldl_fiber _ x io u v _ _ _)).trans ?_
  rw [e, e']
  generalize Host.argReduceFiber (α := EReal) x io reducesTo_S16384x1024_S16384_d1 (ValueIdx.ix1 n) = L at hm ⊢
  refine foldl_first f _ (first_spec f) L (fun q hq => ?_) (fun i => ?_)
  · obtain ⟨i, rfl⟩ := (hm q).1 hq
    exact ⟨i, congrArg (fun u : EReal => (u, BitVec.ofNat 32 i.val)) (hx i)⟩
  · exact (hm _).2 ⟨i, congrArg (fun u : EReal => (u, BitVec.ofNat 32 i.val)) (hx i).symm⟩

/-- The reference's argmin is the fold of pairs of a value and an index. -/
theorem argmin_eq (x : FVec Ideal S16384x1024 .f32) : argmin x = fun j =>
    (Host.argReduce (reducer_argmin_f32_i32 (F := Ideal)) x (iotaInDim S16384x1024 32 1) (constant S_ .f32 0x7F800000#32) (constantI S_ 32 0#32)
      reducesTo_S16384x1024_S16384_d1 h_S_ j).2 := rfl

/-- The reference's argmin of a row is the first index at its least value. -/
theorem argmin_apply (x : FVec Ideal S16384x1024 .f32) (n : Fin 16384) (f : Fin 1024 → EReal) (hx : ∀ i, x (ValueIdx.ix2 n i) = f i) :
    argmin x (ValueIdx.ix1 n) = BitVec.ofNat 32 (first f).val :=
  (congrFun (argmin_eq x) (ValueIdx.ix1 n)).trans (reduce_apply x n f hx)

/-- The first nearest code. -/
theorem idx_apply (b : Fin 16) (p : Fin 1024) : idx z c (ValueIdx.ix1 (Plain.flat b p)) = BitVec.ofNat 32 (Plain.nearest z c b p).val := by
  unfold idx Plain.nearest
  generalize hx : dists z c = x
  exact argmin_apply x (Plain.flat b p) (Plain.far z c b p) fun i => by rw [← hx, dists_apply]

/-- The reference's index names a row of the table. -/
theorem idx_lt (i : S16384.Idx) : (idx z c i).toNat < 1024 := by
  obtain ⟨n, rfl⟩ : ∃ n : Fin 16384, i = ValueIdx.ix1 n := ⟨_, ValueIdx.eq_ix1 i⟩
  obtain ⟨b, p, rfl⟩ := Plain.exists_flat n
  rw [idx_apply]
  exact lt_of_eq_of_lt (BitVec.toNat_ofNat _ _) (lt_of_le_of_lt (Nat.mod_le _ _) (Fin.isLt _))

/-- A row taken from the table by its number. -/
theorem take_row (w : IVec S16384 32) (hw : ∀ i, (w i).toNat < 1024) (n : Fin 16384) (j : Fin 1024) (k : Fin 64) (h : (w (ValueIdx.ix1 n)).toNat = j.val) :
    Take.take c w (ValueIdx.ix2 n k) = c (ValueIdx.ix2 j k) :=
  (Take.take_apply c w hw n k).trans (congrArg (fun j : Fin 1024 => c (ValueIdx.ix2 j k)) (Fin.ext h))

/-- The rows back in batches. -/
theorem batches_apply (x : FVec Ideal S16384x64 .f32) (b : Fin 16) (p : Fin 1024) (k : Fin 64) :
    shapeCast S16x1024x64 x shapeCasts_S16384x64_S16x1024x64 (ValueIdx.ix3 b p k) = x (ValueIdx.ix2 (Plain.flat b p) k) :=
  shapeCast_apply _ _ _ _ (by rw [Shape.rowMajor_val_three, Shape.rowMajor_val_two]; rfl)

/-- The reference's index is that of the nearest code. -/
theorem idx_toNat (b : Fin 16) (p : Fin 1024) : (idx z c (ValueIdx.ix1 (Plain.flat b p))).toNat = (Plain.nearest z c b p).val := by
  rw [idx_apply, BitVec.toNat_ofNat]
  exact Nat.mod_eq_of_lt (lt_trans (Fin.isLt _) (by decide))

/-- The nearest code's row. -/
theorem near_apply (b : Fin 16) (p : Fin 1024) (k : Fin 64) : near z c (ValueIdx.ix3 b p k) = c (ValueIdx.ix2 (Plain.nearest z c b p) k) := by
  have h := idx_toNat z c b p
  have hw := idx_lt z c
  unfold near
  generalize idx z c = w at h hw ⊢
  exact (batches_apply _ b p k).trans (take_row c w hw _ _ k h)

end Cert.Proof.Reference

end
-- ==== Proof.Real.lean ====
/-
  Vector quantization of real inputs: the squared distance is a sum of squares, the loss two equal means.
-/
module

public import proofs.«01_k».proof.Proof.Plain

@[expose] public section

noncomputable section

namespace Cert.Proof.Plain

open Idealize.ShloMosaic Cert.Proof.First

/-- The word of the literal 2 reads as 2. -/
theorem ofBits_two : Ideal.ofBits .f32 0x40000000#32 = ((2 : ℝ) : EReal) := by
  simp [Ideal.ofBits, Ideal.ieee, -EReal.coe_mul]; norm_num
/-- The word of the literal 0.25 reads as 1/4. -/
theorem ofBits_quarter : Ideal.ofBits .f32 0x3E800000#32 = ((1 / 4 : ℝ) : EReal) := by
  simp [Ideal.ofBits, Ideal.ieee, -EReal.coe_mul]; norm_num
/-- The word of the element count reads as 2 to the 20th. -/
theorem ofBits_count : Ideal.ofBits .f32 0x49800000#32 = ((1048576 : ℝ) : EReal) := by
  simp [Ideal.ofBits, Ideal.ieee, -EReal.coe_mul]; norm_num
/-- The word of the kernel's scale reads as 5/4 divided by the element count. -/
theorem ofBits_scale : Ideal.ofBits .f32 0x35A00000#32 = ((5 / 4 / 1048576 : ℝ) : EReal) := by
  simp [Ideal.ofBits, Ideal.ieee, -EReal.coe_mul]; norm_num

/-- A root times itself. -/
theorem sqrt_mul_self (x : ℝ) (hx : 0 ≤ x) : Ideal.sqrt (x : EReal) * Ideal.sqrt (x : EReal) = (x : EReal) := by
  have e : Ideal.sqrt (x : EReal) = (Real.sqrt x : EReal) := if_neg (not_lt.2 hx)
  rw [e, ← EReal.coe_mul, Real.mul_self_sqrt hx]

/-- A finite sum of reals among the extended reals. -/
theorem coe_sum {ι : Type} (s : Finset ι) (f : ι → ℝ) : ((∑ i ∈ s, f i : ℝ) : EReal) = ∑ i ∈ s, (f i : EReal) := by
  induction s using Finset.cons_induction with
  | empty => simp
  | cons a s h ih => rw [Finset.sum_cons, Finset.sum_cons, EReal.coe_add, ih]

variable (x : SZ.Idx → ℝ) (y : SC.Idx → ℝ)

/-- The squared distance of real rows. -/
def sq (b : Fin 16) (p : Fin 1024) (j : Fin 1024) : ℝ := ∑ k : Fin 64, (y (ValueIdx.ix2 j k) - x (ValueIdx.ix3 b p k)) * (y (ValueIdx.ix2 j k) - x (ValueIdx.ix3 b p k))

/-- The squared distance is not negative. -/
theorem sq_nonneg (b : Fin 16) (p : Fin 1024) (j : Fin 1024) : 0 ≤ sq x y b p j := Finset.sum_nonneg fun _ _ => mul_self_nonneg _

/-- On reals the sum of squared differences is the real one. -/
theorem gap_real (b : Fin 16) (p : Fin 1024) (j : Fin 1024) : gap (fun i => (x i : EReal)) (fun i => (y i : EReal)) b p j = (sq x y b p j : EReal) := by
  unfold gap zNorm cNorm inner
  rw [ofBits_two]
  simp only [← EReal.coe_mul, ← coe_sum, ← EReal.coe_add, ← EReal.coe_sub]
  have e : (∑ k : Fin 64, x (ValueIdx.ix3 b p k) * x (ValueIdx.ix3 b p k) + ∑ k : Fin 64, y (ValueIdx.ix2 j k) * y (ValueIdx.ix2 j k))
      - 2 * ∑ k : Fin 64, y (ValueIdx.ix2 j k) * x (ValueIdx.ix3 b p k) = sq x y b p j := by
    unfold sq
    rw [Finset.mul_sum, ← Finset.sum_add_distrib, ← Finset.sum_sub_distrib]
    exact Finset.sum_congr rfl fun k _ => by ring
  rw [e]
  exact max_eq_right (EReal.coe_nonneg.2 (sq_nonneg x y b p j))

/-- On reals the distance times itself is the sum of squared differences. -/
theorem far_real (b : Fin 16) (p : Fin 1024) (j : Fin 1024) :
    far (fun i => (x i : EReal)) (fun i => (y i : EReal)) b p j * far (fun i => (x i : EReal)) (fun i => (y i : EReal)) b p j = (sq x y b p j : EReal) := by
  unfold far
  rw [gap_real]
  exact sqrt_mul_self _ (sq_nonneg x y b p j)

end Cert.Proof.Plain

end
-- ==== Proof.RefLoss.lean ====
/-
  The reference's results for real inputs: the nearest codes' rows and five quarters of the mean squared distance.
-/
module

public import proofs.«01_k».proof.Proof.RefValue
public import proofs.«01_k».proof.Proof.Real
public import Idealize.ShloMosaic.Lib.Pointwise.Index

@[expose] public section

noncomputable section

namespace Cert.Proof.Reference

open Cert.ReferenceIdeal Cert.ReferenceIdeal.Gen Cert.Proof.First
open Idealize.ShloMosaic Idealize.ShloMosaic.TcCoe

variable (x : S16x1024x64.Idx → ℝ) (y : S1024x64.Idx → ℝ)

/-- Real inputs among the extended reals. -/
abbrev zOf : FVec Ideal S16x1024x64 .f32 := fun i => (x i : EReal)
/-- Real codes among the extended reals. -/
abbrev cOf : FVec Ideal S1024x64 .f32 := fun i => (y i : EReal)

/-- The least squared distances, summed over all rows. -/
def total : ℝ := ∑ b : Fin 16, ∑ p : Fin 1024, Plain.sq x y b p (Plain.nearest (zOf x) (cOf y) b p)

/-- The sum of all squared differences. -/
theorem sum_sq : (∑ i : S16x1024x64.Idx, ((near (zOf x) (cOf y) i - zOf x i) * (near (zOf x) (cOf y) i - zOf x i) : EReal)) = (total x y : EReal) := by
  have e : ∀ i : S16x1024x64.Idx, ((near (zOf x) (cOf y) i - zOf x i) * (near (zOf x) (cOf y) i - zOf x i) : EReal)
      = (((y (ValueIdx.ix2 (Plain.nearest (zOf x) (cOf y) (i 0) (i 1)) (i 2 : Fin 64)) - x i) * (y (ValueIdx.ix2 (Plain.nearest (zOf x) (cOf y) (i 0) (i 1)) (i 2 : Fin 64)) - x i) : ℝ) : EReal) := by
    intro i
    obtain ⟨b, p, k, rfl⟩ : ∃ (b : Fin 16) (p : Fin 1024) (k : Fin 64), i = ValueIdx.ix3 b p k := ⟨_, _, _, ValueIdx.eq_ix3 i⟩
    rw [near_apply]
    show ((y (ValueIdx.ix2 (Plain.nearest (zOf x) (cOf y) b p) k) : EReal) - (x (ValueIdx.ix3 b p k) : EReal)) * ((y (ValueIdx.ix2 (Plain.nearest (zOf x) (cOf y) b p) k) : EReal) - (x (ValueIdx.ix3 b p k) : EReal)) = _
    rw [← EReal.coe_sub, ← EReal.coe_mul]
  rw [Finset.sum_congr rfl fun i _ => e i, ← Plain.coe_sum, sum_idx3]
  rfl

/-- A number summed over every index, over the count. -/
theorem mean_total (w : FVec Ideal S16x1024x64 .f32) (i : S_.Idx) (r : ℝ) (h : (∑ j : S16x1024x64.Idx, (w j : EReal)) = (r : EReal)) :
    Host.divf (Host.reduceAdd w (constant (F := Ideal) S_ .f32 0x00000000#32) reducesTo_S16x1024x64_S_d0_1_2 h_S_) (constant (F := Ideal) S_ .f32 0x49800000#32) i
      = ((r * (1 / 1048576) : ℝ) : EReal) := by
  refine Eq.trans (b := Ideal.div (Host.reduceAdd w (constant (F := Ideal) S_ .f32 0x00000000#32) reducesTo_S16x1024x64_S_d0_1_2 h_S_ i) (Ideal.ofBits .f32 0x49800000#32)) rfl ?_
  have e1 : Host.reduceAdd w (constant (F := Ideal) S_ .f32 0x00000000#32) reducesTo_S16x1024x64_S_d0_1_2 h_S_ i = (r : EReal) := by
    refine (Ideal.hostReduceAdd_total _ (fun b => b.elim0) w _ i).trans ?_
    rw [h]
    exact (congrArg (fun e : EReal => e + (r : EReal)) Ideal.ofBits_zero_f32).trans (zero_add _)
  refine (congrArg₂ Ideal.div e1 Plain.ofBits_count).trans ?_
  rw [Ideal.div_coe (by norm_num), ← EReal.coe_mul]

/-- The loss. -/
theorem loss_apply (i : S_.Idx) : loss (zOf x) (cOf y) i = ((total x y * (5 / 4 / 1048576) : ℝ) : EReal) := by
  have hm : mean (zOf x) (cOf y) i = ((total x y * (1 / 1048576) : ℝ) : EReal) := mean_total _ i _ (sum_sq x y)
  unfold loss
  refine (congrArg₂ (fun a b : EReal => a + b) hm (congrArg₂ (fun a b : EReal => a * b) Plain.ofBits_quarter hm)).trans ?_
  rw [← EReal.coe_mul, ← EReal.coe_add]
  exact congrArg _ (by ring)

/-- The quantized inputs. -/
theorem out_apply (b : Fin 16) (p : Fin 1024) (k : Fin 64) :
    out (zOf x) (cOf y) (ValueIdx.ix3 b p k) = cOf y (ValueIdx.ix2 (Plain.nearest (zOf x) (cOf y) b p) k) := by
  have h : near (zOf x) (cOf y) (ValueIdx.ix3 b p k) = (y (ValueIdx.ix2 (Plain.nearest (zOf x) (cOf y) b p) k) : EReal) := near_apply _ _ b p k
  unfold out
  refine (congrArg (fun a : EReal => (x (ValueIdx.ix3 b p k) : EReal) + (a - (x (ValueIdx.ix3 b p k) : EReal))) h).trans ?_
  rw [← EReal.coe_sub, ← EReal.coe_add]
  exact congrArg _ (by ring)

end Cert.Proof.Reference

end
-- ==== Proof.Whole.Equal.lean ====
/-
  The whole kernel against the reference, over the extended reals.
-/
module

public import proofs.«01_k».proof.Proof.Whole.Frame
public import proofs.«01_k».proof.Proof.RefLoss
public import proofs.«01_k».proof.Proof.Gen.Pre_finite
public import proofs.«01_k».proof.Defs
public import Idealize.ShloMosaic.Lib.ReduceAll
public import Idealize.ShloMosaic.Lib.StableHlo.RunHlo

@[expose] public section

set_option maxRecDepth 16384

noncomputable section

namespace Cert.Proof.Whole

open Cert.KernelIdeal Cert.KernelIdeal.Gen
open Idealize.ShloMosaic Idealize.ShloMosaic.TcCoe

variable (m : (ℓ : Loc nD τ sig) → Buf (Elt Ideal) ℓ) (d : Dev nD)

/-- The kernel's nearest codes are the reference's. -/
theorem idx_eq : V3 m d (Proc.devRef .tc main_v13) = Reference.idx (zIn m d) (cIn m d) := by
  rw [V3_idx, idxArr_eq]
  funext i
  obtain ⟨n, rfl⟩ : ∃ n : Fin 16384, i = ValueIdx.ix1 n := ⟨_, ValueIdx.eq_ix1 i⟩
  obtain ⟨b, p, rfl⟩ := Plain.exists_flat n
  refine Eq.trans ?_ (Reference.idx_apply (zIn m d) (cIn m d) b p).symm
  refine (shapeCast_apply _ _ _ (ValueIdx.ix3 b (0 : Fin 1) p) ?_).trans rfl
  rw [Shape.rowMajor_val_three, Shape.rowMajor_val_one]
  show (b.val * 1 + 0) * 1024 + p.val = b.val * 1024 + p.val
  omega

/-- The indices that the SparseCore call reads. -/
theorem I1_apply (b : Fin 16) (p : Fin 1024) : I1 m d (ValueIdx.ix2 (0 : Fin 1) (Plain.flat b p)) = BitVec.ofNat 32 (Plain.nearest (zIn m d) (cIn m d) b p).val := by
  rw [V1_i, idxArr_eq]
  refine (shapeCast_apply _ _ _ (ValueIdx.ix3 b (0 : Fin 1) p) ?_).trans rfl
  rw [Shape.rowMajor_val_three, Shape.rowMajor_val_two]
  show (b.val * 1 + 0) * 1024 + p.val = 0 * 16384 + (b.val * 1024 + p.val)
  omega

/-- The padded table is the codes in its first 64 columns. -/
theorem T1_apply (j : Fin 1024) (k : Fin 64) : T1 m d (ValueIdx.ix2 j (k.castLE (by omega) : Fin 128)) = cIn m d (ValueIdx.ix2 j k) := by
  rw [V1_x]
  unfold pad
  rw [dif_pos (by intro a; fin_cases a <;> simp <;> omega)]
  congr 1
  funext a
  fin_cases a <;> simp

/-- The kernel's rows: of every row's nearest code. -/
theorem rows_apply (b : Fin 16) (p : Fin 1024) (k : Fin 64) :
    V3 m d (Proc.devRef .tc main_v15) (ValueIdx.ix3 b p k) = cIn m d (ValueIdx.ix2 (Plain.nearest (zIn m d) (cIn m d) b p) k) := by
  rw [V3_rows]
  refine (shapeCast_apply _ _ _ (ValueIdx.ix2 (Plain.flat b p) k) ?_).trans ?_
  · rw [Shape.rowMajor_val_three, Shape.rowMajor_val_two]; rfl
  refine (extractStridedSlice_apply _ _ _ _ (ValueIdx.ix2 (Plain.flat b p) (k.castLE (by omega) : Fin 128)) (by intro a; fin_cases a <;> simp)).trans ?_
  show T1 m d (ValueIdx.ix2 (rowOf (I1 m d (ValueIdx.ix2 0 (Plain.flat b p)))) (k.castLE (by omega) : Fin 128)) = _
  rw [I1_apply, T1_apply]
  refine congrArg (fun j : Fin 1024 => cIn m d (ValueIdx.ix2 j k)) (Fin.ext ?_)
  show (BitVec.ofNat 32 (Plain.nearest (zIn m d) (cIn m d) b p).val).toNat % 1024 = _
  rw [BitVec.toNat_ofNat, Nat.mod_eq_of_lt (lt_trans (Fin.isLt _) (by decide)), Nat.mod_eq_of_lt (Fin.isLt _)]

section Finite

variable (x : S16x1024x64.Idx → ℝ) (y : S1024x64.Idx → ℝ)

/-- For real inputs the kernel's rows are the reference's. -/
theorem rows_eq (hz : zIn m d = Reference.zOf x) (hc : cIn m d = Reference.cOf y) :
    V3 m d (Proc.devRef .tc main_v15) = Reference.out (zIn m d) (cIn m d) := by
  funext i
  obtain ⟨b, p, k, rfl⟩ : ∃ (b : Fin 16) (p : Fin 1024) (k : Fin 64), i = ValueIdx.ix3 b p k := ⟨_, _, _, ValueIdx.eq_ix3 i⟩
  rw [rows_apply, hz, hc]
  exact (Reference.out_apply x y b p k).symm

/-- For real inputs the kernel's loss is the reference's. -/
theorem loss_eq (hz : zIn m d = Reference.zOf x) (hc : cIn m d = Reference.cOf y) :
    V3 m d (Proc.devRef .tc main_v16) = Reference.loss (zIn m d) (cIn m d) := by
  rw [V3_loss, lossArr_eq, hz, hc]
  funext i
  refine Eq.trans ?_ (Reference.loss_apply x y i).symm
  unfold shapeCast scale Reference.total
  rw [Plain.ofBits_scale, EReal.coe_mul]
  refine congrArg (fun a : EReal => a * ((5 / 4 / 1048576 : ℝ) : EReal)) ?_
  rw [Plain.coe_sum]
  refine Finset.sum_congr rfl fun b _ => ?_
  rw [Plain.coe_sum]
  exact Finset.sum_congr rfl fun p _ => Plain.far_real x y b p _

end Finite

/-- A number whose absolute value is below infinity is real. -/
theorem real_of_lt (v : EReal) (h : Ideal.cmp .olt (max v (-v)) ⊤ = 1#1) : ∃ r : ℝ, v = (r : EReal) := by
  have h' : max v (-v) < ⊤ := by
    by_contra hn
    simp [Ideal.cmp, hn] at h
  induction v using EReal.rec with
  | bot => simp at h'
  | top => simp at h'
  | coe r => exact ⟨r, rfl⟩

/-- A test that every entry of an array is below infinity makes the entries real. -/
theorem real_entries {s : Shape} {axes : List (Fin s.rank)} (hr : s.ReducesTo axes Cert.Pre_finite.S_) (hu : 0 < Cert.Pre_finite.S_.numel) (hb : Cert.Pre_finite.S_.BroadcastsInDim s ![]) (z : FVec Ideal s .f32) (j : Cert.Pre_finite.S_.Idx)
    (h : Host.reduce IntOp.andi (cmpf .olt (Host.absf z) (broadcastInDim s ![] hb (constant (F := Ideal) Cert.Pre_finite.S_ .f32 0x7F800000#32))) (constantI Cert.Pre_finite.S_ 1 1#1) hr hu j = 1#1) :
    ∃ x : s.Idx → ℝ, z = fun i => (x i : EReal) := by
  haveI : Subsingleton Cert.Pre_finite.S_.Idx := ⟨fun a b => funext fun k => k.elim0⟩
  have hz : ∀ i, ∃ r : ℝ, z i = (r : EReal) := fun i => real_of_lt _ (by
    have e := Host.reduce_andi_all _ _ _ _ _ h i
    rw [← Reference.ofBits_inf]
    exact e)
  choose x hx using hz
  exact ⟨x, funext hx⟩

/-- The precondition of the two float arguments. -/
theorem real_of_finite (z : FVec Ideal S16x1024x64 .f32) (c : FVec Ideal S1024x64 .f32)
    (h : (Cert.Pre_finite.fn (F := Ideal) z c).1 = (fun _ => 1#1) ∧ (Cert.Pre_finite.fn (F := Ideal) z c).2 = (fun _ => 1#1)) :
    (∃ x : S16x1024x64.Idx → ℝ, z = Reference.zOf x) ∧ ∃ y : S1024x64.Idx → ℝ, c = Reference.cOf y := by
  unfold Cert.Pre_finite.fn at h
  dsimp only at h
  exact ⟨real_entries _ _ _ z (fun a => a.elim0) (congrFun h.1 (fun a => a.elim0)),
    real_entries _ _ _ c (fun a => a.elim0) (congrFun h.2 (fun a => a.elim0))⟩

/-- The whole kernel runs over the extended reals, keeps its arguments and leaves every counter at zero. -/
theorem frame : Cert.quiescent_KernelIdeal := fun m ρ _ =>
  (θ_run defs _ _).mono (fun _ h => ⟨fun c => (h.1 c).2.2.2, h.2⟩) (run_values m ρ)

/-- The same for finite arguments. -/
theorem frame_finite : Cert.quiescent_KernelIdeal_pre_finite := fun m ρ _ =>
  (θ_run defs _ _).mono (fun _ h => ⟨fun c => (h.1 c).2.2.2, h.2⟩) (run_values m ρ)

/-- The reference runs, keeps its arguments and leaves every counter at zero. -/
theorem frame_reference : Cert.quiescent_ReferenceIdeal := fun m ρ _ =>
  (θ_run Cert.ReferenceIdeal.defs _ _).mono (fun r h => ⟨fun c => (h c).2.2.2, sem_eq_zero_of_no_sems (by decide) r.2⟩) (Reference.run m ρ)

/-- The same for finite arguments. -/
theorem frame_reference_finite : Cert.quiescent_ReferenceIdeal_pre_finite := fun m ρ _ =>
  (θ_run Cert.ReferenceIdeal.defs _ _).mono (fun r h => ⟨fun c => (h c).2.2.2, sem_eq_zero_of_no_sems (by decide) r.2⟩) (Reference.run m ρ)

/-- For finite arguments the whole kernel computes the reference's three results. -/
theorem algebraic : Cert.algebraic_KernelIdeal_ReferenceIdeal_pre_finite := by
  intro m ρ m' ρ' hpre hagree
  refine ⟨fun c => V3 m c (Proc.devRef .tc main_v15), fun c => V3 m c (Proc.devRef .tc main_v16), fun c => V3 m c (Proc.devRef .tc main_v13),
    (θ_run defs _ _).mono (fun _ h => h.1) (run_values m ρ), ?_⟩
  refine (θ_run Cert.ReferenceIdeal.defs _ _).mono (fun r h c => ?_) (Reference.run m' ρ')
  obtain ⟨⟨x, hx⟩, ⟨y, hy⟩⟩ := real_of_finite _ _ (hpre c)
  obtain ⟨h0, h1, h2, h3, h4⟩ := h c
  rw [(hagree c).1, (hagree c).2] at h0 h1 h2
  exact ⟨h0.trans (rows_eq m c x y hx hy).symm, h1.trans (loss_eq m c x y hx hy).symm, h2.trans (idx_eq m c).symm, h3, h4⟩

end Cert.Proof.Whole

end
-- ==== Proof.lean ====
module

public import proofs.«01_k».proof.Defs
public import proofs.«01_k».proof.Proof.Claims
public import proofs.«01_k».proof.Proof.Whole.Equal
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Gather
public import proofs.«01_k».proof.Proof.Gen.Gather.Skeleton
public import proofs.«01_k».proof.Proof.Gen.GatherIdeal
public import proofs.«01_k».proof.Proof.Gen.GatherIdeal.Skeleton
public import proofs.«01_k».proof.Proof.Gen.GatherReference
public import proofs.«01_k».proof.Proof.Gen.Nearest
public import proofs.«01_k».proof.Proof.Gen.Nearest.Skeleton
public import proofs.«01_k».proof.Proof.Gen.Nearest.Launch
public import proofs.«01_k».proof.Proof.Gen.Nearest.Points
public import proofs.«01_k».proof.Proof.Gen.Nearest.Frame
public import proofs.«01_k».proof.Proof.Gen.NearestIdeal
public import proofs.«01_k».proof.Proof.Gen.NearestIdeal.Skeleton
public import proofs.«01_k».proof.Proof.Gen.NearestIdeal.Launch
public import proofs.«01_k».proof.Proof.Gen.NearestIdeal.Points
public import proofs.«01_k».proof.Proof.Gen.NearestIdeal.Frame
public import proofs.«01_k».proof.Proof.Gen.Pre_finite
public import proofs.«01_k».proof.Proof.Gen.Pre_rows
public import Idealize.ShloMosaic.Adequacy
public import Idealize.ShloMosaic.Init

@[expose] public section

noncomputable section

namespace Cert.Proof

open Idealize.ShloMosaic Idealize.SL.Sem

/-- The TensorCore call alone runs, keeps its arguments and leaves every counter at zero. -/
theorem frame_nearest : Cert.quiescent_Nearest := fun m ρ _ => Cert.Nearest.Gen.frame m ρ

/-- The same over the ideal values. -/
theorem frame_nearest_ideal : Cert.quiescent_NearestIdeal := fun m ρ _ => Cert.NearestIdeal.Gen.frame m ρ

/-- Everything claimed. -/
theorem claim : Cert.Claim :=
  ⟨Cert.KernelIdeal.Gen.facts, Cert.ReferenceIdeal.Gen.facts, Cert.Gather.Gen.facts, Cert.GatherIdeal.Gen.facts,
    Cert.GatherReference.Gen.facts, Cert.Nearest.Gen.facts, Cert.NearestIdeal.Gen.facts, Cert.Pre_finite.Gen.facts,
    Cert.Pre_rows.Gen.facts,
    Whole.frame, Whole.frame_finite, Whole.frame_reference, Whole.frame_reference_finite,
    GatherClaims.frame_gather, GatherClaims.frame_gather_ideal, GatherClaims.frame_reference, frame_nearest,
    frame_nearest_ideal, Whole.algebraic, trivial, GatherClaims.bitexact, trivial⟩

end Cert.Proof

end
